-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_gates [hPre_real_gates : Cert.Pre_real_gates.Facts] (m : (ℓ : Loc Cert.KernelIdeal.nD Cert.KernelIdeal.τ Cert.KernelIdeal.sig) → Buf (Elt Ideal) ℓ) : Prop :=
  ∀ c : Dev Cert.KernelIdeal.nD,
    (Cert.Pre_real_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_real_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_gates [hPre_real_gates : Cert.Pre_real_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_real_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_experts_exist [hPre_experts_exist : Cert.Pre_experts_exist.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_exist.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_exist [hPre_experts_exist : Cert.Pre_experts_exist.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_exist.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_real_gates [hKernelIdeal : Cert.KernelIdeal.Facts] [hPre_real_gates : Cert.Pre_real_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_real_gates [hReferenceIdeal : Cert.ReferenceIdeal.Facts] [hPre_real_gates : Cert.Pre_real_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_experts_exist [hKernel3Ideal : Cert.Kernel3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_experts_exist m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_experts_exist [hReference3Ideal : Cert.Reference3Ideal.Facts] [hPre_experts_exist : Cert.Pre_experts_exist.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_exist m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  True

def algebraic_KernelIdeal_ReferenceIdeal_pre_real_gates [hKernelIdeal : Cert.KernelIdeal.Facts] [hReferenceIdeal : Cert.ReferenceIdeal.Facts] [hPre_real_gates : Cert.Pre_real_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_experts_exist [hKernel3Ideal : Cert.Kernel3Ideal.Facts] [hReference3Ideal : Cert.Reference3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_experts_exist m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_real_gates : Cert.Pre_real_gates.Facts) (hPre_experts_exist : Cert.Pre_experts_exist.Facts),
    quiescent_Kernel (hKernel := hKernel)
    ∧ quiescent_KernelIdeal (hKernelIdeal := hKernelIdeal)
    ∧ quiescent_KernelIdeal_pre_real_gates (hKernelIdeal := hKernelIdeal) (hPre_real_gates := hPre_real_gates)
    ∧ quiescent_ReferenceIdeal (hReferenceIdeal := hReferenceIdeal)
    ∧ quiescent_ReferenceIdeal_pre_real_gates (hReferenceIdeal := hReferenceIdeal) (hPre_real_gates := hPre_real_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_experts_exist (hKernel3Ideal := hKernel3Ideal) (hPre_experts_exist := hPre_experts_exist)
    ∧ quiescent_Reference3Ideal (hReference3Ideal := hReference3Ideal)
    ∧ quiescent_Reference3Ideal_pre_experts_exist (hReference3Ideal := hReference3Ideal) (hPre_experts_exist := hPre_experts_exist)
    ∧ preserves_Kernel_KernelIdeal
    ∧ algebraic_KernelIdeal_ReferenceIdeal_pre_real_gates (hKernelIdeal := hKernelIdeal) (hReferenceIdeal := hReferenceIdeal) (hPre_real_gates := hPre_real_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_experts_exist (hKernel3Ideal := hKernel3Ideal) (hReference3Ideal := hReference3Ideal) (hPre_experts_exist := hPre_experts_exist)
-- ==== Pre_experts_exist.lean ====
abbrev S32 : Shape := ⟨1, ![32]⟩
abbrev S64x8x256 : Shape := ⟨3, ![64, 8, 256]⟩
abbrev S64x2x256 : Shape := ⟨3, ![64, 2, 256]⟩
abbrev S_ : Shape := ⟨0, ![]⟩

class Facts : Prop where
  slices_S64x8x256_S64x2x256_0_0_0 : S64x8x256.Slices ![0, 0, 0] S64x2x256
  bcast_S_S64x2x256 : S_.BroadcastsInDim S64x2x256 (![] : Fin 0 → Fin S64x2x256.rank)

variable [Facts]

def fn {F : FTy → Type} [FloatOps F] (main_arg0 : IVec S32 32) (main_arg1 : IVec S64x8x256 32) : IVec S64x2x256 1 :=
  let main_v0 : IVec S64x2x256 32 := (extractStridedSlice S64x2x256 ![0, 0, 0] · slices_S64x8x256_S64x2x256_0_0_0) main_arg1
  let main_c : IVec S_ 32 := constantI S_ 32 0#32
  let main_v1 : IVec S64x2x256 32 := broadcastInDim S64x2x256 ![] bcast_S_S64x2x256 main_c
  let main_v2 : IVec S64x2x256 1 := cmpi .sge main_v0 main_v1
  let main_v3 : IVec S64x2x256 32 := (extractStridedSlice S64x2x256 ![0, 0, 0] · slices_S64x8x256_S64x2x256_0_0_0) main_arg1
  let main_c_0 : IVec S_ 32 := constantI S_ 32 32#32
  let main_v4 : IVec S64x2x256 32 := broadcastInDim S64x2x256 ![] bcast_S_S64x2x256 main_c_0
  let main_v5 : IVec S64x2x256 1 := cmpi .slt main_v3 main_v4
  let main_v6 : IVec S64x2x256 1 := andi main_v2 main_v5
  main_v6
-- ==== Pre_real_gates.lean ====
abbrev S8x2048x9728 : Shape := ⟨3, ![8, 2048, 9728]⟩
abbrev S1x1024 : Shape := ⟨2, ![1, 1024]⟩
abbrev S1x128 : Shape := ⟨2, ![1, 128]⟩
abbrev S8x2048x1024 : Shape := ⟨3, ![8, 2048, 1024]⟩
abbrev S_ : Shape := ⟨0, ![]⟩

class Facts : Prop where
  slices_S8x2048x9728_S8x2048x1024_0_0_6144 : S8x2048x9728.Slices ![0, 0, 6144] S8x2048x1024
  bcast_S_S8x2048x1024 : S_.BroadcastsInDim S8x2048x1024 (![] : Fin 0 → Fin S8x2048x1024.rank)
  bcast_S_S1x1024 : S_.BroadcastsInDim S1x1024 (![] : Fin 0 → Fin S1x1024.rank)

variable [Facts]

def fn {F : FTy → Type} [FloatOps F] (main_arg0 : FVec F S8x2048x9728 .bf16) (main_arg1 : FVec F S1x1024 .f32) (main_arg2 : FVec F S1x128 .f32) : IVec S8x2048x1024 1 × IVec S1x1024 1 :=
  let main_v0 : FVec F S8x2048x1024 .bf16 := (extractStridedSlice S8x2048x1024 ![0, 0, 6144] · slices_S8x2048x9728_S8x2048x1024_0_0_6144) main_arg0
  let main_v1 : FVec F S8x2048x1024 .bf16 := Host.absf main_v0
  let main_cst : FVec F S_ .bf16 := constant S_ .bf16 0x7F80#16
  let main_v2 : FVec F S8x2048x1024 .bf16 := broadcastInDim S8x2048x1024 ![] bcast_S_S8x2048x1024 main_cst
  let main_v3 : IVec S8x2048x1024 1 := cmpf .olt main_v1 main_v2
  let main_cst_0 : FVec F S_ .f32 := constant S_ .f32 0x00000000#32
  let main_v4 : FVec F S1x1024 .f32 := broadcastInDim S1x1024 ![] bcast_S_S1x1024 main_cst_0
  let main_v5 : IVec S1x1024 1 := cmpf .oge main_arg1 main_v4
  let main_cst_1 : FVec F S_ .f32 := constant S_ .f32 0x3F800000#32
  let main_v6 : FVec F S1x1024 .f32 := broadcastInDim S1x1024 ![] bcast_S_S1x1024 main_cst_1
  let main_v7 : IVec S1x1024 1 := cmpf .ole main_arg1 main_v6
  let main_v8 : IVec S1x1024 1 := andi main_v5 main_v7
  (main_v3, main_v8)
-- ==== Kernel.lean ====
abbrev S8x2048x9728 : Shape := ⟨3, ![8, 2048, 9728]⟩
abbrev S1x1024 : Shape := ⟨2, ![1, 1024]⟩
abbrev S1x128 : Shape := ⟨2, ![1, 128]⟩
abbrev S8x2048x1024 : Shape := ⟨3, ![8, 2048, 1024]⟩
abbrev S1x256x1024 : Shape := ⟨3, ![1, 256, 1024]⟩
abbrev S8x128x128 : Shape := ⟨3, ![8, 128, 128]⟩
abbrev S256x2048 : Shape := ⟨2, ![256, 2048]⟩
abbrev S256x1024 : Shape := ⟨2, ![256, 1024]⟩
abbrev S8x1024 : Shape := ⟨2, ![8, 1024]⟩
abbrev S4x8x128x128 : Shape := ⟨4, ![4, 8, 128, 128]⟩
abbrev S32x64x64 : Shape := ⟨3, ![32, 64, 64]⟩
abbrev S64x64 : Shape := ⟨2, ![64, 64]⟩
abbrev S64x2048 : Shape := ⟨2, ![64, 2048]⟩
abbrev S64x1024 : Shape := ⟨2, ![64, 1024]⟩
abbrev S1x64x1024 : Shape := ⟨3, ![1, 64, 1024]⟩
abbrev S64x128 : Shape := ⟨2, ![64, 128]⟩
abbrev S1x64x64 : Shape := ⟨3, ![1, 64, 64]⟩
abbrev S1x64x128 : Shape := ⟨3, ![1, 64, 128]⟩
abbrev S128x128 : Shape := ⟨2, ![128, 128]⟩
abbrev S1x1x128x128 : Shape := ⟨4, ![1, 1, 128, 128]⟩
abbrev S1x128x128 : Shape := ⟨3, ![1, 128, 128]⟩
abbrev S64 : Shape := ⟨1, ![64]⟩
abbrev S64x1 : Shape := ⟨2, ![64, 1]⟩

abbrev nBuf : Space → Nat
  | .hbm => 4
  | .vmem => 24
  | .smem => 0
  | _ => 0

abbrev bufTy : (tb : Table) → Fin (tcTables nBuf tb) → BufTy
  | .hbm, ⟨0, _⟩ => ⟨S8x2048x9728, .bf16⟩
  | .hbm, ⟨1, _⟩ => ⟨S1x1024, .f32⟩
  | .hbm, ⟨2, _⟩ => ⟨S1x128, .f32⟩
  | .hbm, ⟨3, _⟩ => ⟨S8x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024, .f32⟩
  | .local _ .vmem, ⟨9, _⟩ => ⟨S1x128, .f32⟩
  | .local _ .vmem, ⟨10, _⟩ => ⟨S1x256x1024, .bf16⟩
  | .local _ .vmem, ⟨11, _⟩ => ⟨S1x256x1024, .bf16⟩
  | .local _ .vmem, ⟨12, _⟩ => ⟨S8x128x128, .f32⟩
  | .local _ .vmem, ⟨13, _⟩ => ⟨S256x2048, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | .local _ .vmem, ⟨21, _⟩ => ⟨S256x1024, .f32⟩
  | .local _ .vmem, ⟨22, _⟩ => ⟨S4x8x128x128, .f32⟩
  | .local _ .vmem, ⟨23, _⟩ => ⟨S32x64x64, .bf16⟩
  | _, _ => ⟨S8x2048x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x9728 : Shape := ⟨3, ![8, 2048, 9728]⟩
abbrev S1x1024 : Shape := ⟨2, ![1, 1024]⟩
abbrev S1x128 : Shape := ⟨2, ![1, 128]⟩
abbrev S8x1x128 : Shape := ⟨3, ![8, 1, 128]⟩
abbrev S_ : Shape := ⟨0, ![]⟩
abbrev S8x2048x1024 : Shape := ⟨3, ![8, 2048, 1024]⟩
abbrev S8x32x64x8x128 : Shape := ⟨5, ![8, 32, 64, 8, 128]⟩
abbrev S32x8x8x64x128 : Shape := ⟨5, ![32, 8, 8, 64, 128]⟩
abbrev S1x1x8x1x128 : Shape := ⟨5, ![1, 1, 8, 1, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x8x128x128 : Shape := ⟨4, ![8, 8, 128, 128]⟩
abbrev S1x8x8x64x128 : Shape := ⟨5, ![1, 8, 8, 64, 128]⟩
abbrev S8x8x64x128 : Shape := ⟨4, ![8, 8, 64, 128]⟩
abbrev S8x8x64x1x128 : Shape := ⟨5, ![8, 8, 64, 1, 128]⟩
abbrev S8x8x1x64x128 : Shape := ⟨5, ![8, 8, 1, 64, 128]⟩
abbrev S8x8x64x64x128 : Shape := ⟨5, ![8, 8, 64, 64, 128]⟩
abbrev S1x1x64x64x1 : Shape := ⟨5, ![1, 1, 64, 64, 1]⟩
abbrev S8x8x64x64 : Shape := ⟨4, ![8, 8, 64, 64]⟩
abbrev S8x8x1x128 : Shape := ⟨4, ![8, 8, 1, 128]⟩
abbrev S8x8x128 : Shape := ⟨3, ![8, 8, 128]⟩
abbrev S8x8x128x1 : Shape := ⟨4, ![8, 8, 128, 1]⟩
abbrev S8x2048x8x128 : Shape := ⟨4, ![8, 2048, 8, 128]⟩
abbrev S8x2048x8 : Shape := ⟨3, ![8, 2048, 8]⟩
abbrev S8x2048x8x1 : Shape := ⟨4, ![8, 2048, 8, 1]⟩
abbrev S128 : Shape := ⟨1, ![128]⟩
abbrev S1x1x1x128 : Shape := ⟨4, ![1, 1, 1, 128]⟩

abbrev nBuf : Space → Nat
  | .hbm => 177
  | .vmem => 0
  | .smem => 0
  | _ => 0

abbrev hbmTy0_0 (i : Nat) : BufTy := match i % 128 with
  | 0 => ⟨S8x2048x9728, .bf16⟩
  | 1 => ⟨S1x1024, .f32⟩
  | 2 => ⟨S1x128, .f32⟩
  | 3 => ⟨S8x1x128, .f32⟩
  | 4 => ⟨S_, .f32⟩
  | 5 => ⟨S8x1x128, .f32⟩
  | 6 => ⟨S8x1x128, .f32⟩
  | 7 => ⟨S8x2048x1024, .bf16⟩
  | 8 => ⟨S8x32x64x8x128, .bf16⟩
  | 9 => ⟨S32x8x8x64x128, .bf16⟩
  | 10 => ⟨S32x8x8x64x128, .f32⟩
  | 11 => ⟨S32x8x8x64x128, .f32⟩
  | 12 => ⟨S32x8x8x64x128, .f32⟩
  | 13 => ⟨S_, .f32⟩
  | 14 => ⟨S32x8x8x64x128, .f32⟩
  | 15 => ⟨S32x8x8x64x128, .f32⟩
  | 16 => ⟨S_, .f32⟩
  | 17 => ⟨S32x8x8x64x128, .f32⟩
  | 18 => ⟨S32x8x8x64x128, .f32⟩
  | 19 => ⟨S1x1x8x1x128, .f32⟩
  | 20 => ⟨S32x8x8x64x128, .f32⟩
  | 21 => ⟨S32x8x8x64x128, .f32⟩
  | 22 => ⟨S1x1x8x1x128, .f32⟩
  | 23 => ⟨S32x8x8x64x128, .f32⟩
  | 24 => ⟨S32x8x8x64x128, .f32⟩
  | 25 => ⟨S8x2048x1024, .bf16⟩
  | 26 => ⟨S8x32x64x8x128, .bf16⟩
  | 27 => ⟨S32x8x8x64x128, .bf16⟩
  | 28 => ⟨S32x8x8x64x128, .f32⟩
  | 29 => ⟨S32x8x8x64x128, .f32⟩
  | 30 => ⟨S32x8x8x64x128, .f32⟩
  | 31 => ⟨S_, .f32⟩
  | 32 => ⟨S32x8x8x64x128, .f32⟩
  | 33 => ⟨S32x8x8x64x128, .f32⟩
  | 34 => ⟨S_, .f32⟩
  | 35 => ⟨S32x8x8x64x128, .f32⟩
  | 36 => ⟨S32x8x8x64x128, .f32⟩
  | 37 => ⟨S32x8x8x64x128, .f32⟩
  | 38 => ⟨S_, .f32⟩
  | 39 => ⟨S32x8x8x64x128, .f32⟩
  | 40 => ⟨S32x8x8x64x128, .f32⟩
  | 41 => ⟨S_, .f32⟩
  | 42 => ⟨S32x8x8x64x128, .f32⟩
  | 43 => ⟨S32x8x8x64x128, .f32⟩
  | 44 => ⟨S8x2048x1024, .bf16⟩
  | 45 => ⟨S8x32x64x8x128, .bf16⟩
  | 46 => ⟨S32x8x8x64x128, .bf16⟩
  | 47 => ⟨S32x8x8x64x128, .f32⟩
  | 48 => ⟨S32x8x8x64x128, .f32⟩
  | 49 => ⟨S64, .i32⟩
  | 50 => ⟨S64x1, .i32⟩
  | 51 => ⟨S64, .i32⟩
  | 52 => ⟨S1x64, .i32⟩
  | 53 => ⟨S64x64, .i32⟩
  | 54 => ⟨S64x64, .i32⟩
  | 55 => ⟨S64x64, .i1⟩
  | 56 => ⟨S_, .f32⟩
  | 57 => ⟨S8x8x128x128, .f32⟩
  | 58 => ⟨S_, .f32⟩
  | 59 => ⟨S32x8x8x64x128, .f32⟩
  | 60 => ⟨S_, .i32⟩
  | 61 => ⟨S32x8x8x64x128, .f32⟩
  | 62 => ⟨S32x8x8x64x128, .f32⟩
  | 63 => ⟨S32x8x8x64x128, .f32⟩
  | 64 => ⟨S32x8x8x64x128, .f32⟩
  | 65 => ⟨S64x64, .i1⟩
  | 66 => ⟨S_, .i32⟩
  | 67 => ⟨S8x8x128x128, .f32⟩
  | 68 => ⟨S32x8x8x64x128, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S1x8x8x64x128, .f32⟩
  | 76 => ⟨S8x8x64x128, .f32⟩
  | 77 => ⟨S_, .i32⟩
  | 78 => ⟨S_, .i32⟩
  | 79 => ⟨S_, .i32⟩
  | 80 => ⟨S_, .i32⟩
  | 81 => ⟨S1x8x8x64x128, .f32⟩
  | 82 => ⟨S8x8x64x128, .f32⟩
  | 83 => ⟨S_, .i32⟩
  | 84 => ⟨S_, .i32⟩
  | 85 => ⟨S_, .i32⟩
  | 86 => ⟨S_, .i32⟩
  | 87 => ⟨S1x8x8x64x128, .f32⟩
  | 88 => ⟨S8x8x64x128, .f32⟩
  | 89 => ⟨S_, .i32⟩
  | 90 => ⟨S_, .i32⟩
  | 91 => ⟨S_, .i32⟩
  | 92 => ⟨S_, .i32⟩
  | 93 => ⟨S1x8x8x64x128, .f32⟩
  | 94 => ⟨S8x8x64x128, .f32⟩
  | 95 => ⟨S_, .f32⟩
  | 96 => ⟨S_, .f32⟩
  | 97 => ⟨S8x8x64x128, .f32⟩
  | 98 => ⟨S8x8x64x1x128, .f32⟩
  | 99 => ⟨S8x8x1x64x128, .f32⟩
  | 100 => ⟨S8x8x64x64x128, .f32⟩
  | 101 => ⟨S8x8x64x64x128, .f32⟩
  | 102 => ⟨S8x8x64x64x128, .f32⟩
  | 103 => ⟨S1x1x64x64x1, .i1⟩
  | 104 => ⟨S_, .f32⟩
  | 105 => ⟨S_, .f32⟩
  | 106 => ⟨S8x8x64x64x128, .i1⟩
  | 107 => ⟨S8x8x64x64x128, .f32⟩
  | 108 => ⟨S8x8x64x64x128, .f32⟩
  | 109 => ⟨S8x8x64x64x128, .f32⟩
  | 110 => ⟨S8x8x64x1x128, .f32⟩
  | 111 => ⟨S8x8x1x64x128, .f32⟩
  | 112 => ⟨S8x8x64x64x128, .f32⟩
  | 113 => ⟨S8x8x64x64x128, .f32⟩
  | 114 => ⟨S8x8x64x64x128, .f32⟩
  | 115 => ⟨S8x8x64x64x128, .f32⟩
  | 116 => ⟨S_, .f32⟩
  | 117 => ⟨S8x8x64x64, .f32⟩
  | 118 => ⟨S8x8x64x128, .f32⟩
  | 119 => ⟨S8x8x64x128, .f32⟩
  | 120 => ⟨S8x8x64x128, .f32⟩
  | 121 => ⟨S8x8x64x128, .f32⟩
  | 122 => ⟨S8x8x64x128, .f32⟩
  | 123 => ⟨S8x8x1x128, .f32⟩
  | 124 => ⟨S8x8x128, .f32⟩
  | 125 => ⟨S8x8x128, .f32⟩
  | 126 => ⟨S8x8x128x1, .f32⟩
  | 127 => ⟨S8x8x128x128, .f32⟩
  | _ => ⟨S8x2048x9728, .bf16⟩

abbrev hbmTy0_1 (i : Nat) : BufTy := match i % 128 with
  | 0 => ⟨S8x8x128x128, .f32⟩
  | 1 => ⟨S8x8x64x128, .f32⟩
  | 2 => ⟨S8x8x64x128, .f32⟩
  | 3 => ⟨S8x8x64x128, .f32⟩
  | 4 => ⟨S8x8x64x128, .f32⟩
  | 5 => ⟨S8x8x128x128, .f32⟩
  | 6 => ⟨S8x8x128x128, .f32⟩
  | 7 => ⟨S1x8x8x64x128, .f32⟩
  | 8 => ⟨S_, .i32⟩
  | 9 => ⟨S_, .i32⟩
  | 10 => ⟨S_, .i32⟩
  | 11 => ⟨S_, .i32⟩
  | 12 => ⟨S32x8x8x64x128, .f32⟩
  | 13 => ⟨S_, .i32⟩
  | 14 => ⟨S_, .i32⟩
  | 15 => ⟨S8x32x64x8x128, .f32⟩
  | 16 => ⟨S8x2048x8x128, .f32⟩
  | 17 => ⟨S8x2048x8x128, .f32⟩
  | 18 => ⟨S_, .f32⟩
  | 19 => ⟨S8x2048x8, .f32⟩
  | 20 => ⟨S8x2048x8x1, .f32⟩
  | 21 => ⟨S_, .f32⟩
  | 22 => ⟨S8x2048x8x1, .f32⟩
  | 23 => ⟨S8x2048x8x1, .f32⟩
  | 24 => ⟨S_, .f32⟩
  | 25 => ⟨S8x2048x8x1, .f32⟩
  | 26 => ⟨S8x2048x8x1, .f32⟩
  | 27 => ⟨S8x2048x8x1, .f32⟩
  | 28 => ⟨S8x2048x8x128, .f32⟩
  | 29 => ⟨S8x2048x8x128, .f32⟩
  | 30 => ⟨S128, .f32⟩
  | 31 => ⟨S1x1x1x128, .f32⟩
  | 32 => ⟨S8x2048x8x128, .f32⟩
  | 33 => ⟨S8x2048x8x128, .f32⟩
  | 34 => ⟨S8x2048x1024, .bf16⟩
  | 35 => ⟨S8x2048x1024, .f32⟩
  | 36 => ⟨S8x2048x8x128, .f32⟩
  | 37 => ⟨S8x2048x8x128, .f32⟩
  | 38 => ⟨S8x2048x8x128, .f32⟩
  | 39 => ⟨S_, .f32⟩
  | 40 => ⟨S8x2048x8x128, .f32⟩
  | 41 => ⟨S8x2048x8x128, .f32⟩
  | 42 => ⟨S_, .f32⟩
  | 43 => ⟨S8x2048x8x128, .f32⟩
  | 44 => ⟨S8x2048x8x128, .f32⟩
  | 45 => ⟨S8x2048x8x128, .f32⟩
  | 46 => ⟨S8x2048x8x128, .f32⟩
  | 47 => ⟨S8x2048x1024, .f32⟩
  | 48 => ⟨S8x2048x1024, .bf16⟩
  | _ => ⟨S8x2048x9728, .bf16⟩

abbrev hbmTy (i : Nat) : BufTy := match i / 128 with
  | 0 => hbmTy0_0 i
  | 1 => hbmTy0_1 i
  | _ => ⟨S8x2048x9728, .bf16⟩

abbrev bufTy : (tb : Table) → Fin (tcTables nBuf tb) → BufTy
  | .hbm, ⟨i, _⟩ => hbmTy i
  | _, _ => ⟨S8x2048x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_c : Ref sig .tc := ⟨.hbm, 60, rfl⟩
abbrev main_v48_0 : Ref sig .tc := ⟨.hbm, 61, rfl⟩
abbrev main_v48_1 : Ref sig .tc := ⟨.hbm, 62, rfl⟩
abbrev main_v48_2 : Ref sig .tc := ⟨.hbm, 63, rfl⟩
abbrev main_v48_3 : Ref sig .tc := ⟨.hbm, 64, rfl⟩
abbrev main_v48_4 : Ref sig .tc := ⟨.hbm, 65, rfl⟩
abbrev main_v48_5 : Ref sig .tc := ⟨.hbm, 66, rfl⟩
abbrev main_v48_6 : Ref sig .tc := ⟨.hbm, 67, rfl⟩
abbrev main_v48_7 : Ref sig .tc := ⟨.hbm, 68, rfl⟩
abbrev main_while0c_c_20 : Ref sig .tc := ⟨.hbm, 69, rfl⟩
abbrev main_while0c_v78 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_call0_c_1 : Ref sig .tc := ⟨.hbm, 73, rfl⟩
abbrev main_while0b_call0_c_2 : Ref sig .tc := ⟨.hbm, 74, rfl⟩
abbrev main_while0b_call0_v0 : Ref sig .tc := ⟨.hbm, 75, rfl⟩
abbrev main_while0b_v78 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_c_2 : Ref sig .tc := ⟨.hbm, 80, rfl⟩
abbrev main_while0b_call1_v0 : Ref sig .tc := ⟨.hbm, 81, rfl⟩
abbrev main_while0b_v79 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v80 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v81 : Ref sig .tc := ⟨.hbm, 94, rfl⟩
abbrev main_while0b_call4_call0_cst : Ref sig .tc := ⟨.hbm, 95, rfl⟩
abbrev main_while0b_call4_call0_v0 : Ref sig .tc := ⟨.hbm, 96, rfl⟩
abbrev main_while0b_v82 : Ref sig .tc := ⟨.hbm, 97, rfl⟩
abbrev main_while0b_v83 : Ref sig .tc := ⟨.hbm, 98, rfl⟩
abbrev main_while0b_v84 : Ref sig .tc := ⟨.hbm, 99, rfl⟩
abbrev main_while0b_v85 : Ref sig .tc := ⟨.hbm, 100, rfl⟩
abbrev main_while0b_v86 : Ref sig .tc := ⟨.hbm, 101, rfl⟩
abbrev main_while0b_v87 : Ref sig .tc := ⟨.hbm, 102, rfl⟩
abbrev main_while0b_v88 : Ref sig .tc := ⟨.hbm, 103, rfl⟩
abbrev main_while0b_cst_20 : Ref sig .tc := ⟨.hbm, 104, rfl⟩
abbrev main_while0b_call5_v0 : Ref sig .tc := ⟨.hbm, 105, rfl⟩
abbrev main_while0b_call5_v1 : Ref sig .tc := ⟨.hbm, 106, rfl⟩
abbrev main_while0b_call5_v2 : Ref sig .tc := ⟨.hbm, 107, rfl⟩
abbrev main_while0b_v89 : Ref sig .tc := ⟨.hbm, 108, rfl⟩
abbrev main_while0b_v90 : Ref sig .tc := ⟨.hbm, 109, rfl⟩
abbrev main_while0b_v91 : Ref sig .tc := ⟨.hbm, 110, rfl⟩
abbrev main_while0b_v92 : Ref sig .tc := ⟨.hbm, 111, rfl⟩
abbrev main_while0b_v93 : Ref sig .tc := ⟨.hbm, 112, rfl⟩
abbrev main_while0b_v94 : Ref sig .tc := ⟨.hbm, 113, rfl⟩
abbrev main_while0b_v95 : Ref sig .tc := ⟨.hbm, 114, rfl⟩
abbrev main_while0b_v96 : Ref sig .tc := ⟨.hbm, 115, rfl⟩
abbrev main_while0b_cst_21 : Ref sig .tc := ⟨.hbm, 116, rfl⟩
abbrev main_while0b_v97 : Ref sig .tc := ⟨.hbm, 117, rfl⟩
abbrev main_while0b_v98 : Ref sig .tc := ⟨.hbm, 118, rfl⟩
abbrev main_while0b_v99 : Ref sig .tc := ⟨.hbm, 119, rfl⟩
abbrev main_while0b_v100 : Ref sig .tc := ⟨.hbm, 120, rfl⟩
abbrev main_while0b_v101 : Ref sig .tc := ⟨.hbm, 121, rfl⟩
abbrev main_while0b_v102 : Ref sig .tc := ⟨.hbm, 122, rfl⟩
abbrev main_while0b_v103 : Ref sig .tc := ⟨.hbm, 123, rfl⟩
abbrev main_while0b_v104 : Ref sig .tc := ⟨.hbm, 124, rfl⟩
abbrev main_while0b_v105 : Ref sig .tc := ⟨.hbm, 125, rfl⟩
abbrev main_while0b_v106 : Ref sig .tc := ⟨.hbm, 126, rfl⟩
abbrev main_while0b_v107 : Ref sig .tc := ⟨.hbm, 127, rfl⟩
abbrev main_while0b_v108 : Ref sig .tc := ⟨.hbm, 128, rfl⟩
abbrev main_while0b_v109 : Ref sig .tc := ⟨.hbm, 129, rfl⟩
abbrev main_while0b_v110 : Ref sig .tc := ⟨.hbm, 130, rfl⟩
abbrev main_while0b_v111 : Ref sig .tc := ⟨.hbm, 131, rfl⟩
abbrev main_while0b_v112 : Ref sig .tc := ⟨.hbm, 132, rfl⟩
abbrev main_while0b_v113 : Ref sig .tc := ⟨.hbm, 133, rfl⟩
abbrev main_while0b_v114 : Ref sig .tc := ⟨.hbm, 134, rfl⟩
abbrev main_while0b_call6_v0 : Ref sig .tc := ⟨.hbm, 135, rfl⟩
abbrev main_while0b_call6_c : Ref sig .tc := ⟨.hbm, 136, rfl⟩
abbrev main_while0b_call6_c_0 : Ref sig .tc := ⟨.hbm, 137, rfl⟩
abbrev main_while0b_call6_c_1 : Ref sig .tc := ⟨.hbm, 138, rfl⟩
abbrev main_while0b_call6_c_2 : Ref sig .tc := ⟨.hbm, 139, rfl⟩
abbrev main_while0b_v115 : Ref sig .tc := ⟨.hbm, 140, rfl⟩
abbrev main_while0b_c_22 : Ref sig .tc := ⟨.hbm, 141, rfl⟩
abbrev main_while0b_v116 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_cst_8 : Ref sig .tc := ⟨.hbm, 146, rfl⟩
abbrev main_v52 : Ref sig .tc := ⟨.hbm, 147, rfl⟩
abbrev main_v53 : Ref sig .tc := ⟨.hbm, 148, rfl⟩
abbrev main_cst_9 : Ref sig .tc := ⟨.hbm, 149, rfl⟩
abbrev main_v54 : Ref sig .tc := ⟨.hbm, 150, rfl⟩
abbrev main_v55 : Ref sig .tc := ⟨.hbm, 151, rfl⟩
abbrev main_cst_10 : Ref sig .tc := ⟨.hbm, 152, rfl⟩
abbrev main_v56 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_cst_11 : Ref sig .tc := ⟨.hbm, 167, rfl⟩
abbrev main_v70 : Ref sig .tc := ⟨.hbm, 168, rfl⟩
abbrev main_v71 : Ref sig .tc := ⟨.hbm, 169, rfl⟩
abbrev main_cst_12 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x2048 : Shape := ⟨2, ![16384, 2048]⟩
abbrev S1x2048 : Shape := ⟨2, ![1, 2048]⟩
abbrev S2048x9728 : Shape := ⟨2, ![2048, 9728]⟩
abbrev S19 : Shape := ⟨1, ![19]⟩
abbrev S16384x9728 : Shape := ⟨2, ![16384, 9728]⟩
abbrev S2048x2048 : Shape := ⟨2, ![2048, 2048]⟩
abbrev S2048x512 : Shape := ⟨2, ![2048, 512]⟩
abbrev S1 : Shape := ⟨1, ![1]⟩
abbrev S2048 : Shape := ⟨1, ![2048]⟩
abbrev S2048x1 : Shape := ⟨2, ![2048, 1]⟩

abbrev nBuf : Space → Nat
  | .hbm => 4
  | .vmem => 8
  | .smem => 1
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x9728, .f32⟩
  | .hbm, ⟨3, _⟩ => ⟨S16384x9728, .bf16⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | .local _ .vmem, ⟨7, _⟩ => ⟨S2048x2048, .bf16⟩
  | .local _ .smem, ⟨0, _⟩ => ⟨S19, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 19], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S19.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S19) ![v0.toNat] S1.size (k0_off1_inb i)) numel1_S1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S1x2048 : Shape := ⟨2, ![1, 2048]⟩
abbrev S2048x9728 : Shape := ⟨2, ![2048, 9728]⟩
abbrev S_ : Shape := ⟨0, ![]⟩
abbrev S16384 : Shape := ⟨1, ![16384]⟩
abbrev S16384x1 : Shape := ⟨2, ![16384, 1]⟩
abbrev S16384x9728 : Shape := ⟨2, ![16384, 9728]⟩
abbrev S16384x1024 : Shape := ⟨2, ![16384, 1024]⟩
abbrev S16384x256 : Shape := ⟨2, ![16384, 256]⟩
abbrev S16384x4096 : Shape := ⟨2, ![16384, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x9728, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x9728, .f32⟩
  | .hbm, ⟨19, _⟩ => ⟨S16384x1024, .f32⟩
  | .hbm, ⟨20, _⟩ => ⟨S16384x256, .f32⟩
  | .hbm, ⟨21, _⟩ => ⟨S16384x256, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S16384x9728, .f32⟩
  | .hbm, ⟨28, _⟩ => ⟨S16384x9728, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel3.lean ====
abbrev S32 : Shape := ⟨1, ![32]⟩
abbrev S64x8x256 : Shape := ⟨3, ![64, 8, 256]⟩
abbrev S_ : Shape := ⟨0, ![]⟩
abbrev S64x2x256 : Shape := ⟨3, ![64, 2, 256]⟩
abbrev S8x8x256 : Shape := ⟨3, ![8, 8, 256]⟩
abbrev S8x2x256 : Shape := ⟨3, ![8, 2, 256]⟩
abbrev S1 : Shape := ⟨1, ![1]⟩

abbrev nBuf : Space → Nat
  | .hbm => 33
  | .vmem => 4
  | .smem => 1
  | _ => 0

abbrev bufTy : (tb : Table) → Fin (tcTables nBuf tb) → BufTy
  | .hbm, ⟨0, _⟩ => ⟨S32, .i32⟩
  | .hbm, ⟨1, _⟩ => ⟨S64x8x256, .i32⟩
  | .hbm, ⟨2, _⟩ => ⟨S_, .i32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i1⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i1⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S_, .i32⟩
  | .hbm, ⟨31, _⟩ => ⟨S32, .i32⟩
  | .hbm, ⟨32, _⟩ => ⟨S64x2x256, .i32⟩
  | .local _ .vmem, ⟨0, _⟩ => ⟨S8x8x256, .i32⟩
  | .local _ .vmem, ⟨1, _⟩ => ⟨S8x8x256, .i32⟩
  | .local _ .vmem, ⟨2, _⟩ => ⟨S8x2x256, .i32⟩
  | .local _ .vmem, ⟨3, _⟩ => ⟨S8x2x256, .i32⟩
  | .local _ .smem, ⟨0, _⟩ => ⟨S32, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_c_2 : Ref sig .tc := ⟨.hbm, 26, rfl⟩
abbrev main_v5 : Ref sig .tc := ⟨.hbm, 27, rfl⟩
abbrev main_v6 : Ref sig .tc := ⟨.hbm, 28, rfl⟩
abbrev main_call1_call0_c : Ref sig .tc := ⟨.hbm, 29, rfl⟩
abbrev main_call1_call0_v0 : Ref sig .tc := ⟨.hbm, 30, rfl⟩
abbrev main_v7 : Ref sig .tc := ⟨.hbm, 31, rfl⟩
abbrev main_v9 : Ref sig .tc := ⟨.hbm, 32, rfl⟩
abbrev main_v8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S32 : Shape := ⟨1, ![32]⟩
abbrev S64x8x256 : Shape := ⟨3, ![64, 8, 256]⟩
abbrev S64x2x256 : Shape := ⟨3, ![64, 2, 256]⟩
abbrev S_ : Shape := ⟨0, ![]⟩
abbrev S64x2x256x1 : Shape := ⟨4, ![64, 2, 256, 1]⟩

abbrev nBuf : Space → Nat
  | .hbm => 45
  | .vmem => 0
  | .smem => 0
  | _ => 0

abbrev bufTy : (tb : Table) → Fin (tcTables nBuf tb) → BufTy
  | .hbm, ⟨0, _⟩ => ⟨S32, .i32⟩
  | .hbm, ⟨1, _⟩ => ⟨S64x8x256, .i32⟩
  | .hbm, ⟨2, _⟩ => ⟨S64x2x256, .i32⟩
  | .hbm, ⟨3, _⟩ => ⟨S64x2x256, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S32, .i32⟩
  | .hbm, ⟨35, _⟩ => ⟨S_, .i32⟩
  | .hbm, ⟨36, _⟩ => ⟨S64x2x256, .i32⟩
  | .hbm, ⟨37, _⟩ => ⟨S64x2x256, .i1⟩
  | .hbm, ⟨38, _⟩ => ⟨S_, .i32⟩
  | .hbm, ⟨39, _⟩ => ⟨S64x2x256, .i32⟩
  | .hbm, ⟨40, _⟩ => ⟨S64x2x256, .i32⟩
  | .hbm, ⟨41, _⟩ => ⟨S64x2x256, .i32⟩
  | .hbm, ⟨42, _⟩ => ⟨S64x2x256x1, .i32⟩
  | .hbm, ⟨43, _⟩ => ⟨S64x2x256, .i32⟩
  | .hbm, ⟨44, _⟩ => ⟨S64x2x256, .i32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_call1_call0_c : Ref sig .tc := ⟨.hbm, 31, rfl⟩
abbrev main_call1_call0_v0 : Ref sig .tc := ⟨.hbm, 32, rfl⟩
abbrev main_v9 : Ref sig .tc := ⟨.hbm, 33, rfl⟩
abbrev main_v10 : Ref sig .tc := ⟨.hbm, 34, rfl⟩
abbrev main_c_3 : Ref sig .tc := ⟨.hbm, 35, rfl⟩
abbrev main_v11 : Ref sig .tc := ⟨.hbm, 36, rfl⟩
abbrev main_v12 : Ref sig .tc := ⟨.hbm, 37, rfl⟩
abbrev main_c_4 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩

abbrev nD : Nat := 1
abbrev τ : Topo := Topo.v7x

variable {F : FTy → Type} [FloatOps F]
-- ==== Proof.InProjTable.lean ====
/-
  The column table of the input projection: the words the launch prefetches are the printed
  constant, so the weight's block at the grid point `(i, j)` is block `lit0 j` of its columns, and
  every such block lies inside the weight.
-/
module

public import proofs.«01_k».proof.Proof.Gen.Kernel2.Frame
public import proofs.«01_k».proof.Proof.Gen.Kernel2Ideal.Frame

@[expose] public section

set_option maxRecDepth 16384

noncomputable section

namespace Cert.Kernel2Ideal.InProj

open Idealize.ShloMosaic Idealize.ShloMosaic.TcCoe Idealize.SL.Sem
open Cert.Kernel2Ideal Cert.Kernel2Ideal.Gen

variable {F : FTy → Type} [FloatOps F]
variable (m : (ℓ : Loc nD τ sig) → Buf (Elt F) ℓ)

/-- The prefetched table holds the printed constant. -/
theorem tbl_eq : tbl m 0 = fun i => lit0 (S19.rowMajor i) := by
  show StableHlo.after hostOps0 (fun b => m ((0 : Dev nD), b)) main_c = _
  after_results
  rfl

/-- The weight's block at a grid point: the table's word at the point's second coordinate. -/
theorem map2 (i : grid0.Coords) : cc0_transform_2 k0_off1_inb numel1_S1 (tbl m) i = ![0, (lit0 (i 1)).toNat] := by
  have h : (Scalar.indexCast (BitVec.ofNat 32 (i 1).val)).toNat = (i 1).val :=
    (by decide +kernel : ∀ j : Fin 19, (Scalar.indexCast (BitVec.ofNat 32 j.val)).toNat = j.val) (i 1)
  have hv : (tbl m).at 0 (Rect.unit (s := S19) ![(Scalar.indexCast (BitVec.ofNat 32 (i 1).val)).toNat] S1.size (k0_off1_inb i)) numel1_S1
      = lit0 (i 1) := by
    show tbl m 0 _ = _
    rw [tbl_eq]
    refine congrArg lit0 (Fin.ext ?_)
    refine (Shape.rowMajor_val_one _).trans ?_
    show (Scalar.indexCast (BitVec.ofNat 32 (i 1).val)).toNat + 1 * 0 = _
    exact h
  show ![0, BitVec.toNat _] = _
  exact congrArg (fun v : BitVec 32 => ![0, v.toNat]) hv

/-- Every word of the table names a block of the weight's columns. -/
theorem lit0_lt : ∀ j : Fin 19, (lit0 j).toNat < 19 := by decide +kernel

/-- The table's side condition. -/
theorem ok : Ok m := by
  intro i
  refine ⟨fun a => ?_, Or.inl rfl⟩
  rw [map2]
  have h := lit0_lt (i 1)
  match a with
  | ⟨0, _⟩ => show (0 + 1) * 2048 ≤ 2048; omega
  | ⟨1, _⟩ => show ((lit0 (i 1)).toNat + 1) * 512 ≤ 9728; omega

end Cert.Kernel2Ideal.InProj

namespace Cert.Kernel2.InProj

open Idealize.ShloMosaic Idealize.ShloMosaic.TcCoe Idealize.SL.Sem
open Cert.Kernel2 Cert.Kernel2.Gen

variable {F : FTy → Type} [FloatOps F]
variable (m : (ℓ : Loc nD τ sig) → Buf (Elt F) ℓ)

/-- The prefetched table holds the printed constant. -/
theorem tbl_eq : tbl m 0 = fun i => lit0 (S19.rowMajor i) := by
  show StableHlo.after hostOps0 (fun b => m ((0 : Dev nD), b)) main_c = _
  after_results
  rfl

/-- The weight's block at a grid point: the table's word at the point's second coordinate. -/
theorem map2 (i : grid0.Coords) : cc0_transform_2 k0_off1_inb numel1_S1 (tbl m) i = ![0, (lit0 (i 1)).toNat] := by
  have h : (Scalar.indexCast (BitVec.ofNat 32 (i 1).val)).toNat = (i 1).val :=
    (by decide +kernel : ∀ j : Fin 19, (Scalar.indexCast (BitVec.ofNat 32 j.val)).toNat = j.val) (i 1)
  have hv : (tbl m).at 0 (Rect.unit (s := S19) ![(Scalar.indexCast (BitVec.ofNat 32 (i 1).val)).toNat] S1.size (k0_off1_inb i)) numel1_S1
      = lit0 (i 1) := by
    show tbl m 0 _ = _
    rw [tbl_eq]
    refine congrArg lit0 (Fin.ext ?_)
    refine (Shape.rowMajor_val_one _).trans ?_
    show (Scalar.indexCast (BitVec.ofNat 32 (i 1).val)).toNat + 1 * 0 = _
    exact h
  show ![0, BitVec.toNat _] = _
  exact congrArg (fun v : BitVec 32 => ![0, v.toNat]) hv

/-- Every word of the table names a block of the weight's columns. -/
theorem lit0_lt : ∀ j : Fin 19, (lit0 j).toNat < 19 := by decide +kernel

/-- The table's side condition. -/
theorem ok : Ok m := by
  intro i
  refine ⟨fun a => ?_, Or.inl rfl⟩
  rw [map2]
  have h := lit0_lt (i 1)
  match a with
  | ⟨0, _⟩ => show (0 + 1) * 2048 ≤ 2048; omega
  | ⟨1, _⟩ => show ((lit0 (i 1)).toNat + 1) * 512 ≤ 9728; omega

end Cert.Kernel2.InProj
-- ==== Proof.InProj.lean ====
/-
  The input projection: what the tiled kernel leaves in its result array, element by element. Row
  tile `i` is normalised once, at the first of its nineteen grid points, into a scratch that the
  other eighteen read; the point `(i, j)` multiplies it by the weight's column block `lit0 j`.
-/
module

public import proofs.«01_k».proof.Proof.InProjTable
public import Idealize.ShloMosaic.Lib.Pipeline.Value
public import Idealize.ShloMosaic.Lib.Pointwise

@[expose] public section

set_option maxRecDepth 16384

noncomputable section

namespace Cert.Kernel2Ideal.InProj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (ρ : Dev nD → PrngReg)

/-! ## The mathematics -/

/-- One element of the normalised input. -/
def normed (x : FVec Ideal S16384x2048 .f32) (g : FVec Ideal S1x2048 .f32) (r : Fin 16384) (k : Fin 2048) : EReal :=
  x (ix2 r k) * Ideal.rsqrt (Ideal.div (∑ l : Fin 2048, x (ix2 r l) * x (ix2 r l)) (Ideal.ofBits .f32 0x45000000#32)
    + Ideal.ofBits .f32 0x358637BD#32) * g (ix2 0 k)

/-- One element of the projection: the normalised row times a column of the weight. -/
def proj (x : FVec Ideal S16384x2048 .f32) (g : FVec Ideal S1x2048 .f32) (w : FVec Ideal S2048x9728 .f32)
    (r : Fin 16384) (n : Fin 9728) : EReal := ∑ k : Fin 2048, normed x g r k * w (ix2 k n)

/-- The weight's column behind the result's column `n`. -/
def colOf (n : Fin 9728) : Fin 9728 :=
  ⟨(lit0 ⟨n.val / 512, by omega⟩).toNat * 512 + n.val % 512, by
    have := lit0_lt ⟨n.val / 512, by omega⟩; omega⟩

/-- The result, as a function of the arguments. -/
def G (x : FVec Ideal S16384x2048 .f32) (g : FVec Ideal S1x2048 .f32) (w : FVec Ideal S2048x9728 .f32) :
    FVec Ideal S16384x9728 .bf16 := fun i => proj x g w (i 0) (colOf (i 1))

/-! ## The two payloads at an index -/

theorem pay1_apply (x0 : Vec Ideal S2048x2048 .f32) (x1 : Vec Ideal S1x2048 .f32) (r k : Fin 2048) :
    k0_pay1 (F := Ideal) x0 x1 (ix2 r k) = x0 (ix2 r k) * Ideal.rsqrt (Ideal.div (∑ l : Fin 2048, x0 (ix2 r l) * x0 (ix2 r l)) (Ideal.ofBits .f32 0x45000000#32)
    + Ideal.ofBits .f32 0x358637BD#32) * x1 (ix2 0 k) := by
  pointwise [k0_pay1]

theorem pay2_apply (a : Vec Ideal S2048x2048 .bf16) (w : Vec Ideal S2048x512 .f32) (r : Fin 2048) (n : Fin 512) :
    k0_pay2 (F := Ideal) a w (ix2 r n) = ∑ k : Fin 2048, a (ix2 r k) * w (ix2 k n) := by
  pointwise [k0_pay2]

/-! ## The blocks a grid point reads -/

theorem idx0 : ∀ t : Fin grid0.N, cc0_transform_0 (grid0.coords t) = ![t.val / 19, 0] := by decide +kernel
theorem idx1 : ∀ t : Fin grid0.N, cc0_transform_1 (grid0.coords t) = ![0, 0] := by decide +kernel
theorem idx3 : ∀ t : Fin grid0.N, cc0_transform_3 (grid0.coords t) = ![t.val / 19, t.val % 19] := by decide +kernel
theorem coord1 : ∀ t : Fin grid0.N, ((grid0.coords t) 1).val = t.val % 19 := by decide +kernel

variable (hO : Ok m) (c : Dev nD)

theorem iblk0_apply (t : Fin (cfgM m hO).N) (r k : Fin 2048) (R : Fin 16384) (hR : R.val = t.val / 19 * 2048 + r.val) :
    (iblk m hO c 0 t : Vec Ideal S2048x2048 .f32) (ix2 r k) = m ((c : Thread nD τ).loc main_arg0) (ix2 R k) := by
  unfold iblk
  show V m c main_arg0 _ = _
  rw [V_main_arg0]
  refine congrArg (m ((c : Thread nD τ).loc main_arg0)) (funext fun a => Fin.ext ?_)
  refine (((cfgM m hO).win 0).rect_emb_val t (ix2 r k) a).trans ?_
  have e := idx0 t
  match a with
  | ⟨0, _⟩ => show cc0_transform_0 (grid0.coords t) 0 * 2048 + r.val = _; rw [e]; exact hR.symm
  | ⟨1, _⟩ => show cc0_transform_0 (grid0.coords t) 1 * 2048 + k.val = _; rw [e]; show 0 * 2048 + k.val = k.val; omega

theorem iblk1_apply (t : Fin (cfgM m hO).N) (k : Fin 2048) :
    (iblk m hO c 1 t : Vec Ideal S1x2048 .f32) (ix2 0 k) = m ((c : Thread nD τ).loc main_arg1) (ix2 0 k) := by
  unfold iblk
  show V m c main_arg1 _ = _
  rw [V_main_arg1]
  refine congrArg (m ((c : Thread nD τ).loc main_arg1)) (funext fun a => Fin.ext ?_)
  refine (((cfgM m hO).win 1).rect_emb_val t (ix2 0 k) a).trans ?_
  have e := idx1 t
  match a with
  | ⟨0, _⟩ => show cc0_transform_1 (grid0.coords t) 0 * 1 + 0 = 0; rw [e]; rfl
  | ⟨1, _⟩ => show cc0_transform_1 (grid0.coords t) 1 * 2048 + k.val = _; rw [e]; show 0 * 2048 + k.val = k.val; omega

theorem iblk2_apply (t : Fin (cfgM m hO).N) (k : Fin 2048) (n : Fin 512) (N : Fin 9728)
    (hN : N.val = (lit0 ((grid0.coords t) 1)).toNat * 512 + n.val) :
    (iblk m hO c 2 t : Vec Ideal S2048x512 .f32) (ix2 k n) = m ((c : Thread nD τ).loc main_arg2) (ix2 k N) := by
  unfold iblk
  show V m c main_arg2 _ = _
  rw [V_main_arg2]
  refine congrArg (m ((c : Thread nD τ).loc main_arg2)) (funext fun a => Fin.ext ?_)
  refine (((cfgM m hO).win 2).rect_emb_val t (ix2 k n) a).trans ?_
  have e := map2 m (grid0.coords t)
  match a with
  | ⟨0, _⟩ => show cc0_transform_2 k0_off1_inb numel1_S1 (tbl m) (grid0.coords t) 0 * 2048 + k.val = _; rw [e]; show 0 * 2048 + k.val = k.val; omega
  | ⟨1, _⟩ => show cc0_transform_2 k0_off1_inb numel1_S1 (tbl m) (grid0.coords t) 1 * 512 + n.val = _; rw [e]; exact hN.symm

/-- The three blocks at a point, at their shapes. -/
def X0 (t : Fin (cfgM m hO).N) : Vec Ideal S2048x2048 .f32 := iblk m hO c 0 t
def X1 (t : Fin (cfgM m hO).N) : Vec Ideal S1x2048 .f32 := iblk m hO c 1 t
def X2 (t : Fin (cfgM m hO).N) : Vec Ideal S2048x512 .f32 := iblk m hO c 2 t

/-! ## What a point leaves -/

theorem hz : (![0, 0] : Fin 2 → Nat) = fun _ => 0 := funext fun a => by fin_cases a <;> rfl

section Case

variable (i : grid0.Coords) (a3 : Memref sig .tc .vmem S2048x2048 .f32) (h3 : a3.IsWhole) (a4 : Memref sig .tc .vmem S1x2048 .f32)
  (h4 : a4.IsWhole) (a5 : Memref sig .tc .vmem S2048x512 .f32) (h5 : a5.IsWhole) (a6 : Memref sig .tc .vmem S2048x512 .bf16) (h6 : a6.IsWhole)
  (a7 : Memref sig .tc .vmem S2048x2048 .bf16) (h7 : a7.IsWhole)
  (x0 : Vec Ideal S2048x2048 .f32) (x1 : Vec Ideal S1x2048 .f32) (x2 : Vec Ideal S2048x512 .f32) (xt : TbBuf0 (F := Ideal) c tbM0_0)

/-- A normalising point leaves the normalised rows in the scratch, -/
theorem sout0_A_eq (hc : cond0_0 i) :
    sout0_A_0 c i a3 h3 a4 h4 a5 h5 a6 h6 a7 h7 hc x0 x1 x2 xt = k0_pay1 x0 x1 := by
  unfold sout0_A_0
  rw [View.read_writes_eq_canon _ _ _ (scover0_A_0 c i a3 h3 a4 h4 a5 h5 a6 h6 a7 h7 hc x0 x1 x2 xt)]
  unfold kernelRun0_A
  dsimp only
  sl_unfold_words
  rw [View.canon_unit_zero (S := S2048x2048) hz]
  simp only [View.readAt_eq_ld, h3.read_unread, h4.read_unread, View.ld_unit_zero (S := S2048x2048) hz, View.ld_unit_zero (S := S1x2048) hz]

/-- and their product with the weight's block in the output. -/
theorem out0_A_eq (hc : cond0_0 i) :
    out0_A_3 c i a3 h3 a4 h4 a5 h5 a6 h6 a7 h7 hc x0 x1 x2 xt = k0_pay2 (k0_pay1 x0 x1) x2 := by
  unfold out0_A_3
  rw [View.read_writes_eq_canon _ _ _ (cover0_A_3 c i a3 h3 a4 h4 a5 h5 a6 h6 a7 h7 hc x0 x1 x2 xt)]
  unfold kernelRun0_A
  dsimp only
  sl_unfold_words
  rw [View.canon_unit_zero (S := S2048x512) hz, View.readCov_unit_zero (S := S2048x2048) _ hz]
  simp only [View.readAt_eq_ld, h3.read_unread, h4.read_unread, h5.read_unread, View.ld_unit_zero (S := S2048x2048) hz,
    View.ld_unit_zero (S := S1x2048) hz, View.ld_unit_zero (S := S2048x512) hz]

/-- Any other point multiplies what the scratch holds. -/
theorem out0_B_eq (hc : ¬cond0_0 i) (xs : Vec Ideal S2048x2048 .bf16) :
    out0_B_3 c i a3 h3 a4 h4 a5 h5 a6 h6 a7 h7 hc x0 x1 x2 xt xs = k0_pay2 xs x2 := by
  unfold out0_B_3
  rw [View.read_writes_eq_canon _ _ _ (cover0_B_3 c i a3 h3 a4 h4 a5 h5 a6 h6 a7 h7 hc x0 x1 x2 xt xs)]
  unfold kernelRun0_B
  dsimp only
  sl_unfold_words
  rw [View.canon_unit_zero (S := S2048x512) hz]
  simp only [View.readAt_eq_ld, h5.read_unread, h7.read_unread, View.ld_unit_zero (S := S2048x2048) hz,
    View.ld_unit_zero (S := S2048x512) hz]

/-- and leaves the scratch as it was. -/
theorem sout0_B_eq (hc : ¬cond0_0 i) (xs : Vec Ideal S2048x2048 .bf16) :
    sout0_B_0 c i a3 h3 a4 h4 a5 h5 a6 h6 a7 h7 hc x0 x1 x2 xt xs = xs := rfl

end Case

/-- The recursion's equations in the blocks' own names. -/
theorem scratch_A (t : Fin (cfgM m hO).N) (h0 : t.val % 19 = 0) :
    (outsAt0 m hO c t.val t.isLt).2 = k0_pay1 (X0 m hO c t) (X1 m hO c t) := by
  rw [outsAt0_A m hO c t h0]
  dsimp only
  exact sout0_A_eq c _ _ _ _ _ _ _ _ _ _ _ _ _ _ _ _

theorem scratch_B (t : Fin (cfgM m hO).N) (h0 : ¬t.val % 19 = 0) :
    (outsAt0 m hO c t.val t.isLt).2 = (outsAt0 m hO c (t.val - 1) (Nat.lt_of_le_of_lt (Nat.sub_le _ _) t.isLt)).2 := by
  rw [outsAt0_B m hO c t h0]
  dsimp only
  exact sout0_B_eq c _ _ _ _ _ _ _ _ _ _ _ _ _ _ _ _ _

theorem out_eq (t : Fin (cfgM m hO).N) :
    (outsAt0 m hO c t.val t.isLt).1 = k0_pay2 (outsAt0 m hO c t.val t.isLt).2 (X2 m hO c t) := by
  by_cases h0 : t.val % 19 = 0
  · rw [outsAt0_A m hO c t h0]
    dsimp only
    exact (out0_A_eq c _ _ _ _ _ _ _ _ _ _ _ _ _ _ _ _).trans
      (congrArg (fun a => k0_pay2 a _) (sout0_A_eq c _ _ _ _ _ _ _ _ _ _ _ _ _ _ _ _).symm)
  · rw [outsAt0_B m hO c t h0]
    dsimp only
    exact out0_B_eq c _ _ _ _ _ _ _ _ _ _ _ _ _ _ _ _ _

/-- The scratch after any point holds the normalised rows of the point's row tile. -/
theorem scratch (n : ℕ) (hn : n < (cfgM m hO).N) (r k : Fin 2048) (R : Fin 16384) (hR : R.val = n / 19 * 2048 + r.val) :
    (outsAt0 m hO c n hn).2 (ix2 r k)
      = normed (m ((c : Thread nD τ).loc main_arg0)) (m ((c : Thread nD τ).loc main_arg1)) R k := by
  induction n using Nat.strong_induction_on with
  | _ n ih =>
    by_cases h0 : n % 19 = 0
    · rw [scratch_A m hO c ⟨n, hn⟩ h0, pay1_apply]
      unfold normed X0 X1
      simp only [iblk0_apply m hO c ⟨n, hn⟩ r _ R hR, iblk1_apply]
    · rw [scratch_B m hO c ⟨n, hn⟩ h0]
      exact ih (n - 1) (by omega) _ (by omega)

/-- The block a point writes back, element by element. -/
theorem block (t : Fin (cfgM m hO).N) (r : Fin 2048) (n : Fin 512) (R : Fin 16384) (N : Fin 9728)
    (hR : R.val = t.val / 19 * 2048 + r.val) (hN : N.val = (lit0 ((grid0.coords t) 1)).toNat * 512 + n.val) :
    (outsAt0 m hO c t.val t.isLt).1 (ix2 r n)
      = proj (m ((c : Thread nD τ).loc main_arg0)) (m ((c : Thread nD τ).loc main_arg1)) (m ((c : Thread nD τ).loc main_arg2)) R N := by
  rw [out_eq, pay2_apply]
  unfold proj
  refine Finset.sum_congr rfl fun k _ => ?_
  exact congrArg₂ (fun a b : EReal => a * b) (scratch m hO c t.val t.isLt r k R hR) (iblk2_apply m hO c t k n N hN)

/-! ## The whole array -/

/-- What point `t` writes back is its block of the result. -/
theorem flushed_eq (t : Fin (cfgM m hO).N) :
    (dats m hO 0 c).flushed 3 t = (((cfgM m hO).win 3).blk t).view.read (Elt Ideal)
      (G (m ((c : Thread nD τ).loc main_arg0)) (m ((c : Thread nD τ).loc main_arg1)) (m ((c : Thread nD τ).loc main_arg2))) := by
  show ((cfgM m hO).win 3).cut ((cfgM m hO).grid.coords t) ((dats m hO 0 c).after 3 t) = _
  rw [after0_3]
  refine funext fun (j : S2048x512.Idx) => ?_
  let y : S16384x9728.Idx := (((cfgM m hO).win 3).rect t).emb j
  show (outsAt0 m hO c t.val t.isLt).1 j = G _ _ _ y
  have e := idx3 t
  have e0 : (y 0 : Nat) = t.val / 19 * 2048 + (j 0).val := by
    refine (((cfgM m hO).win 3).rect_emb_val t j (0 : Fin 2)).trans ?_
    show cc0_transform_3 (grid0.coords t) 0 * 2048 + _ = _
    rw [e]; rfl
  have e1 : (y 1 : Nat) = t.val % 19 * 512 + (j 1).val := by
    refine (((cfgM m hO).win 3).rect_emb_val t j (1 : Fin 2)).trans ?_
    show cc0_transform_3 (grid0.coords t) 1 * 512 + _ = _
    rw [e]; rfl
  have h1 : (j 1).val < 512 := (j 1).isLt
  have hc := coord1 t
  unfold G
  refine (congrArg (outsAt0 m hO c t.val t.isLt).1 (eq_ix2 (n0 := 2048) (n1 := 512) j)).trans (block m hO c t (j 0) (j 1) _ _ e0 ?_)
  have hq : (y 1 : Nat) / 512 = ((grid0.coords t) 1).val := by rw [e1, hc]; omega
  have hr : (y 1 : Nat) % 512 = (j 1).val := by rw [e1]; omega
  show (lit0 _).toNat * 512 + (y 1 : Nat) % 512 = _
  rw [hr]
  exact congrArg (fun q => (lit0 q).toNat * 512 + (j 1).val) (Fin.ext hq)

/-- The blocks tile the result. -/
theorem cover (i : S16384x9728.Idx) :
    ∃ t : Fin (cfgM m hO).N, ((cfgM m hO).win 3).flush t = true ∧ i ∈ (((cfgM m hO).win 3).blk t).view.set := by
  have h0 : (i 0 : Nat) < 16384 := (i 0).isLt
  have h1 : (i 1 : Nat) < 9728 := (i 1).isLt
  have hlt : (i 0 : Nat) / 2048 * 19 + (i 1 : Nat) / 512 < grid0.N := by rw [N_0]; omega
  refine ⟨⟨_, hlt⟩, flush0_3 _ _, ?_⟩
  show i ∈ ((View.whole main_v0).slice (((cfgM m hO).win 3).rect ⟨_, hlt⟩)).set
  set_option backward.isDefEq.respectTransparency false in rw [View.set_slice_whole, Rect.mem_set_unit]
  have e := idx3 ⟨_, hlt⟩
  intro a
  match a with
  | ⟨0, _⟩ =>
    show cc0_transform_3 (grid0.coords ⟨_, hlt⟩) 0 * 2048 ≤ (i 0 : Nat) ∧ (i 0 : Nat) < cc0_transform_3 (grid0.coords ⟨_, hlt⟩) 0 * 2048 + 2048
    rw [e]
    show ((i 0 : Nat) / 2048 * 19 + (i 1 : Nat) / 512) / 19 * 2048 ≤ (i 0 : Nat) ∧ (i 0 : Nat) < ((i 0 : Nat) / 2048 * 19 + (i 1 : Nat) / 512) / 19 * 2048 + 2048
    omega
  | ⟨1, _⟩ =>
    show cc0_transform_3 (grid0.coords ⟨_, hlt⟩) 1 * 512 ≤ (i 1 : Nat) ∧ (i 1 : Nat) < cc0_transform_3 (grid0.coords ⟨_, hlt⟩) 1 * 512 + 512
    rw [e]
    show ((i 0 : Nat) / 2048 * 19 + (i 1 : Nat) / 512) % 19 * 512 ≤ (i 1 : Nat) ∧ (i 1 : Nat) < ((i 0 : Nat) / 2048 * 19 + (i 1 : Nat) / 512) % 19 * 512 + 512
    omega

/-- So the result array ends at `G` of the arguments, -/
theorem final : (dats m hO 0 c).arrAt 3 (cfgM m hO).N
    = G (m ((c : Thread nD τ).loc main_arg0)) (m ((c : Thread nD τ).loc main_arg1)) (m ((c : Thread nD τ).loc main_arg2)) :=
  (dats m hO 0 c).arrAt_eq_of_cover 3 _ (fun t _ => flushed_eq m hO c t) (cover m hO)

/-- and the run, read: the result at `G` of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final m (ok m) c),
      ((h c).1 0).trans (((dats m (ok m) 0 c).arrAt_in 0 rfl _).trans (V_main_arg0 m c)),
      ((h c).1 1).trans (((dats m (ok m) 0 c).arrAt_in 1 rfl _).trans (V_main_arg1 m c)),
      ((h c).1 2).trans (((dats m (ok m) 0 c).arrAt_in 2 rfl _).trans (V_main_arg2 m c))⟩)
    (run_main m ρ (ok m))

end Cert.Kernel2Ideal.InProj
-- ==== Proof.InProjRef.lean ====
/-
  The input projection's reference: its eight column pieces, cut from the product and laid side by
  side, are the product's columns in the order of the kernel's column table. So the two agree.
-/
module

public import proofs.«01_k».proof.Proof.InProj
public import proofs.«01_k».proof.Proof.Gen.Reference2Ideal.Run
public import proofs.«01_k».proof.Defs

@[expose] public section

set_option maxRecDepth 16384

noncomputable section

namespace Cert.Reference2Ideal.InProj

open Idealize.ShloMosaic Idealize.ShloMosaic.TcCoe Idealize.SL.Sem
open Cert.Reference2Ideal Cert.Reference2Ideal.Gen
open Cert.Kernel2Ideal.InProj (proj normed colOf G)

/-- The whole product, its columns still in the weight's order. -/
def whole (x : FVec Ideal S16384x2048 .f32) (g : FVec Ideal S1x2048 .f32) (w : FVec Ideal S2048x9728 .f32) :
    FVec Ideal S16384x9728 .f32 :=
  Host.dotGeneral dot_S16384x2048_S2048x9728_S16384x9728_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)) w

/-- The pieces of an array, side by side in the reference's order. -/
def pieces (y : FVec Ideal S16384x9728 .f32) : FVec Ideal S16384x9728 .bf16 :=
  truncf .bf16 (concatenate S16384x9728 1 [⟨S16384x4096, extractStridedSlice S16384x4096 ![0, 5632] y slices_S16384x9728_S16384x4096_0_5632⟩,
    ⟨S16384x1024, extractStridedSlice S16384x1024 ![0, 0] y slices_S16384x9728_S16384x1024_0_0⟩,
    ⟨S16384x1024, extractStridedSlice S16384x1024 ![0, 1536] y slices_S16384x9728_S16384x1024_0_1536⟩,
    ⟨S16384x1024, extractStridedSlice S16384x1024 ![0, 2560] y slices_S16384x9728_S16384x1024_0_2560⟩,
    ⟨S16384x1024, extractStridedSlice S16384x1024 ![0, 3584] y slices_S16384x9728_S16384x1024_0_3584⟩,
    ⟨S16384x1024, extractStridedSlice S16384x1024 ![0, 4608] y slices_S16384x9728_S16384x1024_0_4608⟩,
    ⟨S16384x256, extractStridedSlice S16384x256 ![0, 1024] y slices_S16384x9728_S16384x256_0_1024⟩,
    ⟨S16384x256, extractStridedSlice S16384x256 ![0, 1280] y slices_S16384x9728_S16384x256_0_1280⟩]
    concatenates_S16384x4096_S16384x1024_S16384x1024_S16384x1024_S16384x1024_S16384x1024_S16384x256_S16384x256_S16384x9728_d1) bitsLt_bf16_f32

theorem whole_apply (x : FVec Ideal S16384x2048 .f32) (g : FVec Ideal S1x2048 .f32) (w : FVec Ideal S2048x9728 .f32)
    (r : Fin 16384) (n : Fin 9728) : whole x g w (ix2 r n) = proj x g w r n := by
  unfold proj normed
  pointwise [whole]

theorem table : ∀ q : Fin 19, (Cert.Kernel2Ideal.lit0 q).toNat
    = if q.val < 8 then q.val + 11 else if q.val < 10 then q.val - 8 else if q.val < 18 then q.val - 7 else 2 := by decide

theorem colOf_val (n : Fin 9728) : (colOf n).val
    = (if n.val / 512 < 8 then n.val / 512 + 11 else if n.val / 512 < 10 then n.val / 512 - 8
        else if n.val / 512 < 18 then n.val / 512 - 7 else 2) * 512 + n.val % 512 := by
  show (Cert.Kernel2Ideal.lit0 ⟨n.val / 512, _⟩).toNat * 512 + n.val % 512 = _
  rw [table]

theorem pieces_apply (y : FVec Ideal S16384x9728 .f32) (r : Fin 16384) (n : Fin 9728) :
    pieces y (ix2 r n) = y (ix2 r (colOf n)) := by
  have hn := n.isLt
  have hc : (n.val / 512 < 8 ∧ (colOf n).val = (n.val / 512 + 11) * 512 + n.val % 512)
      ∨ (8 ≤ n.val / 512 ∧ n.val / 512 < 10 ∧ (colOf n).val = (n.val / 512 - 8) * 512 + n.val % 512)
      ∨ (10 ≤ n.val / 512 ∧ n.val / 512 < 18 ∧ (colOf n).val = (n.val / 512 - 7) * 512 + n.val % 512)
      ∨ (18 ≤ n.val / 512 ∧ (colOf n).val = 2 * 512 + n.val % 512) := by
    have := colOf_val n
    split_ifs at this <;> omega
  have key : ∀ a : Fin 9728, a.val = (colOf n).val → y (ix2 r a) = y (ix2 r (colOf n)) :=
    fun a h => congrArg (fun q => y (ix2 r q)) (Fin.ext h)
  pointwise [pieces]
  split_ifs <;> refine key _ ?_ <;> simp only [] <;> omega

theorem res_eq (m : (ℓ : Loc nD τ sig) → Buf (Elt Ideal) ℓ) (c : Dev nD) :
    Value.res_main_v22 m c = G (m ((c.tc : Thread nD τ).loc main_arg0)) (m ((c.tc : Thread nD τ).loc main_arg1)) (m ((c.tc : Thread nD τ).loc main_arg2)) := by
  have h : Value.res_main_v22 m c = pieces (whole (m ((c.tc : Thread nD τ).loc main_arg0)) (m ((c.tc : Thread nD τ).loc main_arg1)) (m ((c.tc : Thread nD τ).loc main_arg2))) := rfl
  rw [h]
  refine funext fun (j : S16384x9728.Idx) => ?_
  have hj : j = ix2 (j 0) (j 1) := by funext a; match a with | ⟨0, _⟩ => rfl | ⟨1, _⟩ => rfl
  refine (congrArg _ hj).trans ?_
  exact (pieces_apply _ (j 0) (j 1)).trans (whole_apply _ _ _ (j 0) (colOf (j 1)))

end Cert.Reference2Ideal.InProj

namespace Cert.Proof

open Idealize.ShloMosaic Idealize.SL.Sem

/-- The two programs of the input projection end with the same result from the same arguments. -/
theorem algebraic2 :
    algebraic_Kernel2Ideal_Reference2Ideal (hKernel2Ideal := Cert.Kernel2Ideal.Gen.facts) (hReference2Ideal := Cert.Reference2Ideal.Gen.facts) := by
  intro m g m' g' _ agree
  refine ⟨_, Cert.Kernel2Ideal.InProj.run m g, (θ_run _ _ _).mono (fun _ h c => ⟨?_, (h c).2⟩) (Cert.Reference2Ideal.Value.run m' g')⟩
  obtain ⟨e0, e1, e2⟩ := agree c
  refine (h c).1.trans ((Cert.Reference2Ideal.InProj.res_eq m' c).trans ?_)
  rw [e0, e1, e2]

end Cert.Proof
-- ==== Proof.Tile.lean ====
/-
  One tile of the recurrence: 256 rows, four chunks of 64, eight heads of 128 columns. The kernel
  goes through scratch buffers it fills window by window; here each buffer is one function of the
  tile's input blocks, put together from what a chunk (or a chunk and a head) computes.
-/
module

public import proofs.«01_k».proof.Proof.Gen.KernelIdeal.Frame
public import Idealize.ShloMosaic.Lib.Pipeline.Value
public import Idealize.ShloMosaic.Lib.Pointwise

@[expose] public section

set_option maxRecDepth 16384

noncomputable section

namespace Cert.KernelIdeal.Hgrn

open Idealize.ShloMosaic Idealize.ShloMosaic.TcCoe Idealize.SL.Sem
open Cert.KernelIdeal Cert.KernelIdeal.Gen

/-! ## Buffers from windows -/

section Windows
variable {α : Type}

/-- The columns of head `h` of a chunk. -/
def cols (h : Fin 8) (X : S64x1024.Idx → α) : S64x128.Idx → α :=
  fun x => X (ix2 (x 0) (⟨128 * h.val + (x 1).val, by have := (x 1).isLt; have : (x 1).val < 128 := this; omega⟩ : Fin 1024))

/-- The columns of head `h` of one row. -/
def cols1 (h : Fin 8) (X : S1x1024.Idx → α) : S1x128.Idx → α :=
  fun x => X (ix2 (x 0) (⟨128 * h.val + (x 1).val, by have : (x 1).val < 128 := (x 1).isLt; omega⟩ : Fin 1024))

/-- The rows of chunk `ci` of a tile. -/
def rows (ci : Fin 4) (X : S256x1024.Idx → α) : S64x1024.Idx → α :=
  fun x => X (ix2 (⟨64 * ci.val + (x 0).val, by have : (x 0).val < 64 := (x 0).isLt; omega⟩ : Fin 256) (x 1))

/-- The rows of chunk `ci` of a tile twice as wide. -/
def rows2 (ci : Fin 4) (X : S256x2048.Idx → α) : S64x2048.Idx → α :=
  fun x => X (ix2 (⟨64 * ci.val + (x 0).val, by have : (x 0).val < 64 := (x 0).isLt; omega⟩ : Fin 256) (x 1))

/-- The rows of chunk `ci` of an input block. -/
def rows3 (ci : Fin 4) (X : S1x256x1024.Idx → α) : S1x64x1024.Idx → α :=
  fun x => X (ix3 (x 0) (⟨64 * ci.val + (x 1).val, by have : (x 1).val < 64 := (x 1).isLt; omega⟩ : Fin 256) (x 2))

/-- Chunk `ci` and head `h` of an input block. -/
def unit3 (ci : Fin 4) (h : Fin 8) (X : S1x256x1024.Idx → α) : S1x64x128.Idx → α :=
  fun x => X (ix3 (x 0) (⟨64 * ci.val + (x 1).val, by have : (x 1).val < 64 := (x 1).isLt; omega⟩ : Fin 256)
    (⟨128 * h.val + (x 2).val, by have : (x 2).val < 128 := (x 2).isLt; omega⟩ : Fin 1024))

/-- A tile from its four chunks. -/
def unrollR (f : Fin 4 → S64x1024.Idx → α) : S256x1024.Idx → α := fun y =>
  f ⟨(y 0).val / 64, by have : (y 0).val < 256 := (y 0).isLt; omega⟩
    (ix2 (⟨(y 0).val % 64, Nat.mod_lt _ (by decide)⟩ : Fin 64) (y 1))

/-- A tile from its thirty-two units. -/
def unrollQ (f : Fin 4 → Fin 8 → S64x128.Idx → α) : S256x1024.Idx → α := fun y =>
  f ⟨(y 0).val / 64, by have : (y 0).val < 256 := (y 0).isLt; omega⟩
    ⟨(y 1).val / 128, by have : (y 1).val < 1024 := (y 1).isLt; omega⟩
    (ix2 (⟨(y 0).val % 64, Nat.mod_lt _ (by decide)⟩ : Fin 64) (⟨(y 1).val % 128, Nat.mod_lt _ (by decide)⟩ : Fin 128))

/-- An output block from its thirty-two units. -/
def unrollO (f : Fin 4 → Fin 8 → S1x64x128.Idx → α) : S1x256x1024.Idx → α := fun y =>
  f ⟨(y 1).val / 64, by have : (y 1).val < 256 := (y 1).isLt; omega⟩
    ⟨(y 2).val / 128, by have : (y 2).val < 1024 := (y 2).isLt; omega⟩
    (ix3 (y 0) (⟨(y 1).val % 64, Nat.mod_lt _ (by decide)⟩ : Fin 64) (⟨(y 2).val % 128, Nat.mod_lt _ (by decide)⟩ : Fin 128))

/-- The thirty-two score matrices. -/
def unrollA (f : Fin 4 → Fin 8 → S1x64x64.Idx → α) : S32x64x64.Idx → α := fun y =>
  f ⟨(y 0).val / 8, by have : (y 0).val < 32 := (y 0).isLt; omega⟩ ⟨(y 0).val % 8, Nat.mod_lt _ (by decide)⟩
    (ix3 (0 : Fin 1) (y 1) (y 2))

/-- The thirty-two state increments. -/
def unrollU (f : Fin 4 → Fin 8 → S1x1x128x128.Idx → α) : S4x8x128x128.Idx → α := fun y =>
  f (y 0) (y 1) (ix4 (0 : Fin 1) (0 : Fin 1) (y 2) (y 3))

/-- The four decay rows, in a buffer of eight. -/
def unrollD (f : Fin 4 → S1x1024.Idx → α) : S8x1024.Idx → α := fun y =>
  f ⟨(y 0).val % 4, Nat.mod_lt _ (by decide)⟩ (ix2 (0 : Fin 1) (y 1))

theorem at_R (f : Fin 4 → S64x1024.Idx → α) (ci : Fin 4) (o : Fin 2 → ℕ)
    (inb : ∀ a, o a + S64x1024.size a ≤ S256x1024.size a) (ho : o = ![64 * ci.val, 0]) (x : S64x1024.Idx) :
    f ci x = unrollR f ((Rect.unit (s := S256x1024) o S64x1024.size inb).emb x) := by
  subst ho
  have h0 : (x 0).val < 64 := (x 0).isLt
  unfold unrollR
  refine congr (congrArg f (Fin.ext ?_)) (funext fun a => ?_)
  · show ci.val = (64 * ci.val + 1 * (x 0).val) / 64; omega
  · match a with
    | ⟨0, _⟩ => exact Fin.ext (by show (x 0).val = (64 * ci.val + 1 * (x 0).val) % 64; omega)
    | ⟨1, _⟩ => exact Fin.ext (by show (x 1).val = (0 + 1 * (x 1).val); omega)

theorem at_Q (f : Fin 4 → Fin 8 → S64x128.Idx → α) (ci : Fin 4) (h : Fin 8) (o : Fin 2 → ℕ)
    (inb : ∀ a, o a + S64x128.size a ≤ S256x1024.size a) (ho : o = ![64 * ci.val, 128 * h.val]) (x : S64x128.Idx) :
    f ci h x = unrollQ f ((Rect.unit (s := S256x1024) o S64x128.size inb).emb x) := by
  subst ho
  have h0 : (x 0).val < 64 := (x 0).isLt
  have h1 : (x 1).val < 128 := (x 1).isLt
  unfold unrollQ
  refine congr (congr (congrArg f (Fin.ext ?_)) (Fin.ext ?_)) (funext fun a => ?_)
  · show ci.val = (64 * ci.val + 1 * (x 0).val) / 64; omega
  · show h.val = (128 * h.val + 1 * (x 1).val) / 128; omega
  · match a with
    | ⟨0, _⟩ => exact Fin.ext (by show (x 0).val = (64 * ci.val + 1 * (x 0).val) % 64; omega)
    | ⟨1, _⟩ => exact Fin.ext (by show (x 1).val = (128 * h.val + 1 * (x 1).val) % 128; omega)

theorem at_O (f : Fin 4 → Fin 8 → S1x64x128.Idx → α) (ci : Fin 4) (h : Fin 8) (o : Fin 3 → ℕ)
    (inb : ∀ a, o a + S1x64x128.size a ≤ S1x256x1024.size a) (ho : o = ![0, 64 * ci.val, 128 * h.val]) (x : S1x64x128.Idx) :
    f ci h x = unrollO f ((Rect.unit (s := S1x256x1024) o S1x64x128.size inb).emb x) := by
  subst ho
  have h0 : (x 1).val < 64 := (x 1).isLt
  have h1 : (x 2).val < 128 := (x 2).isLt
  unfold unrollO
  refine congr (congr (congrArg f (Fin.ext ?_)) (Fin.ext ?_)) (funext fun a => ?_)
  · show ci.val = (64 * ci.val + 1 * (x 1).val) / 64; omega
  · show h.val = (128 * h.val + 1 * (x 2).val) / 128; omega
  · match a with
    | ⟨0, _⟩ => exact Fin.ext (by show (x 0).val = (0 + 1 * (x 0).val); omega)
    | ⟨1, _⟩ => exact Fin.ext (by show (x 1).val = (64 * ci.val + 1 * (x 1).val) % 64; omega)
    | ⟨2, _⟩ => exact Fin.ext (by show (x 2).val = (128 * h.val + 1 * (x 2).val) % 128; omega)

theorem at_A (f : Fin 4 → Fin 8 → S1x64x64.Idx → α) (ci : Fin 4) (h : Fin 8) (o : Fin 3 → ℕ)
    (inb : ∀ a, o a + S1x64x64.size a ≤ S32x64x64.size a) (ho : o = ![8 * ci.val + h.val, 0, 0]) (x : S1x64x64.Idx) :
    f ci h x = unrollA f ((Rect.unit (s := S32x64x64) o S1x64x64.size inb).emb x) := by
  subst ho
  have h0 : (x 0).val < 1 := (x 0).isLt
  unfold unrollA
  refine congr (congr (congrArg f (Fin.ext ?_)) (Fin.ext ?_)) (funext fun a => ?_)
  · show ci.val = (8 * ci.val + h.val + 1 * (x 0).val) / 8; omega
  · show h.val = (8 * ci.val + h.val + 1 * (x 0).val) % 8; omega
  · match a with
    | ⟨0, _⟩ => exact Fin.ext (by show (x 0).val = 0; omega)
    | ⟨1, _⟩ => exact Fin.ext (by show (x 1).val = (0 + 1 * (x 1).val); omega)
    | ⟨2, _⟩ => exact Fin.ext (by show (x 2).val = (0 + 1 * (x 2).val); omega)

theorem at_U (f : Fin 4 → Fin 8 → S1x1x128x128.Idx → α) (ci : Fin 4) (h : Fin 8) (o : Fin 4 → ℕ)
    (inb : ∀ a, o a + S1x1x128x128.size a ≤ S4x8x128x128.size a) (ho : o = ![ci.val, h.val, 0, 0]) (x : S1x1x128x128.Idx) :
    f ci h x = unrollU f ((Rect.unit (s := S4x8x128x128) o S1x1x128x128.size inb).emb x) := by
  subst ho
  have h0 : (x 0).val < 1 := (x 0).isLt
  have h1 : (x 1).val < 1 := (x 1).isLt
  unfold unrollU
  refine congr (congr (congrArg f (Fin.ext ?_)) (Fin.ext ?_)) (funext fun a => ?_)
  · show ci.val = ci.val + 1 * (x 0).val; omega
  · show h.val = h.val + 1 * (x 1).val; omega
  · match a with
    | ⟨0, _⟩ => exact Fin.ext (by show (x 0).val = 0; omega)
    | ⟨1, _⟩ => exact Fin.ext (by show (x 1).val = 0; omega)
    | ⟨2, _⟩ => exact Fin.ext (by show (x 2).val = (0 + 1 * (x 2).val); omega)
    | ⟨3, _⟩ => exact Fin.ext (by show (x 3).val = (0 + 1 * (x 3).val); omega)

theorem at_D (f : Fin 4 → S1x1024.Idx → α) (ci : Fin 4) (o : Fin 2 → ℕ)
    (inb : ∀ a, o a + S1x1024.size a ≤ S8x1024.size a) (ho : o = ![ci.val, 0]) (x : S1x1024.Idx) :
    f ci x = unrollD f ((Rect.unit (s := S8x1024) o S1x1024.size inb).emb x) := by
  subst ho
  have h0 : (x 0).val < 1 := (x 0).isLt
  unfold unrollD
  refine congr (congrArg f (Fin.ext ?_)) (funext fun a => ?_)
  · show ci.val = (ci.val + 1 * (x 0).val) % 4; omega
  · match a with
    | ⟨0, _⟩ => exact Fin.ext (by show (x 0).val = 0; omega)
    | ⟨1, _⟩ => exact Fin.ext (by show (x 1).val = (0 + 1 * (x 1).val); omega)

/-- Reading a head's columns of a chunk back out of the tile. -/
theorem ld_cols (f : Fin 4 → S64x1024.Idx → α) (ci : Fin 4) (h : Fin 8) (o : Fin 2 → ℕ)
    (inb : ∀ a, o a + S64x128.size a ≤ S256x1024.size a) (ho : o = ![64 * ci.val, 128 * h.val]) :
    (fun x : S64x128.Idx => unrollR f ((Rect.unit (s := S256x1024) o S64x128.size inb).emb x)) = cols h (f ci) := by
  subst ho
  funext x
  have h0 : (x 0).val < 64 := (x 0).isLt
  unfold unrollR cols
  refine congr (congrArg f (Fin.ext ?_)) (funext fun a => ?_)
  · show (64 * ci.val + 1 * (x 0).val) / 64 = ci.val; omega
  · match a with
    | ⟨0, _⟩ => exact Fin.ext (by show (64 * ci.val + 1 * (x 0).val) % 64 = (x 0).val; omega)
    | ⟨1, _⟩ => exact Fin.ext (by show (128 * h.val + 1 * (x 1).val) = 128 * h.val + (x 1).val; omega)

/-- The rows of a chunk of the tile are the chunk. -/
theorem rows_unroll (f : Fin 4 → S64x1024.Idx → α) (ci : Fin 4) : rows ci (unrollR f) = f ci := by
  funext x
  have h0 : (x 0).val < 64 := (x 0).isLt
  unfold rows unrollR
  refine congr (congrArg f (Fin.ext ?_)) (funext fun a => ?_)
  · show (64 * ci.val + (x 0).val) / 64 = ci.val; omega
  · match a with
    | ⟨0, _⟩ => exact Fin.ext (by show (64 * ci.val + (x 0).val) % 64 = (x 0).val; omega)
    | ⟨1, _⟩ => rfl

theorem ld_rows (X : S256x1024.Idx → α) (ci : Fin 4) (o : Fin 2 → ℕ)
    (inb : ∀ a, o a + S64x1024.size a ≤ S256x1024.size a) (ho : o = ![64 * ci.val, 0]) :
    (fun x : S64x1024.Idx => X ((Rect.unit (s := S256x1024) o S64x1024.size inb).emb x)) = rows ci X := by
  subst ho
  funext x
  refine congrArg X (funext fun a => ?_)
  match a with
  | ⟨0, _⟩ => exact Fin.ext (by show 64 * ci.val + 1 * (x 0).val = 64 * ci.val + (x 0).val; omega)
  | ⟨1, _⟩ => exact Fin.ext (by show 0 + 1 * (x 1).val = (x 1).val; omega)

theorem ld_rows2 (X : S256x2048.Idx → α) (ci : Fin 4) (o : Fin 2 → ℕ)
    (inb : ∀ a, o a + S64x2048.size a ≤ S256x2048.size a) (ho : o = ![64 * ci.val, 0]) :
    (fun x : S64x2048.Idx => X ((Rect.unit (s := S256x2048) o S64x2048.size inb).emb x)) = rows2 ci X := by
  subst ho
  funext x
  refine congrArg X (funext fun a => ?_)
  match a with
  | ⟨0, _⟩ => exact Fin.ext (by show 64 * ci.val + 1 * (x 0).val = 64 * ci.val + (x 0).val; omega)
  | ⟨1, _⟩ => exact Fin.ext (by show 0 + 1 * (x 1).val = (x 1).val; omega)

theorem ld_rows3 (X : S1x256x1024.Idx → α) (ci : Fin 4) (o : Fin 3 → ℕ)
    (inb : ∀ a, o a + S1x64x1024.size a ≤ S1x256x1024.size a) (ho : o = ![0, 64 * ci.val, 0]) :
    (fun x : S1x64x1024.Idx => X ((Rect.unit (s := S1x256x1024) o S1x64x1024.size inb).emb x)) = rows3 ci X := by
  subst ho
  funext x
  refine congrArg X (funext fun a => ?_)
  match a with
  | ⟨0, _⟩ => exact Fin.ext (by show 0 + 1 * (x 0).val = (x 0).val; omega)
  | ⟨1, _⟩ => exact Fin.ext (by show 64 * ci.val + 1 * (x 1).val = 64 * ci.val + (x 1).val; omega)
  | ⟨2, _⟩ => exact Fin.ext (by show 0 + 1 * (x 2).val = (x 2).val; omega)

theorem ld_unit3 (X : S1x256x1024.Idx → α) (ci : Fin 4) (h : Fin 8) (o : Fin 3 → ℕ)
    (inb : ∀ a, o a + S1x64x128.size a ≤ S1x256x1024.size a) (ho : o = ![0, 64 * ci.val, 128 * h.val]) :
    (fun x : S1x64x128.Idx => X ((Rect.unit (s := S1x256x1024) o S1x64x128.size inb).emb x)) = unit3 ci h X := by
  subst ho
  funext x
  refine congrArg X (funext fun a => ?_)
  match a with
  | ⟨0, _⟩ => exact Fin.ext (by show 0 + 1 * (x 0).val = (x 0).val; omega)
  | ⟨1, _⟩ => exact Fin.ext (by show 64 * ci.val + 1 * (x 1).val = 64 * ci.val + (x 1).val; omega)
  | ⟨2, _⟩ => exact Fin.ext (by show 128 * h.val + 1 * (x 2).val = 128 * h.val + (x 2).val; omega)

theorem ld_D (f : Fin 4 → S1x1024.Idx → α) (ci : Fin 4) (h : Fin 8) (o : Fin 2 → ℕ)
    (inb : ∀ a, o a + S1x128.size a ≤ S8x1024.size a) (ho : o = ![ci.val, 128 * h.val]) :
    (fun x : S1x128.Idx => unrollD f ((Rect.unit (s := S8x1024) o S1x128.size inb).emb x)) = cols1 h (f ci) := by
  subst ho
  funext x
  have h0 : (x 0).val < 1 := (x 0).isLt
  unfold unrollD cols1
  refine congr (congrArg f (Fin.ext ?_)) (funext fun a => ?_)
  · show (ci.val + 1 * (x 0).val) % 4 = ci.val
    omega
  · match a with
    | ⟨0, _⟩ => exact Fin.ext (by show 0 = (x 0).val; omega)
    | ⟨1, _⟩ => exact Fin.ext (by show 128 * h.val + 1 * (x 1).val = 128 * h.val + (x 1).val; omega)

end Windows

/-! ## Reads of covered buffers -/

section Reads
variable {S : Shape} {e : EltTy} {sp : Space}

/-- A load from a buffer whose pieces are those of one function reads that function. -/
theorem rd_of (v : View sig .tc sp S e) (L : List (View.Piece (Elt Ideal) S e)) (G : S.Idx → Elt Ideal e)
    (hp : ∀ p ∈ L, ∀ x : p.1.shape.Idx, p.2 x = G (p.1.emb x)) (hc : ∀ y, ∃ p ∈ L, y ∈ p.1.set) (r : Rect S) :
    v.readCov L r.toLoadRect = fun x => G (r.emb x) := by
  rw [View.readCov_eq_canon']
  funext j
  exact View.canon_apply_of_pieces G L hp _ (hc _)

/-- The same where only the loaded window is known to be covered. -/
theorem rd_at (v : View sig .tc sp S e) (L : List (View.Piece (Elt Ideal) S e)) (G : S.Idx → Elt Ideal e)
    (hp : ∀ p ∈ L, ∀ x : p.1.shape.Idx, p.2 x = G (p.1.emb x)) (r : Rect S)
    (hc : ∀ x, ∃ p ∈ L, r.emb x ∈ p.1.set) :
    v.readCov L r.toLoadRect = fun x => G (r.emb x) := by
  rw [View.readCov_eq_canon']
  funext j
  exact View.canon_apply_of_pieces G L hp _ (hc _)

/-- A load from an input block. -/
theorem rd_in {arg : Memref sig .tc sp S e} (harg : arg.IsWhole) (X : S.Idx → Elt Ideal e) (r : Rect S) :
    View.readAt (Elt Ideal) arg.view r.toLoadRect (harg.unread X) = fun x => X (r.emb x) := by
  rw [View.readAt_eq_ld, harg.read_unread]
  rfl

/-- A list of pieces agrees with a function when its first does and the others do. -/
theorem fc {L : List (View.Piece (Elt Ideal) S e)} {p : View.Piece (Elt Ideal) S e} {G : S.Idx → Elt Ideal e}
    (h : ∀ x : p.1.shape.Idx, p.2 x = G (p.1.emb x))
    (hL : ∀ p ∈ L, ∀ x : p.1.shape.Idx, p.2 x = G (p.1.emb x)) :
    ∀ q ∈ p :: L, ∀ x : q.1.shape.Idx, q.2 x = G (q.1.emb x) :=
  List.forall_mem_cons.2 ⟨h, hL⟩

theorem fnil {G : S.Idx → Elt Ideal e} :
    ∀ q ∈ ([] : List (View.Piece (Elt Ideal) S e)), ∀ x : q.1.shape.Idx, q.2 x = G (q.1.emb x) :=
  List.forall_mem_nil _

theorem congr3 {α β γ δ : Sort _} (f : α → β → γ → δ) {a a' : α} {b b' : β} {d d' : γ} (ha : a = a')
    (hb : b = b') (hd : d = d') : f a b d = f a' b' d' := by rw [ha, hb, hd]

theorem congr5 {α β γ δ ε ζ : Sort _} (f : α → β → γ → δ → ε → ζ) {a a' : α} {b b' : β} {d d' : γ} {e e' : δ}
    {g g' : ε} (ha : a = a') (hb : b = b') (hd : d = d') (he : e = e') (hg : g = g') :
    f a b d e g = f a' b' d' e' g' := by rw [ha, hb, hd, he, hg]

theorem whole2 {n k : ℕ} {arg : Memref sig .tc sp ⟨2, ![n, k]⟩ e} (harg : arg.IsWhole)
    (X : (⟨2, ![n, k]⟩ : Shape).Idx → Elt Ideal e) (o : Fin 2 → ℕ)
    (inb : ∀ a, o a + (⟨2, ![n, k]⟩ : Shape).size a ≤ (⟨2, ![n, k]⟩ : Shape).size a) (ho : o = ![0, 0]) :
    View.readAt (Elt Ideal) arg.view (Rect.unit (s := ⟨2, ![n, k]⟩) o (⟨2, ![n, k]⟩ : Shape).size inb).toLoadRect
      (harg.unread X) = X := by
  subst ho
  rw [rd_in]
  funext x
  refine congrArg X (funext fun a => ?_)
  match a with
  | ⟨0, _⟩ => exact Fin.ext (by show 0 + 1 * (x 0).val = (x 0).val; omega)
  | ⟨1, _⟩ => exact Fin.ext (by show 0 + 1 * (x 1).val = (x 1).val; omega)

theorem whole3 {n k l : ℕ} {arg : Memref sig .tc sp ⟨3, ![n, k, l]⟩ e} (harg : arg.IsWhole)
    (X : (⟨3, ![n, k, l]⟩ : Shape).Idx → Elt Ideal e) (o : Fin 3 → ℕ)
    (inb : ∀ a, o a + (⟨3, ![n, k, l]⟩ : Shape).size a ≤ (⟨3, ![n, k, l]⟩ : Shape).size a) (ho : o = ![0, 0, 0]) :
    View.readAt (Elt Ideal) arg.view (Rect.unit (s := ⟨3, ![n, k, l]⟩) o (⟨3, ![n, k, l]⟩ : Shape).size inb).toLoadRect
      (harg.unread X) = X := by
  subst ho
  rw [rd_in]
  funext x
  refine congrArg X (funext fun a => ?_)
  match a with
  | ⟨0, _⟩ => exact Fin.ext (by show 0 + 1 * (x 0).val = (x 0).val; omega)
  | ⟨1, _⟩ => exact Fin.ext (by show 0 + 1 * (x 1).val = (x 1).val; omega)
  | ⟨2, _⟩ => exact Fin.ext (by show 0 + 1 * (x 2).val = (x 2).val; omega)

theorem in_rows {arg : Memref sig .tc sp S1x256x1024 e} (harg : arg.IsWhole) (X : S1x256x1024.Idx → Elt Ideal e)
    (ci : Fin 4) (o : Fin 3 → ℕ) (inb : ∀ a, o a + S1x64x1024.size a ≤ S1x256x1024.size a)
    (ho : o = ![0, 64 * ci.val, 0]) :
    View.readAt (Elt Ideal) arg.view (Rect.unit (s := S1x256x1024) o S1x64x1024.size inb).toLoadRect (harg.unread X)
      = rows3 ci X := (rd_in harg X _).trans (ld_rows3 X ci o inb ho)

theorem in_unit {arg : Memref sig .tc sp S1x256x1024 e} (harg : arg.IsWhole) (X : S1x256x1024.Idx → Elt Ideal e)
    (ci : Fin 4) (h : Fin 8) (o : Fin 3 → ℕ) (inb : ∀ a, o a + S1x64x128.size a ≤ S1x256x1024.size a)
    (ho : o = ![0, 64 * ci.val, 128 * h.val]) :
    View.readAt (Elt Ideal) arg.view (Rect.unit (s := S1x256x1024) o S1x64x128.size inb).toLoadRect (harg.unread X)
      = unit3 ci h X := (rd_in harg X _).trans (ld_unit3 X ci h o inb ho)

theorem piece_R (f : Fin 4 → S64x1024.Idx → Elt Ideal e) (ci : Fin 4) (o : Fin 2 → ℕ)
    (inb : ∀ a, o a + S64x1024.size a ≤ S256x1024.size a) (ho : o = ![64 * ci.val, 0])
    (w : S64x1024.Idx → Elt Ideal e) (hw : w = f ci) :
    ∀ x : S64x1024.Idx, w x = unrollR f ((Rect.unit (s := S256x1024) o S64x1024.size inb).emb x) :=
  fun x => (congrFun hw x).trans (at_R f ci o inb ho x)

theorem piece_Q (f : Fin 4 → Fin 8 → S64x128.Idx → Elt Ideal e) (ci : Fin 4) (h : Fin 8) (o : Fin 2 → ℕ)
    (inb : ∀ a, o a + S64x128.size a ≤ S256x1024.size a) (ho : o = ![64 * ci.val, 128 * h.val])
    (w : S64x128.Idx → Elt Ideal e) (hw : w = f ci h) :
    ∀ x : S64x128.Idx, w x = unrollQ f ((Rect.unit (s := S256x1024) o S64x128.size inb).emb x) :=
  fun x => (congrFun hw x).trans (at_Q f ci h o inb ho x)

theorem piece_O (f : Fin 4 → Fin 8 → S1x64x128.Idx → Elt Ideal e) (ci : Fin 4) (h : Fin 8) (o : Fin 3 → ℕ)
    (inb : ∀ a, o a + S1x64x128.size a ≤ S1x256x1024.size a) (ho : o = ![0, 64 * ci.val, 128 * h.val])
    (w : S1x64x128.Idx → Elt Ideal e) (hw : w = f ci h) :
    ∀ x : S1x64x128.Idx, w x = unrollO f ((Rect.unit (s := S1x256x1024) o S1x64x128.size inb).emb x) :=
  fun x => (congrFun hw x).trans (at_O f ci h o inb ho x)

theorem piece_A (f : Fin 4 → Fin 8 → S1x64x64.Idx → Elt Ideal e) (ci : Fin 4) (h : Fin 8) (o : Fin 3 → ℕ)
    (inb : ∀ a, o a + S1x64x64.size a ≤ S32x64x64.size a) (ho : o = ![8 * ci.val + h.val, 0, 0])
    (w : S1x64x64.Idx → Elt Ideal e) (hw : w = f ci h) :
    ∀ x : S1x64x64.Idx, w x = unrollA f ((Rect.unit (s := S32x64x64) o S1x64x64.size inb).emb x) :=
  fun x => (congrFun hw x).trans (at_A f ci h o inb ho x)

theorem piece_U (f : Fin 4 → Fin 8 → S1x1x128x128.Idx → Elt Ideal e) (ci : Fin 4) (h : Fin 8) (o : Fin 4 → ℕ)
    (inb : ∀ a, o a + S1x1x128x128.size a ≤ S4x8x128x128.size a) (ho : o = ![ci.val, h.val, 0, 0])
    (w : S1x1x128x128.Idx → Elt Ideal e) (hw : w = f ci h) :
    ∀ x : S1x1x128x128.Idx, w x = unrollU f ((Rect.unit (s := S4x8x128x128) o S1x1x128x128.size inb).emb x) :=
  fun x => (congrFun hw x).trans (at_U f ci h o inb ho x)

theorem piece_D (f : Fin 4 → S1x1024.Idx → Elt Ideal e) (ci : Fin 4) (o : Fin 2 → ℕ)
    (inb : ∀ a, o a + S1x1024.size a ≤ S8x1024.size a) (ho : o = ![ci.val, 0])
    (w : S1x1024.Idx → Elt Ideal e) (hw : w = f ci) :
    ∀ x : S1x1024.Idx, w x = unrollD f ((Rect.unit (s := S8x1024) o S1x1024.size inb).emb x) :=
  fun x => (congrFun hw x).trans (at_D f ci o inb ho x)

/-- The unit's window lies in the row of its chunk. -/
theorem mem_D (ci : Fin 4) (h : Fin 8) (o o' : Fin 2 → ℕ) (inb : ∀ a, o a + S1x128.size a ≤ S8x1024.size a)
    (inb' : ∀ a, o' a + S1x1024.size a ≤ S8x1024.size a) (ho : o = ![ci.val, 128 * h.val]) (ho' : o' = ![ci.val, 0])
    (x : S1x128.Idx) :
    (Rect.unit (s := S8x1024) o S1x128.size inb).emb x ∈ (Rect.unit (s := S8x1024) o' S1x1024.size inb').set := by
  subst ho ho'
  have e : (Rect.unit (s := S8x1024) ![ci.val, 128 * h.val] S1x128.size inb).emb x
      = (Rect.unit (s := S8x1024) ![ci.val, 0] S1x1024.size inb').idx
        (ix2 (x 0) (⟨128 * h.val + (x 1).val, by have : (x 1).val < 128 := (x 1).isLt; omega⟩ : Fin 1024)) := by
    funext a
    match a with
    | ⟨0, _⟩ => exact Fin.ext rfl
    | ⟨1, _⟩ => exact Fin.ext (by
        show 128 * h.val + 1 * (x 1).val = 0 + 1 * (128 * h.val + (x 1).val); omega)
  rw [e]
  exact LoadRect.idx_mem _ _

end Reads

/-! ## What a chunk, and a chunk and a head, computes -/

section Chunk
variable (x0 x1 x2 x3 : Vec Ideal S1x256x1024 .bf16) (x4 : Vec Ideal S1x1024 .f32) (x5 : Vec Ideal S1x128 .f32)

/-- The logarithms of the gates of a tile, beside what rounding them to half width loses. -/
def GH : S256x2048.Idx → Elt Ideal .bf16 := fun y =>
  if h : (y 1).val < 1024 then k0_pay10 (k0_pay9 x4 x1) (ix2 (y 0) (⟨(y 1).val, h⟩ : Fin 1024))
  else k0_pay11 (k0_pay8 x4 x1) (k0_pay9 x4 x1)
    (ix2 (y 0) (⟨(y 1).val - 1024, by have : (y 1).val < 2048 := (y 1).isLt; omega⟩ : Fin 1024))

/-- The running sums of the gate logarithms within a chunk. -/
def Bc (ci : Fin 4) : Vec Ideal S64x1024 .f32 := k0_pay12 k0_pay4 (rows2 ci (GH x1 x4))
/-- The keys of the tile. -/
def Kw : Vec Ideal S256x1024 .f32 := k0_pay7 x4 x1
/-- The keys of a chunk. -/
def Kc (ci : Fin 4) : Vec Ideal S64x1024 .f32 := rows ci (Kw x1 x4)
/-- The queries of a chunk, decayed to its middle. -/
def QTc (ci : Fin 4) : Vec Ideal S64x1024 .bf16 := k0_pay23 (Bc x1 x4 ci) (rows3 ci x0)
/-- The keys of a chunk, decayed to its middle. -/
def KTc (ci : Fin 4) : Vec Ideal S64x1024 .bf16 := k0_pay24 (Bc x1 x4 ci) (Kc x1 x4 ci)
/-- The queries of a chunk, decayed to its start. -/
def QEc (ci : Fin 4) : Vec Ideal S64x1024 .bf16 := k0_pay26 (k0_pay25 (Bc x1 x4 ci) (rows3 ci x0))
/-- The keys of a chunk, decayed to its end. -/
def KDc (ci : Fin 4) : Vec Ideal S64x1024 .bf16 :=
  k0_pay27 (k0_pay19 (Bc x1 x4 ci)) (k0_pay20 (Bc x1 x4 ci)) (k0_pay22 (Bc x1 x4 ci) (Kc x1 x4 ci))
/-- The decay of a whole chunk. -/
def DLc (ci : Fin 4) : Vec Ideal S1x1024 .f32 := k0_pay28 (k0_pay19 (Bc x1 x4 ci))
/-- The scores within a chunk. -/
def Ac (ci : Fin 4) (h : Fin 8) : Vec Ideal S1x64x64 .bf16 :=
  k0_pay61 k0_pay3 (cols h (QTc x0 x1 x4 ci)) (cols h (KTc x1 x4 ci))
/-- What a chunk adds to the state. -/
def Uc (ci : Fin 4) (h : Fin 8) : Vec Ideal S1x1x128x128 .f32 :=
  k0_pay100 (unit3 ci h x2) (cols h (KDc x1 x4 ci))
/-- What a chunk adds to its own outputs. -/
def OIc (ci : Fin 4) (h : Fin 8) : Vec Ideal S64x128 .f32 :=
  k0_pay138 (Ac x0 x1 x4 ci h) (unit3 ci h x2)
/-- The state after a chunk, from the state before. -/
def UPD (ci : Fin 4) (h : Fin 8) (st : Vec Ideal S1x128x128 .f32) : Vec Ideal S1x128x128 .f32 :=
  k0_pay180 (k0_pay177 st) (k0_pay179 (cols1 h (DLc x1 x4 ci))) (Uc x1 x2 x4 ci h)
/-- The gated, normalised output of a chunk, from the state before. -/
def OUTst (ci : Fin 4) (h : Fin 8) (st : Vec Ideal S1x128x128 .f32) : Vec Ideal S1x64x128 .bf16 :=
  k0_pay181 (k0_pay176 x5) (k0_pay178 st (OIc x0 x1 x2 x4 ci h) (cols h (QEc x0 x1 x4 ci))) (unit3 ci h x3)

/-- One head of a state. -/
def head (h : Fin 8) (s : Vec Ideal S8x128x128 .f32) : Vec Ideal S1x128x128 .f32 := fun x => s (ix3 h (x 1) (x 2))

variable (s0 : Vec Ideal S8x128x128 .f32)

/-- The state of head `h` after `n` chunks, begun at `s0`. -/
def SC : ℕ → Fin 8 → Vec Ideal S1x128x128 .f32
  | 0, h => head h s0
  | n + 1, h => UPD x1 x2 x4 (Fin.ofNat 4 n) h (SC n h)

/-- The output of chunk `ci` and head `h`. -/
def OUTc (ci : Fin 4) (h : Fin 8) : Vec Ideal S1x64x128 .bf16 :=
  OUTst x0 x1 x2 x3 x4 x5 ci h (SC x1 x2 x4 s0 ci.val h)

/-- The state buffer after `n` of the thirty-two updates, a head at a time. -/
def ST (n : ℕ) : S8x128x128.Idx → Elt Ideal .f32 := fun y =>
  if (y 0).val < n % 8 then SC x1 x2 x4 s0 (n / 8 + 1) (y 0) (ix3 (0 : Fin 1) (y 1) (y 2))
  else SC x1 x2 x4 s0 (n / 8) (y 0) (ix3 (0 : Fin 1) (y 1) (y 2))

theorem rd_S (v : View sig .tc .vmem S8x128x128 .f32) (L : List (View.Piece (Elt Ideal) S8x128x128 .f32)) (n : ℕ)
    (hL : View.canon L = ST x1 x2 x4 s0 n) (h : Fin 8) (hh : n % 8 = h.val) (o : Fin 3 → ℕ)
    (inb : ∀ a, o a + S1x128x128.size a ≤ S8x128x128.size a) (ho : o = ![h.val, 0, 0]) :
    v.readCov L (Rect.unit (s := S8x128x128) o S1x128x128.size inb).toLoadRect = SC x1 x2 x4 s0 (n / 8) h := by
  subst ho
  rw [View.readCov_eq_canon', hL]
  funext x
  have h0 : (x 0).val < 1 := (x 0).isLt
  have e0 : ((Rect.unit (s := S8x128x128) ![h.val, 0, 0] S1x128x128.size inb).emb x 0) = h :=
    Fin.ext (by show h.val + 1 * (x 0).val = h.val; omega)
  have e1 : (ix3 (0 : Fin 1) ((Rect.unit (s := S8x128x128) ![h.val, 0, 0] S1x128x128.size inb).emb x 1)
      ((Rect.unit (s := S8x128x128) ![h.val, 0, 0] S1x128x128.size inb).emb x 2) : S1x128x128.Idx) = x := by
    funext a
    match a with
    | ⟨0, _⟩ => exact Fin.ext (by show 0 = (x 0).val; omega)
    | ⟨1, _⟩ => exact Fin.ext (by show 0 + 1 * (x 1).val = (x 1).val; omega)
    | ⟨2, _⟩ => exact Fin.ext (by show 0 + 1 * (x 2).val = (x 2).val; omega)
  show ST x1 x2 x4 s0 n ((Rect.unit (s := S8x128x128) ![h.val, 0, 0] S1x128x128.size inb).emb x) = _
  unfold ST
  rw [e0, e1, if_neg (by omega)]

theorem step_S (L : List (View.Piece (Elt Ideal) S8x128x128 .f32)) (n : ℕ)
    (hL : View.canon L = ST x1 x2 x4 s0 n) (h : Fin 8) (hh : n % 8 = h.val) (o : Fin 3 → ℕ)
    (inb : ∀ a, o a + S1x128x128.size a ≤ S8x128x128.size a) (ho : o = ![h.val, 0, 0])
    (w : Vec Ideal S1x128x128 .f32) (hw : w = SC x1 x2 x4 s0 (n / 8 + 1) h) :
    View.canon (⟨Rect.unit (s := S8x128x128) o S1x128x128.size inb, w⟩ :: L) = ST x1 x2 x4 s0 (n + 1) := by
  subst ho
  funext y
  by_cases hy : (y 0).val = h.val
  · have e : y = (Rect.unit (s := S8x128x128) ![h.val, 0, 0] S1x128x128.size inb).emb
        (ix3 (0 : Fin 1) (y 1) (y 2)) := by
      funext a
      match a with
      | ⟨0, _⟩ => exact Fin.ext (by show (y 0).val = h.val + 1 * 0; omega)
      | ⟨1, _⟩ => exact Fin.ext (by show (y 1).val = 0 + 1 * (y 1).val; omega)
      | ⟨2, _⟩ => exact Fin.ext (by show (y 2).val = 0 + 1 * (y 2).val; omega)
    have e2 := View.canon_cons_emb (Val := Elt Ideal) (Rect.unit (s := S8x128x128) ![h.val, 0, 0] S1x128x128.size inb) w L
      (ix3 (0 : Fin 1) (y 1) (y 2))
    rw [← e] at e2
    refine e2.trans ?_
    rw [hw]
    have hh' : y 0 = h := Fin.ext hy
    unfold ST
    rw [hh']
    by_cases h7 : h.val = 7
    · rw [if_neg (by omega), show (n + 1) / 8 = n / 8 + 1 by omega]
    · rw [if_pos (by omega), show (n + 1) / 8 = n / 8 by omega]
  · have hm : y ∉ (Rect.unit (s := S8x128x128) ![h.val, 0, 0] S1x128x128.size inb).set := by
      intro hm
      obtain ⟨j, hj⟩ := LoadRect.exists_idx_of_mem _ hm
      have hj1 : (j 0).val < 1 := (j 0).isLt
      have hj2 : (y 0).val = h.val + 1 * (j 0).val := by rw [← hj]; rfl
      omega
    have e3 := View.canon_cons_of_not_mem (Val := Elt Ideal)
      (⟨Rect.unit (s := S8x128x128) ![h.val, 0, 0] S1x128x128.size inb, w⟩ :
        View.Piece (Elt Ideal) S8x128x128 .f32) L hm
    refine e3.trans ((congrFun hL y).trans ?_)
    unfold ST
    by_cases h7 : h.val = 7
    · have hy8 : (y 0).val < 8 := (y 0).isLt
      rw [if_pos (by omega), if_neg (by omega), show (n + 1) / 8 = n / 8 + 1 by omega]
    · by_cases hlt : (y 0).val < h.val
      · rw [if_pos (by omega), if_pos (by omega), show (n + 1) / 8 = n / 8 by omega]
      · rw [if_neg (by omega), if_neg (by omega), show (n + 1) / 8 = n / 8 by omega]

theorem step_SC (L : List (View.Piece (Elt Ideal) S8x128x128 .f32)) (n : ℕ)
    (hL : View.canon L = ST x1 x2 x4 s0 n) (ci : Fin 4) (h : Fin 8) (hci : n / 8 = ci.val) (hh : n % 8 = h.val)
    (o : Fin 3 → ℕ) (inb : ∀ a, o a + S1x128x128.size a ≤ S8x128x128.size a) (ho : o = ![h.val, 0, 0])
    (w : Vec Ideal S1x128x128 .f32) (hw : w = UPD x1 x2 x4 ci h (SC x1 x2 x4 s0 ci.val h)) :
    View.canon (⟨Rect.unit (s := S8x128x128) o S1x128x128.size inb, w⟩ :: L) = ST x1 x2 x4 s0 (n + 1) := by
  refine step_S x1 x2 x4 s0 L n hL h hh o inb ho w (hw.trans ?_)
  rw [hci]
  show _ = UPD x1 x2 x4 (Fin.ofNat 4 ci.val) h (SC x1 x2 x4 s0 ci.val h)
  rw [show Fin.ofNat 4 ci.val = ci from Fin.ext (Nat.mod_eq_of_lt ci.isLt)]

theorem rd_SC (v : View sig .tc .vmem S8x128x128 .f32) (L : List (View.Piece (Elt Ideal) S8x128x128 .f32)) (n : ℕ)
    (hL : View.canon L = ST x1 x2 x4 s0 n) (ci : Fin 4) (h : Fin 8) (hci : n / 8 = ci.val) (hh : n % 8 = h.val)
    (o : Fin 3 → ℕ) (inb : ∀ a, o a + S1x128x128.size a ≤ S8x128x128.size a) (ho : o = ![h.val, 0, 0]) :
    v.readCov L (Rect.unit (s := S8x128x128) o S1x128x128.size inb).toLoadRect = SC x1 x2 x4 s0 ci.val h := by
  rw [← hci]
  exact rd_S x1 x2 x4 s0 v L n hL h hh o inb ho

/-- Reading a head of the state carried into the tile. -/
theorem in_head {arg : Memref sig .tc .vmem S8x128x128 .f32} (harg : arg.IsWhole) (h : Fin 8) (o : Fin 3 → ℕ)
    (inb : ∀ a, o a + S1x128x128.size a ≤ S8x128x128.size a) (ho : o = ![h.val, 0, 0]) :
    View.readAt (Elt Ideal) arg.view (Rect.unit (s := S8x128x128) o S1x128x128.size inb).toLoadRect (harg.unread s0)
      = SC x1 x2 x4 s0 0 h := by
  subst ho
  rw [rd_in]
  funext x
  have h0 : (x 0).val < 1 := (x 0).isLt
  refine congrArg s0 (funext fun a => ?_)
  match a with
  | ⟨0, _⟩ => exact Fin.ext (by show h.val + 1 * (x 0).val = h.val; omega)
  | ⟨1, _⟩ => exact Fin.ext (by show 0 + 1 * (x 1).val = (x 1).val; omega)
  | ⟨2, _⟩ => exact Fin.ext (by show 0 + 1 * (x 2).val = (x 2).val; omega)

/-- The first chunk's piece of a head, in the state after the first chunk. -/
theorem piece_S (h : Fin 8) (o : Fin 3 → ℕ) (inb : ∀ a, o a + S1x128x128.size a ≤ S8x128x128.size a)
    (ho : o = ![h.val, 0, 0]) (w : Vec Ideal S1x128x128 .f32)
    (hw : w = UPD x1 x2 x4 0 h (SC x1 x2 x4 s0 0 h)) :
    ∀ x : S1x128x128.Idx, w x = ST x1 x2 x4 s0 8 ((Rect.unit (s := S8x128x128) o S1x128x128.size inb).emb x) := by
  subst ho
  intro x
  rw [hw]
  have h0 : (x 0).val < 1 := (x 0).isLt
  have e0 : ((Rect.unit (s := S8x128x128) ![h.val, 0, 0] S1x128x128.size inb).emb x 0) = h :=
    Fin.ext (by show h.val + 1 * (x 0).val = h.val; omega)
  have e1 : (ix3 (0 : Fin 1) ((Rect.unit (s := S8x128x128) ![h.val, 0, 0] S1x128x128.size inb).emb x 1)
      ((Rect.unit (s := S8x128x128) ![h.val, 0, 0] S1x128x128.size inb).emb x 2) : S1x128x128.Idx) = x := by
    funext a
    match a with
    | ⟨0, _⟩ => exact Fin.ext (by show 0 = (x 0).val; omega)
    | ⟨1, _⟩ => exact Fin.ext (by show 0 + 1 * (x 1).val = (x 1).val; omega)
    | ⟨2, _⟩ => exact Fin.ext (by show 0 + 1 * (x 2).val = (x 2).val; omega)
  unfold ST
  rw [e0, e1, if_neg (by omega)]
  rfl

/-- The state buffer before the first update. -/
theorem zero_S (L : List (View.Piece (Elt Ideal) S8x128x128 .f32)) (o : Fin 3 → ℕ)
    (inb : ∀ a, o a + S8x128x128.size a ≤ S8x128x128.size a) (ho : o = ![0, 0, 0]) :
    View.canon (⟨Rect.unit (s := S8x128x128) o S8x128x128.size inb, s0⟩ :: L) = ST x1 x2 x4 s0 0 := by
  subst ho
  funext y
  have e : (Rect.unit (s := S8x128x128) ![0, 0, 0] S8x128x128.size inb).emb y = y := by
    funext a
    match a with
    | ⟨0, _⟩ => exact Fin.ext (by show 0 + 1 * (y 0).val = (y 0).val; omega)
    | ⟨1, _⟩ => exact Fin.ext (by show 0 + 1 * (y 1).val = (y 1).val; omega)
    | ⟨2, _⟩ => exact Fin.ext (by show 0 + 1 * (y 2).val = (y 2).val; omega)
  have e2 := View.canon_cons_emb (Val := Elt Ideal) (Rect.unit (s := S8x128x128) ![0, 0, 0] S8x128x128.size inb) s0 L y
  refine (congrArg (View.canon (⟨Rect.unit (s := S8x128x128) ![0, 0, 0] S8x128x128.size inb, s0⟩ :: L)) e.symm).trans
    (e2.trans ?_)
  unfold ST
  rw [if_neg (by omega)]
  refine congrArg s0 (funext fun a => ?_)
  match a with
  | ⟨0, _⟩ => rfl
  | ⟨1, _⟩ => rfl
  | ⟨2, _⟩ => rfl

/-- The piece of the gate logarithms. -/
theorem piece_G1 (o : Fin 2 → ℕ) (inb : ∀ a, o a + S256x1024.size a ≤ S256x2048.size a) (ho : o = ![0, 0])
    (w : Vec Ideal S256x1024 .bf16) (hw : w = k0_pay10 (k0_pay9 x4 x1)) :
    ∀ x : S256x1024.Idx, w x = GH x1 x4 ((Rect.unit (s := S256x2048) o S256x1024.size inb).emb x) := by
  subst ho hw
  intro x
  have h1 : (x 1).val < 1024 := (x 1).isLt
  refine Eq.trans ?_ (dif_pos (show 0 + 1 * (x 1).val < 1024 by omega)).symm
  refine congrArg (k0_pay10 (k0_pay9 x4 x1)) (funext fun a => ?_)
  match a with
  | ⟨0, _⟩ => exact Fin.ext (by show (x 0).val = 0 + 1 * (x 0).val; omega)
  | ⟨1, _⟩ => exact Fin.ext (by show (x 1).val = 0 + 1 * (x 1).val; omega)

/-- The piece of what rounding loses. -/
theorem piece_G2 (o : Fin 2 → ℕ) (inb : ∀ a, o a + S256x1024.size a ≤ S256x2048.size a) (ho : o = ![0, 1024])
    (w : Vec Ideal S256x1024 .bf16) (hw : w = k0_pay11 (k0_pay8 x4 x1) (k0_pay9 x4 x1)) :
    ∀ x : S256x1024.Idx, w x = GH x1 x4 ((Rect.unit (s := S256x2048) o S256x1024.size inb).emb x) := by
  subst ho hw
  intro x
  have h1 : (x 1).val < 1024 := (x 1).isLt
  refine Eq.trans ?_ (dif_neg (show ¬ (1024 + 1 * (x 1).val < 1024) by omega)).symm
  refine congrArg (k0_pay11 (k0_pay8 x4 x1) (k0_pay9 x4 x1)) (funext fun a => ?_)
  match a with
  | ⟨0, _⟩ => exact Fin.ext (by show (x 0).val = 0 + 1 * (x 0).val; omega)
  | ⟨1, _⟩ => exact Fin.ext (by show (x 1).val = 1024 + 1 * (x 1).val - 1024; omega)

/-- The piece of a whole tile. -/
theorem piece_W (X : Vec Ideal S256x1024 .f32) (o : Fin 2 → ℕ)
    (inb : ∀ a, o a + S256x1024.size a ≤ S256x1024.size a) (ho : o = ![0, 0])
    (w : Vec Ideal S256x1024 .f32) (hw : w = X) :
    ∀ x : S256x1024.Idx, w x = X ((Rect.unit (s := S256x1024) o S256x1024.size inb).emb x) := by
  subst ho hw
  intro x
  refine congrArg w (funext fun a => ?_)
  match a with
  | ⟨0, _⟩ => exact Fin.ext (by show (x 0).val = 0 + 1 * (x 0).val; omega)
  | ⟨1, _⟩ => exact Fin.ext (by show (x 1).val = 0 + 1 * (x 1).val; omega)

end Chunk

end Cert.KernelIdeal.Hgrn
-- ==== Proof.Model.lean ====
/-
  The recurrence. One head carries a state `S k v`; a chunk of 64 rows has queries, keys, log gates and
  values, of which the keys and the log gates are real numbers and the rest may be infinite. Both programs compute `out` and `next` below: the reference from
  the differences of the running sums of log gates, the kernel from factors scaled by half the chunk's
  last sum.
-/
module

public import Idealize.ShloMosaic.PureOps.Ideal.Laws
public import Idealize.ShloMosaic.Lib.IdealHost
public import Idealize.ShloMosaic.Lib.Pointwise
public import Mathlib.Analysis.SpecialFunctions.Log.Basic
public import Mathlib.Analysis.SpecialFunctions.Trigonometric.DerivHyp

@[expose] public section

noncomputable section

namespace Cert.Hgrn

open Idealize.ShloMosaic
open scoped BigOperators

/-! ## The formulas -/

/-- The logistic function. -/
def sg (x : ℝ) : ℝ := 1 / (1 + Real.exp (-x))

/-- The gate of a projection `f` above the lower bound `l`. -/
def gate (l f : ℝ) : ℝ := l + (1 - l) * sg f

/-- The scale of the queries, the value of its bit pattern. -/
def qc : ℝ := 11863283 / 134217728

/-- A query: the projection gated by itself, scaled. -/
def qry (x : EReal) : EReal := x * Ideal.div 1 (1 + Ideal.exp (-x)) * (qc : EReal)

variable {A : Type}

/-- The running sum of the log gates within a chunk. -/
def cum (g : Fin 64 → A → ℝ) (t : Fin 64) (c : A) : ℝ := ∑ s : Fin 64, if s ≤ t then g s c else 0

/-- The decayed products of a query row and a key row. -/
def att (q : Fin 64 → Fin 128 → EReal) (k g : Fin 64 → Fin 128 → ℝ) (t s : Fin 64) : EReal :=
  if s ≤ t then ∑ c : Fin 128, q t c * ((k s c * Real.exp (cum g t c - cum g s c) : ℝ) : EReal) else 0

/-- A chunk's output rows from the state before it. -/
def out (q : Fin 64 → Fin 128 → EReal) (k g : Fin 64 → Fin 128 → ℝ) (v : Fin 64 → Fin 128 → EReal)
    (S : Fin 128 → Fin 128 → EReal) (t : Fin 64) (d : Fin 128) : EReal :=
  ∑ s : Fin 64, att q k g t s * v s d + ∑ c : Fin 128, q t c * ((Real.exp (cum g t c) : ℝ) : EReal) * S c d

/-- The state after a chunk. -/
def next (k g : Fin 64 → Fin 128 → ℝ) (v : Fin 64 → Fin 128 → EReal) (S : Fin 128 → Fin 128 → EReal)
    (c d : Fin 128) : EReal :=
  ((Real.exp (cum g 63 c) : ℝ) : EReal) * S c d
    + ∑ s : Fin 64, ((k s c * Real.exp (cum g 63 c - cum g s c) : ℝ) : EReal) * v s d

/-- The states along a sequence of chunks. -/
def state (k g : ℕ → Fin 64 → Fin 128 → ℝ) (v : ℕ → Fin 64 → Fin 128 → EReal) : ℕ → Fin 128 → Fin 128 → EReal
  | 0 => fun _ _ => 0
  | n + 1 => next (k n) (g n) (v n) (state k g v n)

theorem sg_pos (x : ℝ) : 0 < sg x := by unfold sg; positivity

theorem sg_lt_one (x : ℝ) : sg x < 1 := by
  unfold sg; rw [div_lt_one (by positivity)]; linarith [Real.exp_pos (-x)]

theorem gate_pos {l : ℝ} (h0 : 0 ≤ l) (h1 : l ≤ 1) (f : ℝ) : 0 < gate l f := by
  unfold gate
  rcases eq_or_lt_of_le h0 with h | h
  · rw [← h]; simpa using sg_pos f
  · have := mul_nonneg (sub_nonneg.2 h1) (sg_pos f).le; linarith

/-- The logistic function from the hyperbolic tangent at half the argument. -/
theorem half_tanh (x : ℝ) : 1 + Real.tanh (1 / 2 * x) = 2 * sg x := by
  unfold sg
  rw [Real.tanh_eq_sinh_div_cosh, Real.sinh_eq, Real.cosh_eq]
  have e1 : Real.exp (-x) = Real.exp (-(1 / 2 * x)) * Real.exp (-(1 / 2 * x)) := by
    rw [← Real.exp_add]; congr 1; ring
  have e2 : Real.exp (1 / 2 * x) * Real.exp (-(1 / 2 * x)) = 1 := by
    rw [← Real.exp_add]; simp
  have p1 := Real.exp_pos (1 / 2 * x)
  have p2 := Real.exp_pos (-(1 / 2 * x))
  rw [e1]
  generalize Real.exp (1 / 2 * x) = a at *
  generalize Real.exp (-(1 / 2 * x)) = b at *
  field_simp
  nlinarith

/-! ## Extended reals -/

theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem sum_coe {n : ℕ} {F : Fin n → EReal} (f : Fin n → ℝ) (h : ∀ i, F i = (f i : EReal)) :
    ∑ i, F i = ((∑ i, f i : ℝ) : EReal) := by
  rw [coe_sum]; exact Finset.sum_congr rfl fun i _ => h i

theorem half_f32 : Ideal.ofBits .f32 0x3F000000#32 = ((1 / 2 : ℝ) : EReal) := by
  simp [Ideal.ofBits, Ideal.ieee, -EReal.coe_mul]; norm_num

theorem qc_f32 : Ideal.ofBits .f32 0x3DB504F3#32 = (qc : EReal) := by
  unfold qc; simp [Ideal.ofBits, Ideal.ieee, -EReal.coe_mul]; norm_num

theorem qc2_f32 : Ideal.ofBits .f32 0x3D3504F3#32 = ((qc / 2 : ℝ) : EReal) := by
  unfold qc; simp [Ideal.ofBits, Ideal.ieee, -EReal.coe_mul]; norm_num

theorem neg_inf_f32 : Ideal.ofBits .f32 0xFF800000#32 = ⊥ := by
  simp [Ideal.ofBits, Ideal.ieee]

theorem inf_bf16 : Ideal.ofBits .bf16 0x7F80#16 = ⊤ := by
  simp [Ideal.ofBits, Ideal.ieee]

theorem div_one_coe {x : ℝ} (h : x ≠ 0) : Ideal.div 1 (x : EReal) = ((1 / x : ℝ) : EReal) := by
  unfold Ideal.div
  rw [if_neg (by simpa using h), one_mul, ← EReal.coe_inv, one_div]

/-- The logistic function as the reference writes it. -/
theorem sg_coe (x : ℝ) : Ideal.div 1 (1 + Ideal.exp (-(x : EReal))) = (sg x : EReal) := by
  rw [← EReal.coe_neg, Ideal.exp_coe, ← EReal.coe_one, ← EReal.coe_add, EReal.coe_one, div_one_coe (by positivity)]
  rfl

/-- Half of `1 + tanh (x / 2)` is the logistic function, at the infinities too. -/
theorem half_tanh_ereal (x : EReal) :
    ((1 / 2 : ℝ) : EReal) * (1 + Ideal.tanh (((1 / 2 : ℝ) : EReal) * x)) = Ideal.div 1 (1 + Ideal.exp (-x)) := by
  induction x with
  | bot =>
    rw [EReal.coe_mul_bot_of_pos (by norm_num), Ideal.tanh_bot, EReal.neg_bot, Ideal.exp_top]
    have h1 : (1 : EReal) + -1 = 0 := by
      rw [← EReal.coe_one, ← EReal.coe_neg, ← EReal.coe_add]; simp
    have h2 : (1 : EReal) + ⊤ = ⊤ := by rw [← EReal.coe_one]; exact EReal.coe_add_top 1
    rw [h1, h2, mul_zero]; simp [Ideal.div]
  | top =>
    rw [EReal.coe_mul_top_of_pos (by norm_num), Ideal.tanh_top, EReal.neg_top, Ideal.exp_bot, add_zero]
    have h1 : (1 : EReal) + 1 = ((2 : ℝ) : EReal) := by
      rw [← EReal.coe_one, ← EReal.coe_add]; norm_num
    rw [h1, ← EReal.coe_mul, ← EReal.coe_one, EReal.coe_one, ← EReal.coe_one, EReal.coe_one]
    have h2 : Ideal.div 1 1 = (1 : EReal) := by
      have := div_one_coe (x := 1) one_ne_zero; simpa using this
    rw [h2]; norm_num
  | coe r =>
    rw [sg_coe, ← EReal.coe_mul, Ideal.tanh_coe, ← EReal.coe_one, ← EReal.coe_add, half_tanh, ← EReal.coe_mul]
    congr 1; ring

/-- A query as the kernel writes it: half the scale, and the hyperbolic tangent. -/
theorem qry_tanh (x : EReal) :
    x * ((qc / 2 : ℝ) : EReal) * (1 + Ideal.tanh (((1 / 2 : ℝ) : EReal) * x)) = qry x := by
  unfold qry
  rw [← half_tanh_ereal, show (qc / 2 : ℝ) = qc * (1 / 2) by ring, EReal.coe_mul]
  ac_rfl

theorem log_coe_pos {x : ℝ} (h : 0 < x) : Ideal.log (x : EReal) = (Real.log x : EReal) := by
  rw [Ideal.log_coe, if_neg (not_le.2 h)]

/-! ## The whole sequence of one batch row -/

/-- Column `c` of head `h`. -/
def hc (h : Fin 8) (c : Fin 128) : Fin 1024 := ⟨128 * h.val + c.val, by omega⟩

/-- The log gates. -/
def lgate (l : Fin 1024 → ℝ) (f : Fin 64 → Fin 1024 → ℝ) (t : Fin 64) (c : Fin 1024) : ℝ := Real.log (gate (l c) (f t c))

/-- One head of the columns. -/
def hd {A : Type} (h : Fin 8) (x : Fin 64 → Fin 1024 → A) (t : Fin 64) (c : Fin 128) : A := x t (hc h c)
/-- The queries of a head. -/
def rq (q : Fin 64 → Fin 1024 → EReal) (h : Fin 8) (t : Fin 64) (c : Fin 128) : EReal := qry (q t (hc h c))
/-- The keys of a head. -/
def rk (l : Fin 1024 → ℝ) (f : Fin 64 → Fin 1024 → ℝ) (h : Fin 8) (t : Fin 64) (c : Fin 128) : ℝ :=
  1 - gate (l (hc h c)) (f t (hc h c))

/-- The state of a head after `n` chunks of the whole sequence. -/
def stR (l : Fin 1024 → ℝ) (f : ℕ → Fin 64 → Fin 1024 → ℝ) (v : ℕ → Fin 64 → Fin 1024 → EReal) (h : Fin 8) (n : ℕ) :
    Fin 128 → Fin 128 → EReal :=
  state (fun n => rk l (f n) h) (fun n => hd h (lgate l (f n))) (fun n => hd h (v n)) n

/-- The output rows of a head in chunk `n` of the whole sequence. -/
def outR (l : Fin 1024 → ℝ) (q : ℕ → Fin 64 → Fin 1024 → EReal) (f : ℕ → Fin 64 → Fin 1024 → ℝ)
    (v : ℕ → Fin 64 → Fin 1024 → EReal) (h : Fin 8) (n : ℕ) : Fin 64 → Fin 128 → EReal :=
  out (rq (q n) h) (rk l (f n) h) (hd h (lgate l (f n))) (hd h (v n)) (stR l f v h n)

/-- The last step of an output row: the row divided by its root mean square, scaled and gated. -/
def fin (gn : Fin 128 → EReal) (o : Fin 128 → EReal) (og : Fin 128 → EReal) (d : Fin 128) : EReal :=
  o d * Ideal.rsqrt (Ideal.div (∑ c : Fin 128, o c * o c) (Ideal.ofBits .f32 0x43000000#32)
    + Ideal.ofBits .f32 0x358637BD#32) * gn d * (og d * Ideal.div 1 (1 + Ideal.exp (-(og d))))

/-- The projections of all rows, and their parameters, as the two programs read them. -/
abbrev SX : Shape := ⟨3, ![8, 2048, 9728]⟩
abbrev SL : Shape := ⟨2, ![1, 1024]⟩
abbrev SG : Shape := ⟨2, ![1, 128]⟩
abbrev SO : Shape := ⟨3, ![8, 2048, 1024]⟩

/-- Row `t` of chunk `n` of the sequence. -/
def row (n : ℕ) (t : Fin 64) : Fin 2048 := ⟨(64 * n + t.val) % 2048, Nat.mod_lt _ (by decide)⟩

/-- Column `c` of the `o`-th group of 1024 columns. -/
def colX (o : Fin 9) (c : Fin 1024) : Fin 9728 := ⟨1024 * o.val + c.val, by omega⟩

/-- Group `o` of the projections of batch row `b`, chunk by chunk. -/
def raw (X : SX.Idx → EReal) (b : Fin 8) (o : Fin 9) (n : ℕ) (t : Fin 64) (c : Fin 1024) : EReal :=
  X (ix3 b (row n t) (colX o c))

/-- The gate projections of batch row `b`, chunk by chunk, as real numbers. -/
def rawf (X : SX.Idx → EReal) (b : Fin 8) (n : ℕ) (t : Fin 64) (c : Fin 1024) : ℝ :=
  (X (ix3 b (row n t) (colX 6 c))).toReal

/-- The lower bounds as real numbers. -/
def low (L : SL.Idx → EReal) (c : Fin 1024) : ℝ := (L (ix2 0 c)).toReal

/-- What the claim supposes: the gate projections are real numbers, and the lower bounds lie in the unit
    interval. -/
structure Ok (X : SX.Idx → EReal) (L : SL.Idx → EReal) : Prop where
  real : ∀ (b : Fin 8) (r : Fin 2048) (c : Fin 1024),
    X (ix3 b r (colX 6 c)) = ((X (ix3 b r (colX 6 c))).toReal : EReal)
  lreal : ∀ c : Fin 1024, L (ix2 0 c) = (low L c : EReal)
  low0 : ∀ c : Fin 1024, 0 ≤ low L c
  low1 : ∀ c : Fin 1024, low L c ≤ 1

theorem Ok.raw_eq {X : SX.Idx → EReal} {L : SL.Idx → EReal} (H : Ok X L) (b : Fin 8) (n : ℕ) (t : Fin 64)
    (c : Fin 1024) : X (ix3 b (row n t) (colX 6 c)) = (rawf X b n t c : EReal) :=
  H.real b _ c

/-- THE RESULT, element by element. -/
def HG (X : SX.Idx → EReal) (L : SL.Idx → EReal) (gn : SG.Idx → EReal) (b : Fin 8) (n : ℕ) (t : Fin 64) (h : Fin 8)
    (d : Fin 128) : EReal :=
  fin (fun d => gn (ix2 0 d)) (outR (low L) (raw X b 5) (rawf X b) (raw X b 7) h n t)
    (fun d => X (ix3 b (row n t) (colX 8 (hc h d)))) d

end Cert.Hgrn

end

end
-- ==== Proof.Chunk.lean ====
/-
  What a chunk of the kernel computes: with real gate projections and lower bounds in the unit interval,
  its keys and its sums of log gates are real numbers, its new state is `Hgrn.next` and its output row
  `Hgrn.out` of the queries, keys, log gates and values. Queries, values and the state may be infinite.
-/
module

public import proofs.«01_k».proof.Proof.Tile
public import proofs.«01_k».proof.Proof.Model
public import Idealize.ShloMosaic.Lib.WordCmp

@[expose] public section

set_option maxRecDepth 16384

noncomputable section

namespace Cert.KernelIdeal.Hgrn

open Idealize.ShloMosaic Idealize.ShloMosaic.TcCoe Idealize.SL.Sem
open Cert.KernelIdeal Cert.KernelIdeal.Gen
open Cert.Hgrn
open scoped BigOperators

/-- Row `t` of chunk `ci` of a tile. -/
def rt (ci : Fin 4) (t : Fin 64) : Fin 256 := ⟨64 * ci.val + t.val, by omega⟩

/-- The bit of a comparison of two row numbers. -/
theorem mask (s t : Fin 64) :
    IntOp.cmpi CmpIPredicate.sle (BitVec.ofNat 32 s.val) (BitVec.ofNat 32 t.val) = if s ≤ t then 1#1 else 0#1 := by
  have hs := s.isLt
  have ht := t.isLt
  by_cases h : s ≤ t
  · rw [if_pos h, Idealize.ShloMosaic.WordCmp.cmpi_sle_ofNat_eq_one_iff (by omega) (by omega)]; exact h
  · rw [if_neg h, Idealize.ShloMosaic.WordCmp.cmpi_sle_ofNat_eq_zero_iff (by omega) (by omega)]; exact h

theorem mask_float (s t : Fin 64) :
    FloatOps.sitofp (F := Ideal) FTy.f32
      (BitVec.setWidth 32 (IntOp.cmpi CmpIPredicate.sle (BitVec.ofNat 32 s.val) (BitVec.ofNat 32 t.val))) =
    (((if s ≤ t then 1 else 0 : ℝ)) : EReal) := by
  rw [mask]
  show (((BitVec.setWidth 32 (if s ≤ t then 1#1 else 0#1)).toInt : ℝ) : EReal) = _
  by_cases h : s ≤ t
  · rw [if_pos h, if_pos h]; norm_num
  · rw [if_neg h, if_neg h]; norm_num

/-! ## Payloads at an index -/

section Payloads

theorem glog_at (x1 : Vec Ideal S1x256x1024 .bf16) (x4 : Vec Ideal S1x1024 .f32) (t : Fin 256) (c : Fin 1024)
    (f l : ℝ) (hf : x1 (ix3 0 t c) = (f : EReal)) (hl : x4 (ix2 0 c) = (l : EReal)) (h0 : 0 ≤ l) (h1 : l ≤ 1) :
    k0_pay8 x4 x1 (ix2 t c) = ((Real.log (gate l f) : ℝ) : EReal) := by
  pointwise [k0_pay8, k0_pay6, k0_pay5]
  rw [hf, hl, half_f32, ← EReal.coe_mul, Ideal.tanh_coe, ← EReal.coe_one, ← EReal.coe_sub, ← EReal.coe_add,
    ← EReal.coe_mul, ← EReal.coe_mul, ← EReal.coe_mul, ← EReal.coe_add]
  have e : 1 / 2 * (1 + l) + 1 / 2 * (1 - l) * Real.tanh (1 / 2 * f) = gate l f := by
    have := half_tanh f
    unfold gate; linear_combination (1 / 2 * (1 - l)) * this
  rw [e, log_coe_pos (gate_pos h0 h1 f)]

theorem key_at (x1 : Vec Ideal S1x256x1024 .bf16) (x4 : Vec Ideal S1x1024 .f32) (t : Fin 256) (c : Fin 1024)
    (f l : ℝ) (hf : x1 (ix3 0 t c) = (f : EReal)) (hl : x4 (ix2 0 c) = (l : EReal)) :
    k0_pay7 x4 x1 (ix2 t c) = ((1 - gate l f : ℝ) : EReal) := by
  pointwise [k0_pay7, k0_pay6, k0_pay5]
  rw [hf, hl, half_f32, ← EReal.coe_mul, Ideal.tanh_coe, ← EReal.coe_one, ← EReal.coe_sub, ← EReal.coe_sub,
    ← EReal.coe_mul, ← EReal.coe_mul]
  have := half_tanh f
  congr 1
  unfold gate; linear_combination (-(1 / 2 * (1 - l))) * this

/-- The running sums, from the two halves of the split log gates. -/
theorem cum_at (W : Vec Ideal S64x2048 .bf16) (g : Fin 64 → Fin 1024 → ℝ)
    (h1 : ∀ (s : Fin 64) (c : Fin 1024), W (ix2 s (⟨c.val, by omega⟩ : Fin 2048)) = (g s c : EReal))
    (h2 : ∀ (s : Fin 64) (c : Fin 1024), W (ix2 s (⟨1024 + c.val, by omega⟩ : Fin 2048)) = ((0 : ℝ) : EReal))
    (t : Fin 64) (c : Fin 1024) :
    k0_pay12 k0_pay4 W (ix2 t c) = (cum g t c : EReal) := by
  pointwise [k0_pay12, k0_pay4, k0_pay3]
  rw [sum_coe (fun s => if s ≤ t then g s c else 0), sum_coe (fun _ => 0), ← EReal.coe_add]
  · simp [cum]
  · intro s; rw [h2, mask_float, ← EReal.coe_mul, mul_zero]
  · intro s; rw [h1, mask_float, ← EReal.coe_mul]; simp

theorem qt_at (B : Vec Ideal S64x1024 .f32) (x : Vec Ideal S1x64x1024 .bf16) (t : Fin 64) (c : Fin 1024)
    (b r : ℝ) (q : EReal) (hb : B (ix2 t c) = (b : EReal)) (hr : B (ix2 63 c) = (r : EReal)) (hq : x (ix3 0 t c) = q) :
    k0_pay23 B x (ix2 t c) = qry q * ((Real.exp (b - 1 / 2 * r) : ℝ) : EReal) := by
  pointwise [k0_pay23, k0_pay21, k0_pay20, k0_pay19]
  rw [hb, hr, hq, half_f32, qc2_f32, ← EReal.coe_mul, ← EReal.coe_sub, Ideal.exp_coe, qry_tanh]

theorem qe_at (B : Vec Ideal S64x1024 .f32) (x : Vec Ideal S1x64x1024 .bf16) (t : Fin 64) (c : Fin 1024)
    (b r : ℝ) (q : EReal) (hb : B (ix2 t c) = (b : EReal)) (hr : B (ix2 63 c) = (r : EReal)) (hq : x (ix3 0 t c) = q) :
    k0_pay26 (k0_pay25 B x) (ix2 t c) = qry q * ((Real.exp b : ℝ) : EReal) := by
  pointwise [k0_pay26, k0_pay25, k0_pay21, k0_pay20, k0_pay19]
  rw [hb, hr, hq, half_f32, qc2_f32, ← EReal.coe_mul, ← EReal.coe_sub, Ideal.exp_coe, Ideal.exp_coe, qry_tanh,
    mul_assoc, ← EReal.coe_mul, ← Real.exp_add]
  congr 3; ring

theorem kt_at (B K : Vec Ideal S64x1024 .f32) (t : Fin 64) (c : Fin 1024)
    (b r k : ℝ) (hb : B (ix2 t c) = (b : EReal)) (hr : B (ix2 63 c) = (r : EReal)) (hk : K (ix2 t c) = (k : EReal)) :
    k0_pay24 B K (ix2 t c) = ((k * Real.exp (1 / 2 * r - b) : ℝ) : EReal) := by
  pointwise [k0_pay24, k0_pay22, k0_pay20, k0_pay19]
  rw [hb, hr, hk, half_f32, ← EReal.coe_mul, ← EReal.coe_sub, Ideal.exp_coe, ← EReal.coe_mul]

theorem kd_at (B K : Vec Ideal S64x1024 .f32) (t : Fin 64) (c : Fin 1024)
    (b r k : ℝ) (hb : B (ix2 t c) = (b : EReal)) (hr : B (ix2 63 c) = (r : EReal)) (hk : K (ix2 t c) = (k : EReal)) :
    k0_pay27 (k0_pay19 B) (k0_pay20 B) (k0_pay22 B K) (ix2 t c) = ((k * Real.exp (r - b) : ℝ) : EReal) := by
  pointwise [k0_pay27, k0_pay22, k0_pay20, k0_pay19]
  rw [hb, hr, hk, half_f32, ← EReal.coe_mul, ← EReal.coe_sub, ← EReal.coe_sub, Ideal.exp_coe, Ideal.exp_coe,
    ← EReal.coe_mul, ← EReal.coe_mul]
  congr 1
  have : Real.exp (r - b) = Real.exp (1 / 2 * r - b) * Real.exp (r - 1 / 2 * r) := by
    rw [← Real.exp_add]; congr 1; ring
  rw [this]; ring

theorem dl_at (B : Vec Ideal S64x1024 .f32) (c : Fin 1024) (r : ℝ) (hr : B (ix2 63 c) = (r : EReal)) :
    k0_pay28 (k0_pay19 B) (ix2 0 c) = ((Real.exp r : ℝ) : EReal) := by
  pointwise [k0_pay28, k0_pay19]
  rw [hr, Ideal.exp_coe]

theorem a_at (q k : Vec Ideal S64x128 .bf16) (Q K : Fin 64 → Fin 128 → EReal)
    (hq : ∀ t c, q (ix2 t c) = Q t c) (hk : ∀ t c, k (ix2 t c) = K t c) (t s : Fin 64) :
    k0_pay61 k0_pay3 q k (ix3 0 t s) = if s ≤ t then ∑ c, Q t c * K s c else 0 := by
  pointwise [k0_pay61, k0_pay3]
  rw [mask, Finset.sum_congr rfl fun c _ => by rw [hq, hk]]
  by_cases h : s ≤ t
  · rw [if_pos h, if_pos h]; rfl
  · rw [if_neg h, if_neg h]; rfl

theorem u_at (v : Vec Ideal S1x64x128 .bf16) (k : Vec Ideal S64x128 .bf16) (V K : Fin 64 → Fin 128 → EReal)
    (hv : ∀ t c, v (ix3 0 t c) = V t c) (hk : ∀ t c, k (ix2 t c) = K t c) (d c : Fin 128) :
    k0_pay100 v k (ix4 0 0 d c) = ∑ s, V s d * K s c := by
  pointwise [k0_pay100]
  exact Finset.sum_congr rfl fun s _ => by rw [hv, hk]

theorem oi_at (a : Vec Ideal S1x64x64 .bf16) (v : Vec Ideal S1x64x128 .bf16) (A : Fin 64 → Fin 64 → EReal)
    (V : Fin 64 → Fin 128 → EReal) (ha : ∀ t s, a (ix3 0 t s) = A t s)
    (hv : ∀ t c, v (ix3 0 t c) = V t c) (t : Fin 64) (d : Fin 128) :
    k0_pay138 a v (ix2 t d) = ∑ s, A t s * V s d := by
  pointwise [k0_pay138]
  exact Finset.sum_congr rfl fun s _ => by rw [ha, hv]

theorem o_at (st : Vec Ideal S1x128x128 .f32) (o : Vec Ideal S64x128 .f32) (q : Vec Ideal S64x128 .bf16)
    (S : Fin 128 → Fin 128 → EReal) (Q : Fin 64 → Fin 128 → EReal) (O : EReal) (t : Fin 64) (d : Fin 128)
    (hs : ∀ d c, st (ix3 0 d c) = S c d) (hq : ∀ t c, q (ix2 t c) = Q t c) (ho : o (ix2 t d) = O) :
    k0_pay178 st o q (ix2 t d) = O + ∑ c, Q t c * S c d := by
  pointwise [k0_pay178, k0_pay177]
  rw [ho, Finset.sum_congr rfl fun c _ => by rw [hs, hq]]

theorem upd_at (st : Vec Ideal S1x128x128 .f32) (dl : Vec Ideal S1x128 .f32) (u : Vec Ideal S1x1x128x128 .f32)
    (d c : Fin 128) (S D U : EReal) (hs : st (ix3 0 d c) = S) (hd : dl (ix2 0 c) = D) (hu : u (ix4 0 0 d c) = U) :
    k0_pay180 (k0_pay177 st) (k0_pay179 dl) u (ix3 0 d c) = D * S + U := by
  pointwise [k0_pay180, k0_pay179, k0_pay177]
  rw [hs, hd, hu, mul_comm]

theorem fin_at (gn : Vec Ideal S1x128 .f32) (o : Vec Ideal S64x128 .f32) (og : Vec Ideal S1x64x128 .bf16)
    (t : Fin 64) (O : Fin 128 → EReal) (ho : ∀ d, o (ix2 t d) = O d) (d : Fin 128) :
    k0_pay181 (k0_pay176 gn) o og (ix3 0 t d) =
      fin (fun d => gn (ix2 0 d)) O (fun d => og (ix3 0 t d)) d := by
  pointwise [k0_pay181, k0_pay176]
  unfold fin
  rw [← half_tanh_ereal, half_f32]
  simp only [ho]
  ac_rfl

end Payloads

/-! ## The buffers of a chunk -/

section Chunk
variable (x0 x1 x2 x3 : Vec Ideal S1x256x1024 .bf16) (x4 : Vec Ideal S1x1024 .f32) (x5 : Vec Ideal S1x128 .f32)

/-- The projections of chunk `ci`, of which the gates are real, and the lower bounds in the unit interval. -/
structure Reals (ci : Fin 4) (l : Fin 1024 → ℝ) (q : Fin 64 → Fin 1024 → EReal) (f : Fin 64 → Fin 1024 → ℝ)
    (v : Fin 64 → Fin 1024 → EReal) : Prop where
  hq : ∀ t c, x0 (ix3 0 (rt ci t) c) = q t c
  hf : ∀ t c, x1 (ix3 0 (rt ci t) c) = (f t c : EReal)
  hv : ∀ t c, x2 (ix3 0 (rt ci t) c) = v t c
  hl : ∀ c, x4 (ix2 0 c) = (l c : EReal)
  l0 : ∀ c, 0 ≤ l c
  l1 : ∀ c, l c ≤ 1

variable {x0 x1 x2 x3 x4 x5} {ci : Fin 4} {l : Fin 1024 → ℝ} {q : Fin 64 → Fin 1024 → EReal}
  {f : Fin 64 → Fin 1024 → ℝ} {v : Fin 64 → Fin 1024 → EReal}

theorem Reals.gh_lo (H : Reals x0 x1 x2 x4 ci l q f v) (s : Fin 64) (c : Fin 1024) :
    rows2 ci (GH x1 x4) (ix2 s (⟨c.val, by omega⟩ : Fin 2048)) = (lgate l f s c : EReal) := by
  show GH x1 x4 (ix2 (rt ci s) (⟨c.val, by omega⟩ : Fin 2048)) = _
  unfold GH
  refine (dif_pos (show c.val < 1024 from c.isLt)).trans ?_
  refine Eq.trans ?_ (glog_at x1 x4 (rt ci s) c _ _ (H.hf s c) (H.hl c) (H.l0 c) (H.l1 c))
  pointwise [k0_pay10, k0_pay9]

theorem Reals.gh_hi (H : Reals x0 x1 x2 x4 ci l q f v) (s : Fin 64) (c : Fin 1024) :
    rows2 ci (GH x1 x4) (ix2 s (⟨1024 + c.val, by omega⟩ : Fin 2048)) = ((0 : ℝ) : EReal) := by
  show GH x1 x4 (ix2 (rt ci s) (⟨1024 + c.val, by omega⟩ : Fin 2048)) = _
  unfold GH
  refine (dif_neg (show ¬ 1024 + c.val < 1024 by omega)).trans ?_
  have e : (⟨1024 + c.val - 1024, by omega⟩ : Fin 1024) = c := Fin.ext (by show 1024 + c.val - 1024 = c.val; omega)
  show k0_pay11 (k0_pay8 x4 x1) (k0_pay9 x4 x1) (ix2 (rt ci s) (⟨1024 + c.val - 1024, _⟩ : Fin 1024)) = _
  rw [e]
  have h : k0_pay11 (k0_pay8 x4 x1) (k0_pay9 x4 x1) (ix2 (rt ci s) c) =
      k0_pay8 x4 x1 (ix2 (rt ci s) c) - k0_pay8 x4 x1 (ix2 (rt ci s) c) := by
    pointwise [k0_pay11, k0_pay9]
  rw [h, glog_at x1 x4 (rt ci s) c _ _ (H.hf s c) (H.hl c) (H.l0 c) (H.l1 c), ← EReal.coe_sub, sub_self]

theorem Reals.bc (H : Reals x0 x1 x2 x4 ci l q f v) (t : Fin 64) (c : Fin 1024) :
    Bc x1 x4 ci (ix2 t c) = (cum (lgate l f) t c : EReal) :=
  cum_at _ _ H.gh_lo H.gh_hi t c

theorem Reals.kc (H : Reals x0 x1 x2 x4 ci l q f v) (t : Fin 64) (c : Fin 1024) :
    Kc x1 x4 ci (ix2 t c) = ((1 - gate (l c) (f t c) : ℝ) : EReal) :=
  key_at x1 x4 (rt ci t) c _ _ (H.hf t c) (H.hl c)

theorem cum_hd (g : Fin 64 → Fin 1024 → ℝ) (h : Fin 8) (t : Fin 64) (c : Fin 128) :
    cum g t (hc h c) = cum (hd h g) t c := rfl

theorem Reals.ac (H : Reals x0 x1 x2 x4 ci l q f v) (h : Fin 8) (t s : Fin 64) :
    Ac x0 x1 x4 ci h (ix3 0 t s) = att (rq q h) (rk l f h) (hd h (lgate l f)) t s := by
  have e := a_at (cols h (QTc x0 x1 x4 ci)) (cols h (KTc x1 x4 ci)) _ _
    (fun t c => qt_at (Bc x1 x4 ci) (rows3 ci x0) t (hc h c) _ _ _ (H.bc t _) (H.bc 63 _) (H.hq t (hc h c)))
    (fun t c => kt_at (Bc x1 x4 ci) (Kc x1 x4 ci) t (hc h c) _ _ _ (H.bc t _) (H.bc 63 _) (H.kc t _)) t s
  refine e.trans ?_
  unfold att
  refine if_congr Iff.rfl (Finset.sum_congr rfl fun c _ => ?_) rfl
  rw [cum_hd, cum_hd, cum_hd]
  have : Real.exp (cum (hd h (lgate l f)) t c - cum (hd h (lgate l f)) s c) =
      Real.exp (cum (hd h (lgate l f)) t c - 1 / 2 * cum (hd h (lgate l f)) 63 c) *
      Real.exp (1 / 2 * cum (hd h (lgate l f)) 63 c - cum (hd h (lgate l f)) s c) := by
    rw [← Real.exp_add]; congr 1; ring
  rw [this, mul_assoc, ← EReal.coe_mul]
  unfold rq rk
  congr 2; ring

theorem Reals.oi (H : Reals x0 x1 x2 x4 ci l q f v) (h : Fin 8) (t : Fin 64) (d : Fin 128) :
    OIc x0 x1 x2 x4 ci h (ix2 t d) =
      ∑ s, att (rq q h) (rk l f h) (hd h (lgate l f)) t s * hd h v s d :=
  oi_at _ _ _ _ (H.ac h) (fun t c => H.hv t (hc h c)) t d

theorem Reals.uc (H : Reals x0 x1 x2 x4 ci l q f v) (h : Fin 8) (d c : Fin 128) :
    Uc x1 x2 x4 ci h (ix4 0 0 d c) =
      ∑ s, hd h v s d * ((rk l f h s c *
        Real.exp (cum (hd h (lgate l f)) 63 c - cum (hd h (lgate l f)) s c) : ℝ) : EReal) :=
  u_at (unit3 ci h x2) (cols h (KDc x1 x4 ci)) (hd h v)
    (fun s c => ((rk l f h s c * Real.exp (cum (hd h (lgate l f)) 63 c - cum (hd h (lgate l f)) s c) : ℝ) : EReal))
    (fun t c => H.hv t (hc h c))
    (fun t c => kd_at (Bc x1 x4 ci) (Kc x1 x4 ci) t (hc h c) _ _ _ (H.bc t _) (H.bc 63 _) (H.kc t _)) d c

/-- The kernel's new state is the formula's, the two axes exchanged. -/
theorem Reals.upd (H : Reals x0 x1 x2 x4 ci l q f v) (h : Fin 8) (st : Vec Ideal S1x128x128 .f32)
    (S : Fin 128 → Fin 128 → EReal) (hs : ∀ d c, st (ix3 0 d c) = S c d) (d c : Fin 128) :
    UPD x1 x2 x4 ci h st (ix3 0 d c) = next (rk l f h) (hd h (lgate l f)) (hd h v) S c d := by
  have e := upd_at st (cols1 h (DLc x1 x4 ci)) (Uc x1 x2 x4 ci h) d c _ _ _ (hs d c)
    (dl_at (Bc x1 x4 ci) (hc h c) _ (H.bc 63 _)) (H.uc h d c)
  refine e.trans ?_
  unfold next
  rw [cum_hd]
  exact congrArg₂ _ rfl (Finset.sum_congr rfl fun s _ => mul_comm _ _)

/-- The kernel's output rows are the formula's, normalised and gated. -/
theorem Reals.outst (H : Reals x0 x1 x2 x4 ci l q f v) (h : Fin 8) (st : Vec Ideal S1x128x128 .f32)
    (S : Fin 128 → Fin 128 → EReal) (hs : ∀ d c, st (ix3 0 d c) = S c d) (t : Fin 64) (d : Fin 128) :
    OUTst x0 x1 x2 x3 x4 x5 ci h st (ix3 0 t d) =
      fin (fun d => x5 (ix2 0 d)) (out (rq q h) (rk l f h) (hd h (lgate l f)) (hd h v) S t)
        (fun d => x3 (ix3 0 (rt ci t) (hc h d))) d := by
  refine fin_at x5 _ (unit3 ci h x3) t _ (fun d => ?_) d
  exact o_at st (OIc x0 x1 x2 x4 ci h) (cols h (QEc x0 x1 x4 ci)) S
    (fun t c => rq q h t c * ((Real.exp (cum (hd h (lgate l f)) t c) : ℝ) : EReal)) _ t d hs
    (fun t c => qe_at (Bc x1 x4 ci) (rows3 ci x0) t (hc h c) _ _ _ (H.bc t _) (H.bc 63 _) (H.hq t (hc h c))) (H.oi h t d)

end Chunk

/-! ## The four chunks of a tile -/

section Tile
variable {x0 x1 x2 x3 : Vec Ideal S1x256x1024 .bf16} {x4 : Vec Ideal S1x1024 .f32} {x5 : Vec Ideal S1x128 .f32}
  {l : Fin 1024 → ℝ} {q : ℕ → Fin 64 → Fin 1024 → EReal} {f : ℕ → Fin 64 → Fin 1024 → ℝ}
  {v : ℕ → Fin 64 → Fin 1024 → EReal} {k : ℕ}

/-- A tile whose chunks are the chunks `k`, `k + 1`, `k + 2`, `k + 3` of a sequence, begun at its state. -/
theorem sc_real (H : ∀ ci : Fin 4, Reals x0 x1 x2 x4 ci l (q (k + ci.val)) (f (k + ci.val)) (v (k + ci.val)))
    (s0 : Vec Ideal S8x128x128 .f32) (hs : ∀ h d c, s0 (ix3 h d c) = stR l f v h k c d) (h : Fin 8) :
    ∀ n, n ≤ 4 → ∀ d c, SC x1 x2 x4 s0 n h (ix3 0 d c) = stR l f v h (k + n) c d
  | 0, _, d, c => hs h d c
  | n + 1, hn, d, c => by
    have e : (Fin.ofNat 4 n).val = n := Nat.mod_eq_of_lt (by omega)
    have Hn := H (Fin.ofNat 4 n)
    rw [e] at Hn
    exact Hn.upd h _ _ (sc_real H s0 hs h n (by omega)) d c

theorem outc_real (H : ∀ ci : Fin 4, Reals x0 x1 x2 x4 ci l (q (k + ci.val)) (f (k + ci.val)) (v (k + ci.val)))
    (s0 : Vec Ideal S8x128x128 .f32) (hs : ∀ h d c, s0 (ix3 h d c) = stR l f v h k c d) (h : Fin 8)
    (ci : Fin 4) (t : Fin 64) (d : Fin 128) :
    OUTc x0 x1 x2 x3 x4 x5 s0 ci h (ix3 0 t d) =
      fin (fun d => x5 (ix2 0 d)) (outR l q f v h (k + ci.val) t) (fun d => x3 (ix3 0 (rt ci t) (hc h d))) d :=
  (H ci).outst h _ _ (sc_real H s0 hs h ci.val (by omega)) t d

end Tile

end Cert.KernelIdeal.Hgrn

end

end
-- ==== Proof.ReadA.lean ====
/-
  The first tile of a sequence (the state begins at zero): every load of the body's run is the window of
  one function of the tile's input blocks, buffer by buffer in the order the run fills them, down to
  the output block and the state it leaves.
-/
module

public import proofs.«01_k».proof.Proof.Tile

@[expose] public section

set_option maxRecDepth 16384
set_option maxHeartbeats 1000000

noncomputable section

namespace Cert.KernelIdeal.Hgrn.A

open Idealize.ShloMosaic Idealize.ShloMosaic.TcCoe Idealize.SL.Sem
open Cert.KernelIdeal Cert.KernelIdeal.Gen Cert.KernelIdeal.Hgrn

variable {c : Dev nD} {i : grid0.Coords}
  {arg2 : Memref sig .tc .vmem S1x256x1024 .bf16} {harg2 : arg2.IsWhole}
  {arg3 : Memref sig .tc .vmem S1x256x1024 .bf16} {harg3 : arg3.IsWhole}
  {arg4 : Memref sig .tc .vmem S1x256x1024 .bf16} {harg4 : arg4.IsWhole}
  {arg5 : Memref sig .tc .vmem S1x256x1024 .bf16} {harg5 : arg5.IsWhole}
  {arg6 : Memref sig .tc .vmem S1x1024 .f32} {harg6 : arg6.IsWhole}
  {arg7 : Memref sig .tc .vmem S1x128 .f32} {harg7 : arg7.IsWhole}
  {arg8 : Memref sig .tc .vmem S1x256x1024 .bf16} {harg8 : arg8.IsWhole}
  {arg9 : Memref sig .tc .vmem S8x128x128 .f32} {harg9 : arg9.IsWhole}
  {arg10 : Memref sig .tc .vmem S256x2048 .bf16} {harg10 : arg10.IsWhole}
  {arg11 : Memref sig .tc .vmem S256x1024 .f32} {harg11 : arg11.IsWhole}
  {arg12 : Memref sig .tc .vmem S256x1024 .f32} {harg12 : arg12.IsWhole}
  {arg13 : Memref sig .tc .vmem S256x1024 .bf16} {harg13 : arg13.IsWhole}
  {arg14 : Memref sig .tc .vmem S256x1024 .bf16} {harg14 : arg14.IsWhole}
  {arg15 : Memref sig .tc .vmem S256x1024 .bf16} {harg15 : arg15.IsWhole}
  {arg16 : Memref sig .tc .vmem S256x1024 .bf16} {harg16 : arg16.IsWhole}
  {arg17 : Memref sig .tc .vmem S8x1024 .f32} {harg17 : arg17.IsWhole}
  {arg18 : Memref sig .tc .vmem S256x1024 .f32} {harg18 : arg18.IsWhole}
  {arg19 : Memref sig .tc .vmem S4x8x128x128 .f32} {harg19 : arg19.IsWhole}
  {arg20 : Memref sig .tc .vmem S32x64x64 .bf16} {harg20 : arg20.IsWhole}
  {x0 x1 x2 x3 : Vec Ideal S1x256x1024 .bf16} {x4 : Vec Ideal S1x1024 .f32} {x5 : Vec Ideal S1x128 .f32}

theorem p1 : ∀ p ∈ (kernelRun0_A.sl.HS1_2 (F := Ideal) c arg3 harg3 arg6 harg6 x1 x4),
    ∀ x : p.1.shape.Idx, p.2 x = (GH x1 x4) (p.1.emb x) :=
  fc (piece_G2 x1 x4 _ (by decide) rfl _ (congrArg₂ (fun a b => k0_pay11 (k0_pay8 a b) (k0_pay9 a b)) (whole2 harg6 x4 _ _ rfl) (whole3 harg3 x1 _ _ rfl))) <|
  fc (piece_G1 x1 x4 _ (by decide) rfl _ (congrArg₂ (fun a b => k0_pay10 (k0_pay9 a b)) (whole2 harg6 x4 _ _ rfl) (whole3 harg3 x1 _ _ rfl))) <|
  fnil

theorem r1 (ci : Fin 4) (o : Fin 2 → ℕ)
    (inb : ∀ a, o a + S64x2048.size a ≤ S256x2048.size a) (ho : o = ![64 * ci.val, 0]) :
    arg10.view.readCov (kernelRun0_A.sl.HS1_2 (F := Ideal) c arg3 harg3 arg6 harg6 x1 x4)
      (Rect.unit (s := S256x2048) o S64x2048.size inb).toLoadRect = rows2 ci (GH x1 x4) :=
  (rd_of _ _ (GH x1 x4) p1 (View.cover_of_tiledL _ S256x1024.size (by sl_kernel_rfl)) _).trans (ld_rows2 _ ci o inb ho)

theorem p2 : ∀ p ∈ (kernelRun0_A.sl.HS2_1 (F := Ideal) c arg3 harg3 arg6 harg6 x1 x4),
    ∀ x : p.1.shape.Idx, p.2 x = (Kw x1 x4) (p.1.emb x) :=
  fc (piece_W (Kw x1 x4) _ (by decide) rfl _ (congrArg₂ k0_pay7 (whole2 harg6 x4 _ _ rfl) (whole3 harg3 x1 _ _ rfl))) <|
  fnil

theorem r2 (ci : Fin 4) (o : Fin 2 → ℕ)
    (inb : ∀ a, o a + S64x1024.size a ≤ S256x1024.size a) (ho : o = ![64 * ci.val, 0]) :
    arg11.view.readCov (kernelRun0_A.sl.HS2_1 (F := Ideal) c arg3 harg3 arg6 harg6 x1 x4)
      (Rect.unit (s := S256x1024) o S64x1024.size inb).toLoadRect = rows ci (Kw x1 x4) :=
  (rd_of _ _ (Kw x1 x4) p2 (View.cover_of_tiledL _ S256x1024.size (by sl_kernel_rfl)) _).trans (ld_rows (Kw x1 x4) ci o inb ho)

theorem p3 : ∀ p ∈ (kernelRun0_A.sl.HS3_4 (F := Ideal) c arg3 harg3 arg6 harg6 arg10 x1 x4),
    ∀ x : p.1.shape.Idx, p.2 x = (unrollR (Bc x1 x4)) (p.1.emb x) :=
  fc (piece_R _ 3 _ (by decide) rfl _ (congrArg (k0_pay12 k0_pay4) (r1 3 _ _ rfl))) <|
  fc (piece_R _ 2 _ (by decide) rfl _ (congrArg (k0_pay12 k0_pay4) (r1 2 _ _ rfl))) <|
  fc (piece_R _ 1 _ (by decide) rfl _ (congrArg (k0_pay12 k0_pay4) (r1 1 _ _ rfl))) <|
  fc (piece_R _ 0 _ (by decide) rfl _ (congrArg (k0_pay12 k0_pay4) (r1 0 _ _ rfl))) <|
  fnil

theorem r3 (ci : Fin 4) (o : Fin 2 → ℕ)
    (inb : ∀ a, o a + S64x1024.size a ≤ S256x1024.size a) (ho : o = ![64 * ci.val, 0]) :
    arg12.view.readCov (kernelRun0_A.sl.HS3_4 (F := Ideal) c arg3 harg3 arg6 harg6 arg10 x1 x4)
      (Rect.unit (s := S256x1024) o S64x1024.size inb).toLoadRect = Bc x1 x4 ci :=
  (rd_of _ _ (unrollR (Bc x1 x4)) p3 (View.cover_of_tiledL _ S64x1024.size (by sl_kernel_rfl)) _).trans ((ld_rows _ ci o inb ho).trans (rows_unroll _ ci))

theorem p4 : ∀ p ∈ (kernelRun0_A.sl.HS4_4 (F := Ideal) c arg2 harg2 arg3 harg3 arg6 harg6 arg10 arg12 x0 x1 x4),
    ∀ x : p.1.shape.Idx, p.2 x = (unrollR (QTc x0 x1 x4)) (p.1.emb x) :=
  fc (piece_R _ 3 _ (by decide) rfl _ (congrArg₂ k0_pay23 (r3 3 _ _ rfl) (in_rows harg2 x0 3 _ _ rfl))) <|
  fc (piece_R _ 2 _ (by decide) rfl _ (congrArg₂ k0_pay23 (r3 2 _ _ rfl) (in_rows harg2 x0 2 _ _ rfl))) <|
  fc (piece_R _ 1 _ (by decide) rfl _ (congrArg₂ k0_pay23 (r3 1 _ _ rfl) (in_rows harg2 x0 1 _ _ rfl))) <|
  fc (piece_R _ 0 _ (by decide) rfl _ (congrArg₂ k0_pay23 (r3 0 _ _ rfl) (in_rows harg2 x0 0 _ _ rfl))) <|
  fnil

theorem r4 (ci : Fin 4) (h : Fin 8) (o : Fin 2 → ℕ)
    (inb : ∀ a, o a + S64x128.size a ≤ S256x1024.size a) (ho : o = ![64 * ci.val, 128 * h.val]) :
    arg13.view.readCov (kernelRun0_A.sl.HS4_4 (F := Ideal) c arg2 harg2 arg3 harg3 arg6 harg6 arg10 arg12 x0 x1 x4)
      (Rect.unit (s := S256x1024) o S64x128.size inb).toLoadRect = cols h (QTc x0 x1 x4 ci) :=
  (rd_of _ _ (unrollR (QTc x0 x1 x4)) p4 (View.cover_of_tiledL _ S64x1024.size (by sl_kernel_rfl)) _).trans (ld_cols _ ci h o inb ho)

theorem p5 : ∀ p ∈ (kernelRun0_A.sl.HS5_4 (F := Ideal) c arg3 harg3 arg6 harg6 arg10 arg11 arg12 x1 x4),
    ∀ x : p.1.shape.Idx, p.2 x = (unrollR (KTc x1 x4)) (p.1.emb x) :=
  fc (piece_R _ 3 _ (by decide) rfl _ (congrArg₂ k0_pay24 (r3 3 _ _ rfl) (r2 3 _ _ rfl))) <|
  fc (piece_R _ 2 _ (by decide) rfl _ (congrArg₂ k0_pay24 (r3 2 _ _ rfl) (r2 2 _ _ rfl))) <|
  fc (piece_R _ 1 _ (by decide) rfl _ (congrArg₂ k0_pay24 (r3 1 _ _ rfl) (r2 1 _ _ rfl))) <|
  fc (piece_R _ 0 _ (by decide) rfl _ (congrArg₂ k0_pay24 (r3 0 _ _ rfl) (r2 0 _ _ rfl))) <|
  fnil

theorem r5 (ci : Fin 4) (h : Fin 8) (o : Fin 2 → ℕ)
    (inb : ∀ a, o a + S64x128.size a ≤ S256x1024.size a) (ho : o = ![64 * ci.val, 128 * h.val]) :
    arg14.view.readCov (kernelRun0_A.sl.HS5_4 (F := Ideal) c arg3 harg3 arg6 harg6 arg10 arg11 arg12 x1 x4)
      (Rect.unit (s := S256x1024) o S64x128.size inb).toLoadRect = cols h (KTc x1 x4 ci) :=
  (rd_of _ _ (unrollR (KTc x1 x4)) p5 (View.cover_of_tiledL _ S64x1024.size (by sl_kernel_rfl)) _).trans (ld_cols _ ci h o inb ho)

theorem p6 : ∀ p ∈ (kernelRun0_A.sl.HS6_4 (F := Ideal) c arg2 harg2 arg3 harg3 arg6 harg6 arg10 arg12 x0 x1 x4),
    ∀ x : p.1.shape.Idx, p.2 x = (unrollR (QEc x0 x1 x4)) (p.1.emb x) :=
  fc (piece_R _ 3 _ (by decide) rfl _ (congrArg₂ (fun a b => k0_pay26 (k0_pay25 a b)) (r3 3 _ _ rfl) (in_rows harg2 x0 3 _ _ rfl))) <|
  fc (piece_R _ 2 _ (by decide) rfl _ (congrArg₂ (fun a b => k0_pay26 (k0_pay25 a b)) (r3 2 _ _ rfl) (in_rows harg2 x0 2 _ _ rfl))) <|
  fc (piece_R _ 1 _ (by decide) rfl _ (congrArg₂ (fun a b => k0_pay26 (k0_pay25 a b)) (r3 1 _ _ rfl) (in_rows harg2 x0 1 _ _ rfl))) <|
  fc (piece_R _ 0 _ (by decide) rfl _ (congrArg₂ (fun a b => k0_pay26 (k0_pay25 a b)) (r3 0 _ _ rfl) (in_rows harg2 x0 0 _ _ rfl))) <|
  fnil

theorem r6 (ci : Fin 4) (h : Fin 8) (o : Fin 2 → ℕ)
    (inb : ∀ a, o a + S64x128.size a ≤ S256x1024.size a) (ho : o = ![64 * ci.val, 128 * h.val]) :
    arg15.view.readCov (kernelRun0_A.sl.HS6_4 (F := Ideal) c arg2 harg2 arg3 harg3 arg6 harg6 arg10 arg12 x0 x1 x4)
      (Rect.unit (s := S256x1024) o S64x128.size inb).toLoadRect = cols h (QEc x0 x1 x4 ci) :=
  (rd_of _ _ (unrollR (QEc x0 x1 x4)) p6 (View.cover_of_tiledL _ S64x1024.size (by sl_kernel_rfl)) _).trans (ld_cols _ ci h o inb ho)

theorem p7 : ∀ p ∈ (kernelRun0_A.sl.HS7_4 (F := Ideal) c arg3 harg3 arg6 harg6 arg10 arg11 arg12 x1 x4),
    ∀ x : p.1.shape.Idx, p.2 x = (unrollR (KDc x1 x4)) (p.1.emb x) :=
  fc (piece_R _ 3 _ (by decide) rfl _ (congrArg₂ (fun a b => k0_pay27 (k0_pay19 a) (k0_pay20 a) (k0_pay22 a b)) (r3 3 _ _ rfl) (r2 3 _ _ rfl))) <|
  fc (piece_R _ 2 _ (by decide) rfl _ (congrArg₂ (fun a b => k0_pay27 (k0_pay19 a) (k0_pay20 a) (k0_pay22 a b)) (r3 2 _ _ rfl) (r2 2 _ _ rfl))) <|
  fc (piece_R _ 1 _ (by decide) rfl _ (congrArg₂ (fun a b => k0_pay27 (k0_pay19 a) (k0_pay20 a) (k0_pay22 a b)) (r3 1 _ _ rfl) (r2 1 _ _ rfl))) <|
  fc (piece_R _ 0 _ (by decide) rfl _ (congrArg₂ (fun a b => k0_pay27 (k0_pay19 a) (k0_pay20 a) (k0_pay22 a b)) (r3 0 _ _ rfl) (r2 0 _ _ rfl))) <|
  fnil

theorem r7 (ci : Fin 4) (h : Fin 8) (o : Fin 2 → ℕ)
    (inb : ∀ a, o a + S64x128.size a ≤ S256x1024.size a) (ho : o = ![64 * ci.val, 128 * h.val]) :
    arg16.view.readCov (kernelRun0_A.sl.HS7_4 (F := Ideal) c arg3 harg3 arg6 harg6 arg10 arg11 arg12 x1 x4)
      (Rect.unit (s := S256x1024) o S64x128.size inb).toLoadRect = cols h (KDc x1 x4 ci) :=
  (rd_of _ _ (unrollR (KDc x1 x4)) p7 (View.cover_of_tiledL _ S64x1024.size (by sl_kernel_rfl)) _).trans (ld_cols _ ci h o inb ho)

theorem p8 : ∀ p ∈ (kernelRun0_A.sl.HS8_4 (F := Ideal) c arg3 harg3 arg6 harg6 arg10 arg12 x1 x4),
    ∀ x : p.1.shape.Idx, p.2 x = (unrollD (DLc x1 x4)) (p.1.emb x) :=
  fc (piece_D _ 3 _ (by decide) rfl _ (congrArg (fun a => k0_pay28 (k0_pay19 a)) (r3 3 _ _ rfl))) <|
  fc (piece_D _ 2 _ (by decide) rfl _ (congrArg (fun a => k0_pay28 (k0_pay19 a)) (r3 2 _ _ rfl))) <|
  fc (piece_D _ 1 _ (by decide) rfl _ (congrArg (fun a => k0_pay28 (k0_pay19 a)) (r3 1 _ _ rfl))) <|
  fc (piece_D _ 0 _ (by decide) rfl _ (congrArg (fun a => k0_pay28 (k0_pay19 a)) (r3 0 _ _ rfl))) <|
  fnil

theorem r8_0 (h : Fin 8) (o : Fin 2 → ℕ)
    (inb : ∀ a, o a + S1x128.size a ≤ S8x1024.size a) (ho : o = ![0, 128 * h.val]) :
    arg17.view.readCov (kernelRun0_A.sl.HS8_4 (F := Ideal) c arg3 harg3 arg6 harg6 arg10 arg12 x1 x4)
      (Rect.unit (s := S8x1024) o S1x128.size inb).toLoadRect = cols1 h (DLc x1 x4 0) :=
  (rd_at _ _ (unrollD (DLc x1 x4)) p8 _ (fun x => ⟨_, (List.Mem.tail _ (List.Mem.tail _ (List.Mem.tail _ (List.Mem.head _)))),
    mem_D 0 h _ _ inb (by decide) ho rfl x⟩)).trans (ld_D _ 0 h o inb ho)

theorem r8_1 (h : Fin 8) (o : Fin 2 → ℕ)
    (inb : ∀ a, o a + S1x128.size a ≤ S8x1024.size a) (ho : o = ![1, 128 * h.val]) :
    arg17.view.readCov (kernelRun0_A.sl.HS8_4 (F := Ideal) c arg3 harg3 arg6 harg6 arg10 arg12 x1 x4)
      (Rect.unit (s := S8x1024) o S1x128.size inb).toLoadRect = cols1 h (DLc x1 x4 1) :=
  (rd_at _ _ (unrollD (DLc x1 x4)) p8 _ (fun x => ⟨_, (List.Mem.tail _ (List.Mem.tail _ (List.Mem.head _))),
    mem_D 1 h _ _ inb (by decide) ho rfl x⟩)).trans (ld_D _ 1 h o inb ho)

theorem r8_2 (h : Fin 8) (o : Fin 2 → ℕ)
    (inb : ∀ a, o a + S1x128.size a ≤ S8x1024.size a) (ho : o = ![2, 128 * h.val]) :
    arg17.view.readCov (kernelRun0_A.sl.HS8_4 (F := Ideal) c arg3 harg3 arg6 harg6 arg10 arg12 x1 x4)
      (Rect.unit (s := S8x1024) o S1x128.size inb).toLoadRect = cols1 h (DLc x1 x4 2) :=
  (rd_at _ _ (unrollD (DLc x1 x4)) p8 _ (fun x => ⟨_, (List.Mem.tail _ (List.Mem.head _)),
    mem_D 2 h _ _ inb (by decide) ho rfl x⟩)).trans (ld_D _ 2 h o inb ho)

theorem r8_3 (h : Fin 8) (o : Fin 2 → ℕ)
    (inb : ∀ a, o a + S1x128.size a ≤ S8x1024.size a) (ho : o = ![3, 128 * h.val]) :
    arg17.view.readCov (kernelRun0_A.sl.HS8_4 (F := Ideal) c arg3 harg3 arg6 harg6 arg10 arg12 x1 x4)
      (Rect.unit (s := S8x1024) o S1x128.size inb).toLoadRect = cols1 h (DLc x1 x4 3) :=
  (rd_at _ _ (unrollD (DLc x1 x4)) p8 _ (fun x => ⟨_, (List.Mem.head _),
    mem_D 3 h _ _ inb (by decide) ho rfl x⟩)).trans (ld_D _ 3 h o inb ho)

theorem p11 : ∀ p ∈ (kernelRun0_A.sl.HS11_32 (F := Ideal) c arg2 harg2 arg3 harg3 arg6 harg6 arg10 arg11 arg12 arg13 arg14 x0 x1 x4),
    ∀ x : p.1.shape.Idx, p.2 x = (unrollA (Ac x0 x1 x4)) (p.1.emb x) :=
  fc (piece_A _ 3 7 _ (by decide) rfl _ (congrArg₂ (k0_pay61 k0_pay3) (r4 3 7 _ _ rfl) (r5 3 7 _ _ rfl))) <|
  fc (piece_A _ 3 6 _ (by decide) rfl _ (congrArg₂ (k0_pay61 k0_pay3) (r4 3 6 _ _ rfl) (r5 3 6 _ _ rfl))) <|
  fc (piece_A _ 3 5 _ (by decide) rfl _ (congrArg₂ (k0_pay61 k0_pay3) (r4 3 5 _ _ rfl) (r5 3 5 _ _ rfl))) <|
  fc (piece_A _ 3 4 _ (by decide) rfl _ (congrArg₂ (k0_pay61 k0_pay3) (r4 3 4 _ _ rfl) (r5 3 4 _ _ rfl))) <|
  fc (piece_A _ 3 3 _ (by decide) rfl _ (congrArg₂ (k0_pay61 k0_pay3) (r4 3 3 _ _ rfl) (r5 3 3 _ _ rfl))) <|
  fc (piece_A _ 3 2 _ (by decide) rfl _ (congrArg₂ (k0_pay61 k0_pay3) (r4 3 2 _ _ rfl) (r5 3 2 _ _ rfl))) <|
  fc (piece_A _ 3 1 _ (by decide) rfl _ (congrArg₂ (k0_pay61 k0_pay3) (r4 3 1 _ _ rfl) (r5 3 1 _ _ rfl))) <|
  fc (piece_A _ 3 0 _ (by decide) rfl _ (congrArg₂ (k0_pay61 k0_pay3) (r4 3 0 _ _ rfl) (r5 3 0 _ _ rfl))) <|
  fc (piece_A _ 2 7 _ (by decide) rfl _ (congrArg₂ (k0_pay61 k0_pay3) (r4 2 7 _ _ rfl) (r5 2 7 _ _ rfl))) <|
  fc (piece_A _ 2 6 _ (by decide) rfl _ (congrArg₂ (k0_pay61 k0_pay3) (r4 2 6 _ _ rfl) (r5 2 6 _ _ rfl))) <|
  fc (piece_A _ 2 5 _ (by decide) rfl _ (congrArg₂ (k0_pay61 k0_pay3) (r4 2 5 _ _ rfl) (r5 2 5 _ _ rfl))) <|
  fc (piece_A _ 2 4 _ (by decide) rfl _ (congrArg₂ (k0_pay61 k0_pay3) (r4 2 4 _ _ rfl) (r5 2 4 _ _ rfl))) <|
  fc (piece_A _ 2 3 _ (by decide) rfl _ (congrArg₂ (k0_pay61 k0_pay3) (r4 2 3 _ _ rfl) (r5 2 3 _ _ rfl))) <|
  fc (piece_A _ 2 2 _ (by decide) rfl _ (congrArg₂ (k0_pay61 k0_pay3) (r4 2 2 _ _ rfl) (r5 2 2 _ _ rfl))) <|
  fc (piece_A _ 2 1 _ (by decide) rfl _ (congrArg₂ (k0_pay61 k0_pay3) (r4 2 1 _ _ rfl) (r5 2 1 _ _ rfl))) <|
  fc (piece_A _ 2 0 _ (by decide) rfl _ (congrArg₂ (k0_pay61 k0_pay3) (r4 2 0 _ _ rfl) (r5 2 0 _ _ rfl))) <|
  fc (piece_A _ 1 7 _ (by decide) rfl _ (congrArg₂ (k0_pay61 k0_pay3) (r4 1 7 _ _ rfl) (r5 1 7 _ _ rfl))) <|
  fc (piece_A _ 1 6 _ (by decide) rfl _ (congrArg₂ (k0_pay61 k0_pay3) (r4 1 6 _ _ rfl) (r5 1 6 _ _ rfl))) <|
  fc (piece_A _ 1 5 _ (by decide) rfl _ (congrArg₂ (k0_pay61 k0_pay3) (r4 1 5 _ _ rfl) (r5 1 5 _ _ rfl))) <|
  fc (piece_A _ 1 4 _ (by decide) rfl _ (congrArg₂ (k0_pay61 k0_pay3) (r4 1 4 _ _ rfl) (r5 1 4 _ _ rfl))) <|
  fc (piece_A _ 1 3 _ (by decide) rfl _ (congrArg₂ (k0_pay61 k0_pay3) (r4 1 3 _ _ rfl) (r5 1 3 _ _ rfl))) <|
  fc (piece_A _ 1 2 _ (by decide) rfl _ (congrArg₂ (k0_pay61 k0_pay3) (r4 1 2 _ _ rfl) (r5 1 2 _ _ rfl))) <|
  fc (piece_A _ 1 1 _ (by decide) rfl _ (congrArg₂ (k0_pay61 k0_pay3) (r4 1 1 _ _ rfl) (r5 1 1 _ _ rfl))) <|
  fc (piece_A _ 1 0 _ (by decide) rfl _ (congrArg₂ (k0_pay61 k0_pay3) (r4 1 0 _ _ rfl) (r5 1 0 _ _ rfl))) <|
  fc (piece_A _ 0 7 _ (by decide) rfl _ (congrArg₂ (k0_pay61 k0_pay3) (r4 0 7 _ _ rfl) (r5 0 7 _ _ rfl))) <|
  fc (piece_A _ 0 6 _ (by decide) rfl _ (congrArg₂ (k0_pay61 k0_pay3) (r4 0 6 _ _ rfl) (r5 0 6 _ _ rfl))) <|
  fc (piece_A _ 0 5 _ (by decide) rfl _ (congrArg₂ (k0_pay61 k0_pay3) (r4 0 5 _ _ rfl) (r5 0 5 _ _ rfl))) <|
  fc (piece_A _ 0 4 _ (by decide) rfl _ (congrArg₂ (k0_pay61 k0_pay3) (r4 0 4 _ _ rfl) (r5 0 4 _ _ rfl))) <|
  fc (piece_A _ 0 3 _ (by decide) rfl _ (congrArg₂ (k0_pay61 k0_pay3) (r4 0 3 _ _ rfl) (r5 0 3 _ _ rfl))) <|
  fc (piece_A _ 0 2 _ (by decide) rfl _ (congrArg₂ (k0_pay61 k0_pay3) (r4 0 2 _ _ rfl) (r5 0 2 _ _ rfl))) <|
  fc (piece_A _ 0 1 _ (by decide) rfl _ (congrArg₂ (k0_pay61 k0_pay3) (r4 0 1 _ _ rfl) (r5 0 1 _ _ rfl))) <|
  fc (piece_A _ 0 0 _ (by decide) rfl _ (congrArg₂ (k0_pay61 k0_pay3) (r4 0 0 _ _ rfl) (r5 0 0 _ _ rfl))) <|
  fnil

theorem r11 (ci : Fin 4) (h : Fin 8) (o : Fin 3 → ℕ)
    (inb : ∀ a, o a + S1x64x64.size a ≤ S32x64x64.size a) (ho : o = ![8 * ci.val + h.val, 0, 0]) :
    arg20.view.readCov (kernelRun0_A.sl.HS11_32 (F := Ideal) c arg2 harg2 arg3 harg3 arg6 harg6 arg10 arg11 arg12 arg13 arg14 x0 x1 x4)
      (Rect.unit (s := S32x64x64) o S1x64x64.size inb).toLoadRect = Ac x0 x1 x4 ci h :=
  (rd_of _ _ (unrollA (Ac x0 x1 x4)) p11 (View.cover_of_tiledL _ S1x64x64.size (by sl_kernel_rfl)) _).trans (funext fun x => (at_A _ ci h o inb ho x).symm)

theorem p10 : ∀ p ∈ (kernelRun0_A.sl.HS10_32 (F := Ideal) c arg3 harg3 arg4 harg4 arg6 harg6 arg10 arg11 arg12 arg16 x1 x2 x4),
    ∀ x : p.1.shape.Idx, p.2 x = (unrollU (Uc x1 x2 x4)) (p.1.emb x) :=
  fc (piece_U _ 3 7 _ (by decide) rfl _ (congrArg₂ k0_pay100 (in_unit harg4 x2 3 7 _ _ rfl) (r7 3 7 _ _ rfl))) <|
  fc (piece_U _ 3 6 _ (by decide) rfl _ (congrArg₂ k0_pay100 (in_unit harg4 x2 3 6 _ _ rfl) (r7 3 6 _ _ rfl))) <|
  fc (piece_U _ 3 5 _ (by decide) rfl _ (congrArg₂ k0_pay100 (in_unit harg4 x2 3 5 _ _ rfl) (r7 3 5 _ _ rfl))) <|
  fc (piece_U _ 3 4 _ (by decide) rfl _ (congrArg₂ k0_pay100 (in_unit harg4 x2 3 4 _ _ rfl) (r7 3 4 _ _ rfl))) <|
  fc (piece_U _ 3 3 _ (by decide) rfl _ (congrArg₂ k0_pay100 (in_unit harg4 x2 3 3 _ _ rfl) (r7 3 3 _ _ rfl))) <|
  fc (piece_U _ 3 2 _ (by decide) rfl _ (congrArg₂ k0_pay100 (in_unit harg4 x2 3 2 _ _ rfl) (r7 3 2 _ _ rfl))) <|
  fc (piece_U _ 3 1 _ (by decide) rfl _ (congrArg₂ k0_pay100 (in_unit harg4 x2 3 1 _ _ rfl) (r7 3 1 _ _ rfl))) <|
  fc (piece_U _ 3 0 _ (by decide) rfl _ (congrArg₂ k0_pay100 (in_unit harg4 x2 3 0 _ _ rfl) (r7 3 0 _ _ rfl))) <|
  fc (piece_U _ 2 7 _ (by decide) rfl _ (congrArg₂ k0_pay100 (in_unit harg4 x2 2 7 _ _ rfl) (r7 2 7 _ _ rfl))) <|
  fc (piece_U _ 2 6 _ (by decide) rfl _ (congrArg₂ k0_pay100 (in_unit harg4 x2 2 6 _ _ rfl) (r7 2 6 _ _ rfl))) <|
  fc (piece_U _ 2 5 _ (by decide) rfl _ (congrArg₂ k0_pay100 (in_unit harg4 x2 2 5 _ _ rfl) (r7 2 5 _ _ rfl))) <|
  fc (piece_U _ 2 4 _ (by decide) rfl _ (congrArg₂ k0_pay100 (in_unit harg4 x2 2 4 _ _ rfl) (r7 2 4 _ _ rfl))) <|
  fc (piece_U _ 2 3 _ (by decide) rfl _ (congrArg₂ k0_pay100 (in_unit harg4 x2 2 3 _ _ rfl) (r7 2 3 _ _ rfl))) <|
  fc (piece_U _ 2 2 _ (by decide) rfl _ (congrArg₂ k0_pay100 (in_unit harg4 x2 2 2 _ _ rfl) (r7 2 2 _ _ rfl))) <|
  fc (piece_U _ 2 1 _ (by decide) rfl _ (congrArg₂ k0_pay100 (in_unit harg4 x2 2 1 _ _ rfl) (r7 2 1 _ _ rfl))) <|
  fc (piece_U _ 2 0 _ (by decide) rfl _ (congrArg₂ k0_pay100 (in_unit harg4 x2 2 0 _ _ rfl) (r7 2 0 _ _ rfl))) <|
  fc (piece_U _ 1 7 _ (by decide) rfl _ (congrArg₂ k0_pay100 (in_unit harg4 x2 1 7 _ _ rfl) (r7 1 7 _ _ rfl))) <|
  fc (piece_U _ 1 6 _ (by decide) rfl _ (congrArg₂ k0_pay100 (in_unit harg4 x2 1 6 _ _ rfl) (r7 1 6 _ _ rfl))) <|
  fc (piece_U _ 1 5 _ (by decide) rfl _ (congrArg₂ k0_pay100 (in_unit harg4 x2 1 5 _ _ rfl) (r7 1 5 _ _ rfl))) <|
  fc (piece_U _ 1 4 _ (by decide) rfl _ (congrArg₂ k0_pay100 (in_unit harg4 x2 1 4 _ _ rfl) (r7 1 4 _ _ rfl))) <|
  fc (piece_U _ 1 3 _ (by decide) rfl _ (congrArg₂ k0_pay100 (in_unit harg4 x2 1 3 _ _ rfl) (r7 1 3 _ _ rfl))) <|
  fc (piece_U _ 1 2 _ (by decide) rfl _ (congrArg₂ k0_pay100 (in_unit harg4 x2 1 2 _ _ rfl) (r7 1 2 _ _ rfl))) <|
  fc (piece_U _ 1 1 _ (by decide) rfl _ (congrArg₂ k0_pay100 (in_unit harg4 x2 1 1 _ _ rfl) (r7 1 1 _ _ rfl))) <|
  fc (piece_U _ 1 0 _ (by decide) rfl _ (congrArg₂ k0_pay100 (in_unit harg4 x2 1 0 _ _ rfl) (r7 1 0 _ _ rfl))) <|
  fc (piece_U _ 0 7 _ (by decide) rfl _ (congrArg₂ k0_pay100 (in_unit harg4 x2 0 7 _ _ rfl) (r7 0 7 _ _ rfl))) <|
  fc (piece_U _ 0 6 _ (by decide) rfl _ (congrArg₂ k0_pay100 (in_unit harg4 x2 0 6 _ _ rfl) (r7 0 6 _ _ rfl))) <|
  fc (piece_U _ 0 5 _ (by decide) rfl _ (congrArg₂ k0_pay100 (in_unit harg4 x2 0 5 _ _ rfl) (r7 0 5 _ _ rfl))) <|
  fc (piece_U _ 0 4 _ (by decide) rfl _ (congrArg₂ k0_pay100 (in_unit harg4 x2 0 4 _ _ rfl) (r7 0 4 _ _ rfl))) <|
  fc (piece_U _ 0 3 _ (by decide) rfl _ (congrArg₂ k0_pay100 (in_unit harg4 x2 0 3 _ _ rfl) (r7 0 3 _ _ rfl))) <|
  fc (piece_U _ 0 2 _ (by decide) rfl _ (congrArg₂ k0_pay100 (in_unit harg4 x2 0 2 _ _ rfl) (r7 0 2 _ _ rfl))) <|
  fc (piece_U _ 0 1 _ (by decide) rfl _ (congrArg₂ k0_pay100 (in_unit harg4 x2 0 1 _ _ rfl) (r7 0 1 _ _ rfl))) <|
  fc (piece_U _ 0 0 _ (by decide) rfl _ (congrArg₂ k0_pay100 (in_unit harg4 x2 0 0 _ _ rfl) (r7 0 0 _ _ rfl))) <|
  fnil

theorem r10 (ci : Fin 4) (h : Fin 8) (o : Fin 4 → ℕ)
    (inb : ∀ a, o a + S1x1x128x128.size a ≤ S4x8x128x128.size a) (ho : o = ![ci.val, h.val, 0, 0]) :
    arg19.view.readCov (kernelRun0_A.sl.HS10_32 (F := Ideal) c arg3 harg3 arg4 harg4 arg6 harg6 arg10 arg11 arg12 arg16 x1 x2 x4)
      (Rect.unit (s := S4x8x128x128) o S1x1x128x128.size inb).toLoadRect = Uc x1 x2 x4 ci h :=
  (rd_of _ _ (unrollU (Uc x1 x2 x4)) p10 (View.cover_of_tiledL _ S1x1x128x128.size (by sl_kernel_rfl)) _).trans (funext fun x => (at_U _ ci h o inb ho x).symm)

theorem p9 : ∀ p ∈ (kernelRun0_A.sl.HS9_32 (F := Ideal) c arg2 harg2 arg3 harg3 arg4 harg4 arg6 harg6 arg10 arg11 arg12 arg13 arg14 arg20 x0 x1 x2 x4),
    ∀ x : p.1.shape.Idx, p.2 x = (unrollQ (OIc x0 x1 x2 x4)) (p.1.emb x) :=
  fc (piece_Q _ 3 7 _ (by decide) rfl _ (congrArg₂ k0_pay138 (r11 3 7 _ _ rfl) (in_unit harg4 x2 3 7 _ _ rfl))) <|
  fc (piece_Q _ 3 6 _ (by decide) rfl _ (congrArg₂ k0_pay138 (r11 3 6 _ _ rfl) (in_unit harg4 x2 3 6 _ _ rfl))) <|
  fc (piece_Q _ 3 5 _ (by decide) rfl _ (congrArg₂ k0_pay138 (r11 3 5 _ _ rfl) (in_unit harg4 x2 3 5 _ _ rfl))) <|
  fc (piece_Q _ 3 4 _ (by decide) rfl _ (congrArg₂ k0_pay138 (r11 3 4 _ _ rfl) (in_unit harg4 x2 3 4 _ _ rfl))) <|
  fc (piece_Q _ 3 3 _ (by decide) rfl _ (congrArg₂ k0_pay138 (r11 3 3 _ _ rfl) (in_unit harg4 x2 3 3 _ _ rfl))) <|
  fc (piece_Q _ 3 2 _ (by decide) rfl _ (congrArg₂ k0_pay138 (r11 3 2 _ _ rfl) (in_unit harg4 x2 3 2 _ _ rfl))) <|
  fc (piece_Q _ 3 1 _ (by decide) rfl _ (congrArg₂ k0_pay138 (r11 3 1 _ _ rfl) (in_unit harg4 x2 3 1 _ _ rfl))) <|
  fc (piece_Q _ 3 0 _ (by decide) rfl _ (congrArg₂ k0_pay138 (r11 3 0 _ _ rfl) (in_unit harg4 x2 3 0 _ _ rfl))) <|
  fc (piece_Q _ 2 7 _ (by decide) rfl _ (congrArg₂ k0_pay138 (r11 2 7 _ _ rfl) (in_unit harg4 x2 2 7 _ _ rfl))) <|
  fc (piece_Q _ 2 6 _ (by decide) rfl _ (congrArg₂ k0_pay138 (r11 2 6 _ _ rfl) (in_unit harg4 x2 2 6 _ _ rfl))) <|
  fc (piece_Q _ 2 5 _ (by decide) rfl _ (congrArg₂ k0_pay138 (r11 2 5 _ _ rfl) (in_unit harg4 x2 2 5 _ _ rfl))) <|
  fc (piece_Q _ 2 4 _ (by decide) rfl _ (congrArg₂ k0_pay138 (r11 2 4 _ _ rfl) (in_unit harg4 x2 2 4 _ _ rfl))) <|
  fc (piece_Q _ 2 3 _ (by decide) rfl _ (congrArg₂ k0_pay138 (r11 2 3 _ _ rfl) (in_unit harg4 x2 2 3 _ _ rfl))) <|
  fc (piece_Q _ 2 2 _ (by decide) rfl _ (congrArg₂ k0_pay138 (r11 2 2 _ _ rfl) (in_unit harg4 x2 2 2 _ _ rfl))) <|
  fc (piece_Q _ 2 1 _ (by decide) rfl _ (congrArg₂ k0_pay138 (r11 2 1 _ _ rfl) (in_unit harg4 x2 2 1 _ _ rfl))) <|
  fc (piece_Q _ 2 0 _ (by decide) rfl _ (congrArg₂ k0_pay138 (r11 2 0 _ _ rfl) (in_unit harg4 x2 2 0 _ _ rfl))) <|
  fc (piece_Q _ 1 7 _ (by decide) rfl _ (congrArg₂ k0_pay138 (r11 1 7 _ _ rfl) (in_unit harg4 x2 1 7 _ _ rfl))) <|
  fc (piece_Q _ 1 6 _ (by decide) rfl _ (congrArg₂ k0_pay138 (r11 1 6 _ _ rfl) (in_unit harg4 x2 1 6 _ _ rfl))) <|
  fc (piece_Q _ 1 5 _ (by decide) rfl _ (congrArg₂ k0_pay138 (r11 1 5 _ _ rfl) (in_unit harg4 x2 1 5 _ _ rfl))) <|
  fc (piece_Q _ 1 4 _ (by decide) rfl _ (congrArg₂ k0_pay138 (r11 1 4 _ _ rfl) (in_unit harg4 x2 1 4 _ _ rfl))) <|
  fc (piece_Q _ 1 3 _ (by decide) rfl _ (congrArg₂ k0_pay138 (r11 1 3 _ _ rfl) (in_unit harg4 x2 1 3 _ _ rfl))) <|
  fc (piece_Q _ 1 2 _ (by decide) rfl _ (congrArg₂ k0_pay138 (r11 1 2 _ _ rfl) (in_unit harg4 x2 1 2 _ _ rfl))) <|
  fc (piece_Q _ 1 1 _ (by decide) rfl _ (congrArg₂ k0_pay138 (r11 1 1 _ _ rfl) (in_unit harg4 x2 1 1 _ _ rfl))) <|
  fc (piece_Q _ 1 0 _ (by decide) rfl _ (congrArg₂ k0_pay138 (r11 1 0 _ _ rfl) (in_unit harg4 x2 1 0 _ _ rfl))) <|
  fc (piece_Q _ 0 7 _ (by decide) rfl _ (congrArg₂ k0_pay138 (r11 0 7 _ _ rfl) (in_unit harg4 x2 0 7 _ _ rfl))) <|
  fc (piece_Q _ 0 6 _ (by decide) rfl _ (congrArg₂ k0_pay138 (r11 0 6 _ _ rfl) (in_unit harg4 x2 0 6 _ _ rfl))) <|
  fc (piece_Q _ 0 5 _ (by decide) rfl _ (congrArg₂ k0_pay138 (r11 0 5 _ _ rfl) (in_unit harg4 x2 0 5 _ _ rfl))) <|
  fc (piece_Q _ 0 4 _ (by decide) rfl _ (congrArg₂ k0_pay138 (r11 0 4 _ _ rfl) (in_unit harg4 x2 0 4 _ _ rfl))) <|
  fc (piece_Q _ 0 3 _ (by decide) rfl _ (congrArg₂ k0_pay138 (r11 0 3 _ _ rfl) (in_unit harg4 x2 0 3 _ _ rfl))) <|
  fc (piece_Q _ 0 2 _ (by decide) rfl _ (congrArg₂ k0_pay138 (r11 0 2 _ _ rfl) (in_unit harg4 x2 0 2 _ _ rfl))) <|
  fc (piece_Q _ 0 1 _ (by decide) rfl _ (congrArg₂ k0_pay138 (r11 0 1 _ _ rfl) (in_unit harg4 x2 0 1 _ _ rfl))) <|
  fc (piece_Q _ 0 0 _ (by decide) rfl _ (congrArg₂ k0_pay138 (r11 0 0 _ _ rfl) (in_unit harg4 x2 0 0 _ _ rfl))) <|
  fnil

theorem r9 (ci : Fin 4) (h : Fin 8) (o : Fin 2 → ℕ)
    (inb : ∀ a, o a + S64x128.size a ≤ S256x1024.size a) (ho : o = ![64 * ci.val, 128 * h.val]) :
    arg18.view.readCov (kernelRun0_A.sl.HS9_32 (F := Ideal) c arg2 harg2 arg3 harg3 arg4 harg4 arg6 harg6 arg10 arg11 arg12 arg13 arg14 arg20 x0 x1 x2 x4)
      (Rect.unit (s := S256x1024) o S64x128.size inb).toLoadRect = OIc x0 x1 x2 x4 ci h :=
  (rd_of _ _ (unrollQ (OIc x0 x1 x2 x4)) p9 (View.cover_of_tiledL _ S64x128.size (by sl_kernel_rfl)) _).trans (funext fun x => (at_Q _ ci h o inb ho x).symm)

theorem st0 : View.canon (kernelRun0_A.sl.HS0_1 (F := Ideal) ) = ST x1 x2 x4 (k0_pay2 (F := Ideal)) 0 :=
  zero_S x1 x2 x4 (k0_pay2 (F := Ideal)) _ _ _ rfl

theorem st1 : View.canon (kernelRun0_A.sl.HS0_2 (F := Ideal) c arg3 harg3 arg4 harg4 arg6 harg6 arg9 arg10 arg11 arg12 arg16 arg17 arg19 x1 x2 x4) = ST x1 x2 x4 (k0_pay2 (F := Ideal)) 1 :=
  step_SC x1 x2 x4 (k0_pay2 (F := Ideal)) _ 0 st0 0 0 rfl rfl _ _ rfl _ (congr3 (fun st dl u => k0_pay180 (k0_pay177 st) (k0_pay179 dl) u)
      (rd_SC x1 x2 x4 (k0_pay2 (F := Ideal)) _ _ 0 st0 0 0 rfl rfl _ _ rfl) (r8_0 0 _ _ rfl) (r10 0 0 _ _ rfl))

theorem st2 : View.canon (kernelRun0_A.sl.HS0_3 (F := Ideal) c arg3 harg3 arg4 harg4 arg6 harg6 arg9 arg10 arg11 arg12 arg16 arg17 arg19 x1 x2 x4) = ST x1 x2 x4 (k0_pay2 (F := Ideal)) 2 :=
  step_SC x1 x2 x4 (k0_pay2 (F := Ideal)) _ 1 st1 0 1 rfl rfl _ _ rfl _ (congr3 (fun st dl u => k0_pay180 (k0_pay177 st) (k0_pay179 dl) u)
      (rd_SC x1 x2 x4 (k0_pay2 (F := Ideal)) _ _ 1 st1 0 1 rfl rfl _ _ rfl) (r8_0 1 _ _ rfl) (r10 0 1 _ _ rfl))

theorem st3 : View.canon (kernelRun0_A.sl.HS0_4 (F := Ideal) c arg3 harg3 arg4 harg4 arg6 harg6 arg9 arg10 arg11 arg12 arg16 arg17 arg19 x1 x2 x4) = ST x1 x2 x4 (k0_pay2 (F := Ideal)) 3 :=
  step_SC x1 x2 x4 (k0_pay2 (F := Ideal)) _ 2 st2 0 2 rfl rfl _ _ rfl _ (congr3 (fun st dl u => k0_pay180 (k0_pay177 st) (k0_pay179 dl) u)
      (rd_SC x1 x2 x4 (k0_pay2 (F := Ideal)) _ _ 2 st2 0 2 rfl rfl _ _ rfl) (r8_0 2 _ _ rfl) (r10 0 2 _ _ rfl))

theorem st4 : View.canon (kernelRun0_A.sl.HS0_5 (F := Ideal) c arg3 harg3 arg4 harg4 arg6 harg6 arg9 arg10 arg11 arg12 arg16 arg17 arg19 x1 x2 x4) = ST x1 x2 x4 (k0_pay2 (F := Ideal)) 4 :=
  step_SC x1 x2 x4 (k0_pay2 (F := Ideal)) _ 3 st3 0 3 rfl rfl _ _ rfl _ (congr3 (fun st dl u => k0_pay180 (k0_pay177 st) (k0_pay179 dl) u)
      (rd_SC x1 x2 x4 (k0_pay2 (F := Ideal)) _ _ 3 st3 0 3 rfl rfl _ _ rfl) (r8_0 3 _ _ rfl) (r10 0 3 _ _ rfl))

theorem st5 : View.canon (kernelRun0_A.sl.HS0_6 (F := Ideal) c arg3 harg3 arg4 harg4 arg6 harg6 arg9 arg10 arg11 arg12 arg16 arg17 arg19 x1 x2 x4) = ST x1 x2 x4 (k0_pay2 (F := Ideal)) 5 :=
  step_SC x1 x2 x4 (k0_pay2 (F := Ideal)) _ 4 st4 0 4 rfl rfl _ _ rfl _ (congr3 (fun st dl u => k0_pay180 (k0_pay177 st) (k0_pay179 dl) u)
      (rd_SC x1 x2 x4 (k0_pay2 (F := Ideal)) _ _ 4 st4 0 4 rfl rfl _ _ rfl) (r8_0 4 _ _ rfl) (r10 0 4 _ _ rfl))

theorem st6 : View.canon (kernelRun0_A.sl.HS0_7 (F := Ideal) c arg3 harg3 arg4 harg4 arg6 harg6 arg9 arg10 arg11 arg12 arg16 arg17 arg19 x1 x2 x4) = ST x1 x2 x4 (k0_pay2 (F := Ideal)) 6 :=
  step_SC x1 x2 x4 (k0_pay2 (F := Ideal)) _ 5 st5 0 5 rfl rfl _ _ rfl _ (congr3 (fun st dl u => k0_pay180 (k0_pay177 st) (k0_pay179 dl) u)
      (rd_SC x1 x2 x4 (k0_pay2 (F := Ideal)) _ _ 5 st5 0 5 rfl rfl _ _ rfl) (r8_0 5 _ _ rfl) (r10 0 5 _ _ rfl))

theorem st7 : View.canon (kernelRun0_A.sl.HS0_8 (F := Ideal) c arg3 harg3 arg4 harg4 arg6 harg6 arg9 arg10 arg11 arg12 arg16 arg17 arg19 x1 x2 x4) = ST x1 x2 x4 (k0_pay2 (F := Ideal)) 7 :=
  step_SC x1 x2 x4 (k0_pay2 (F := Ideal)) _ 6 st6 0 6 rfl rfl _ _ rfl _ (congr3 (fun st dl u => k0_pay180 (k0_pay177 st) (k0_pay179 dl) u)
      (rd_SC x1 x2 x4 (k0_pay2 (F := Ideal)) _ _ 6 st6 0 6 rfl rfl _ _ rfl) (r8_0 6 _ _ rfl) (r10 0 6 _ _ rfl))

theorem st8 : View.canon (kernelRun0_A.sl.HS0_9 (F := Ideal) c arg3 harg3 arg4 harg4 arg6 harg6 arg9 arg10 arg11 arg12 arg16 arg17 arg19 x1 x2 x4) = ST x1 x2 x4 (k0_pay2 (F := Ideal)) 8 :=
  step_SC x1 x2 x4 (k0_pay2 (F := Ideal)) _ 7 st7 0 7 rfl rfl _ _ rfl _ (congr3 (fun st dl u => k0_pay180 (k0_pay177 st) (k0_pay179 dl) u)
      (rd_SC x1 x2 x4 (k0_pay2 (F := Ideal)) _ _ 7 st7 0 7 rfl rfl _ _ rfl) (r8_0 7 _ _ rfl) (r10 0 7 _ _ rfl))

theorem st9 : View.canon (kernelRun0_A.sl.HS0_10 (F := Ideal) c arg3 harg3 arg4 harg4 arg6 harg6 arg9 arg10 arg11 arg12 arg16 arg17 arg19 x1 x2 x4) = ST x1 x2 x4 (k0_pay2 (F := Ideal)) 9 :=
  step_SC x1 x2 x4 (k0_pay2 (F := Ideal)) _ 8 st8 1 0 rfl rfl _ _ rfl _ (congr3 (fun st dl u => k0_pay180 (k0_pay177 st) (k0_pay179 dl) u)
      (rd_SC x1 x2 x4 (k0_pay2 (F := Ideal)) _ _ 8 st8 1 0 rfl rfl _ _ rfl) (r8_1 0 _ _ rfl) (r10 1 0 _ _ rfl))

theorem st10 : View.canon (kernelRun0_A.sl.HS0_11 (F := Ideal) c arg3 harg3 arg4 harg4 arg6 harg6 arg9 arg10 arg11 arg12 arg16 arg17 arg19 x1 x2 x4) = ST x1 x2 x4 (k0_pay2 (F := Ideal)) 10 :=
  step_SC x1 x2 x4 (k0_pay2 (F := Ideal)) _ 9 st9 1 1 rfl rfl _ _ rfl _ (congr3 (fun st dl u => k0_pay180 (k0_pay177 st) (k0_pay179 dl) u)
      (rd_SC x1 x2 x4 (k0_pay2 (F := Ideal)) _ _ 9 st9 1 1 rfl rfl _ _ rfl) (r8_1 1 _ _ rfl) (r10 1 1 _ _ rfl))

theorem st11 : View.canon (kernelRun0_A.sl.HS0_12 (F := Ideal) c arg3 harg3 arg4 harg4 arg6 harg6 arg9 arg10 arg11 arg12 arg16 arg17 arg19 x1 x2 x4) = ST x1 x2 x4 (k0_pay2 (F := Ideal)) 11 :=
  step_SC x1 x2 x4 (k0_pay2 (F := Ideal)) _ 10 st10 1 2 rfl rfl _ _ rfl _ (congr3 (fun st dl u => k0_pay180 (k0_pay177 st) (k0_pay179 dl) u)
      (rd_SC x1 x2 x4 (k0_pay2 (F := Ideal)) _ _ 10 st10 1 2 rfl rfl _ _ rfl) (r8_1 2 _ _ rfl) (r10 1 2 _ _ rfl))

theorem st12 : View.canon (kernelRun0_A.sl.HS0_13 (F := Ideal) c arg3 harg3 arg4 harg4 arg6 harg6 arg9 arg10 arg11 arg12 arg16 arg17 arg19 x1 x2 x4) = ST x1 x2 x4 (k0_pay2 (F := Ideal)) 12 :=
  step_SC x1 x2 x4 (k0_pay2 (F := Ideal)) _ 11 st11 1 3 rfl rfl _ _ rfl _ (congr3 (fun st dl u => k0_pay180 (k0_pay177 st) (k0_pay179 dl) u)
      (rd_SC x1 x2 x4 (k0_pay2 (F := Ideal)) _ _ 11 st11 1 3 rfl rfl _ _ rfl) (r8_1 3 _ _ rfl) (r10 1 3 _ _ rfl))

theorem st13 : View.canon (kernelRun0_A.sl.HS0_14 (F := Ideal) c arg3 harg3 arg4 harg4 arg6 harg6 arg9 arg10 arg11 arg12 arg16 arg17 arg19 x1 x2 x4) = ST x1 x2 x4 (k0_pay2 (F := Ideal)) 13 :=
  step_SC x1 x2 x4 (k0_pay2 (F := Ideal)) _ 12 st12 1 4 rfl rfl _ _ rfl _ (congr3 (fun st dl u => k0_pay180 (k0_pay177 st) (k0_pay179 dl) u)
      (rd_SC x1 x2 x4 (k0_pay2 (F := Ideal)) _ _ 12 st12 1 4 rfl rfl _ _ rfl) (r8_1 4 _ _ rfl) (r10 1 4 _ _ rfl))

theorem st14 : View.canon (kernelRun0_A.sl.HS0_15 (F := Ideal) c arg3 harg3 arg4 harg4 arg6 harg6 arg9 arg10 arg11 arg12 arg16 arg17 arg19 x1 x2 x4) = ST x1 x2 x4 (k0_pay2 (F := Ideal)) 14 :=
  step_SC x1 x2 x4 (k0_pay2 (F := Ideal)) _ 13 st13 1 5 rfl rfl _ _ rfl _ (congr3 (fun st dl u => k0_pay180 (k0_pay177 st) (k0_pay179 dl) u)
      (rd_SC x1 x2 x4 (k0_pay2 (F := Ideal)) _ _ 13 st13 1 5 rfl rfl _ _ rfl) (r8_1 5 _ _ rfl) (r10 1 5 _ _ rfl))

theorem st15 : View.canon (kernelRun0_A.sl.HS0_16 (F := Ideal) c arg3 harg3 arg4 harg4 arg6 harg6 arg9 arg10 arg11 arg12 arg16 arg17 arg19 x1 x2 x4) = ST x1 x2 x4 (k0_pay2 (F := Ideal)) 15 :=
  step_SC x1 x2 x4 (k0_pay2 (F := Ideal)) _ 14 st14 1 6 rfl rfl _ _ rfl _ (congr3 (fun st dl u => k0_pay180 (k0_pay177 st) (k0_pay179 dl) u)
      (rd_SC x1 x2 x4 (k0_pay2 (F := Ideal)) _ _ 14 st14 1 6 rfl rfl _ _ rfl) (r8_1 6 _ _ rfl) (r10 1 6 _ _ rfl))

theorem st16 : View.canon (kernelRun0_A.sl.HS0_17 (F := Ideal) c arg3 harg3 arg4 harg4 arg6 harg6 arg9 arg10 arg11 arg12 arg16 arg17 arg19 x1 x2 x4) = ST x1 x2 x4 (k0_pay2 (F := Ideal)) 16 :=
  step_SC x1 x2 x4 (k0_pay2 (F := Ideal)) _ 15 st15 1 7 rfl rfl _ _ rfl _ (congr3 (fun st dl u => k0_pay180 (k0_pay177 st) (k0_pay179 dl) u)
      (rd_SC x1 x2 x4 (k0_pay2 (F := Ideal)) _ _ 15 st15 1 7 rfl rfl _ _ rfl) (r8_1 7 _ _ rfl) (r10 1 7 _ _ rfl))

theorem st17 : View.canon (kernelRun0_A.sl.HS0_18 (F := Ideal) c arg3 harg3 arg4 harg4 arg6 harg6 arg9 arg10 arg11 arg12 arg16 arg17 arg19 x1 x2 x4) = ST x1 x2 x4 (k0_pay2 (F := Ideal)) 17 :=
  step_SC x1 x2 x4 (k0_pay2 (F := Ideal)) _ 16 st16 2 0 rfl rfl _ _ rfl _ (congr3 (fun st dl u => k0_pay180 (k0_pay177 st) (k0_pay179 dl) u)
      (rd_SC x1 x2 x4 (k0_pay2 (F := Ideal)) _ _ 16 st16 2 0 rfl rfl _ _ rfl) (r8_2 0 _ _ rfl) (r10 2 0 _ _ rfl))

theorem st18 : View.canon (kernelRun0_A.sl.HS0_19 (F := Ideal) c arg3 harg3 arg4 harg4 arg6 harg6 arg9 arg10 arg11 arg12 arg16 arg17 arg19 x1 x2 x4) = ST x1 x2 x4 (k0_pay2 (F := Ideal)) 18 :=
  step_SC x1 x2 x4 (k0_pay2 (F := Ideal)) _ 17 st17 2 1 rfl rfl _ _ rfl _ (congr3 (fun st dl u => k0_pay180 (k0_pay177 st) (k0_pay179 dl) u)
      (rd_SC x1 x2 x4 (k0_pay2 (F := Ideal)) _ _ 17 st17 2 1 rfl rfl _ _ rfl) (r8_2 1 _ _ rfl) (r10 2 1 _ _ rfl))

theorem st19 : View.canon (kernelRun0_A.sl.HS0_20 (F := Ideal) c arg3 harg3 arg4 harg4 arg6 harg6 arg9 arg10 arg11 arg12 arg16 arg17 arg19 x1 x2 x4) = ST x1 x2 x4 (k0_pay2 (F := Ideal)) 19 :=
  step_SC x1 x2 x4 (k0_pay2 (F := Ideal)) _ 18 st18 2 2 rfl rfl _ _ rfl _ (congr3 (fun st dl u => k0_pay180 (k0_pay177 st) (k0_pay179 dl) u)
      (rd_SC x1 x2 x4 (k0_pay2 (F := Ideal)) _ _ 18 st18 2 2 rfl rfl _ _ rfl) (r8_2 2 _ _ rfl) (r10 2 2 _ _ rfl))

theorem st20 : View.canon (kernelRun0_A.sl.HS0_21 (F := Ideal) c arg3 harg3 arg4 harg4 arg6 harg6 arg9 arg10 arg11 arg12 arg16 arg17 arg19 x1 x2 x4) = ST x1 x2 x4 (k0_pay2 (F := Ideal)) 20 :=
  step_SC x1 x2 x4 (k0_pay2 (F := Ideal)) _ 19 st19 2 3 rfl rfl _ _ rfl _ (congr3 (fun st dl u => k0_pay180 (k0_pay177 st) (k0_pay179 dl) u)
      (rd_SC x1 x2 x4 (k0_pay2 (F := Ideal)) _ _ 19 st19 2 3 rfl rfl _ _ rfl) (r8_2 3 _ _ rfl) (r10 2 3 _ _ rfl))

theorem st21 : View.canon (kernelRun0_A.sl.HS0_22 (F := Ideal) c arg3 harg3 arg4 harg4 arg6 harg6 arg9 arg10 arg11 arg12 arg16 arg17 arg19 x1 x2 x4) = ST x1 x2 x4 (k0_pay2 (F := Ideal)) 21 :=
  step_SC x1 x2 x4 (k0_pay2 (F := Ideal)) _ 20 st20 2 4 rfl rfl _ _ rfl _ (congr3 (fun st dl u => k0_pay180 (k0_pay177 st) (k0_pay179 dl) u)
      (rd_SC x1 x2 x4 (k0_pay2 (F := Ideal)) _ _ 20 st20 2 4 rfl rfl _ _ rfl) (r8_2 4 _ _ rfl) (r10 2 4 _ _ rfl))

theorem st22 : View.canon (kernelRun0_A.sl.HS0_23 (F := Ideal) c arg3 harg3 arg4 harg4 arg6 harg6 arg9 arg10 arg11 arg12 arg16 arg17 arg19 x1 x2 x4) = ST x1 x2 x4 (k0_pay2 (F := Ideal)) 22 :=
  step_SC x1 x2 x4 (k0_pay2 (F := Ideal)) _ 21 st21 2 5 rfl rfl _ _ rfl _ (congr3 (fun st dl u => k0_pay180 (k0_pay177 st) (k0_pay179 dl) u)
      (rd_SC x1 x2 x4 (k0_pay2 (F := Ideal)) _ _ 21 st21 2 5 rfl rfl _ _ rfl) (r8_2 5 _ _ rfl) (r10 2 5 _ _ rfl))

theorem st23 : View.canon (kernelRun0_A.sl.HS0_24 (F := Ideal) c arg3 harg3 arg4 harg4 arg6 harg6 arg9 arg10 arg11 arg12 arg16 arg17 arg19 x1 x2 x4) = ST x1 x2 x4 (k0_pay2 (F := Ideal)) 23 :=
  step_SC x1 x2 x4 (k0_pay2 (F := Ideal)) _ 22 st22 2 6 rfl rfl _ _ rfl _ (congr3 (fun st dl u => k0_pay180 (k0_pay177 st) (k0_pay179 dl) u)
      (rd_SC x1 x2 x4 (k0_pay2 (F := Ideal)) _ _ 22 st22 2 6 rfl rfl _ _ rfl) (r8_2 6 _ _ rfl) (r10 2 6 _ _ rfl))

theorem st24 : View.canon (kernelRun0_A.sl.HS0_25 (F := Ideal) c arg3 harg3 arg4 harg4 arg6 harg6 arg9 arg10 arg11 arg12 arg16 arg17 arg19 x1 x2 x4) = ST x1 x2 x4 (k0_pay2 (F := Ideal)) 24 :=
  step_SC x1 x2 x4 (k0_pay2 (F := Ideal)) _ 23 st23 2 7 rfl rfl _ _ rfl _ (congr3 (fun st dl u => k0_pay180 (k0_pay177 st) (k0_pay179 dl) u)
      (rd_SC x1 x2 x4 (k0_pay2 (F := Ideal)) _ _ 23 st23 2 7 rfl rfl _ _ rfl) (r8_2 7 _ _ rfl) (r10 2 7 _ _ rfl))

theorem st25 : View.canon (kernelRun0_A.sl.HS0_26 (F := Ideal) c arg3 harg3 arg4 harg4 arg6 harg6 arg9 arg10 arg11 arg12 arg16 arg17 arg19 x1 x2 x4) = ST x1 x2 x4 (k0_pay2 (F := Ideal)) 25 :=
  step_SC x1 x2 x4 (k0_pay2 (F := Ideal)) _ 24 st24 3 0 rfl rfl _ _ rfl _ (congr3 (fun st dl u => k0_pay180 (k0_pay177 st) (k0_pay179 dl) u)
      (rd_SC x1 x2 x4 (k0_pay2 (F := Ideal)) _ _ 24 st24 3 0 rfl rfl _ _ rfl) (r8_3 0 _ _ rfl) (r10 3 0 _ _ rfl))

theorem st26 : View.canon (kernelRun0_A.sl.HS0_27 (F := Ideal) c arg3 harg3 arg4 harg4 arg6 harg6 arg9 arg10 arg11 arg12 arg16 arg17 arg19 x1 x2 x4) = ST x1 x2 x4 (k0_pay2 (F := Ideal)) 26 :=
  step_SC x1 x2 x4 (k0_pay2 (F := Ideal)) _ 25 st25 3 1 rfl rfl _ _ rfl _ (congr3 (fun st dl u => k0_pay180 (k0_pay177 st) (k0_pay179 dl) u)
      (rd_SC x1 x2 x4 (k0_pay2 (F := Ideal)) _ _ 25 st25 3 1 rfl rfl _ _ rfl) (r8_3 1 _ _ rfl) (r10 3 1 _ _ rfl))

theorem st27 : View.canon (kernelRun0_A.sl.HS0_28 (F := Ideal) c arg3 harg3 arg4 harg4 arg6 harg6 arg9 arg10 arg11 arg12 arg16 arg17 arg19 x1 x2 x4) = ST x1 x2 x4 (k0_pay2 (F := Ideal)) 27 :=
  step_SC x1 x2 x4 (k0_pay2 (F := Ideal)) _ 26 st26 3 2 rfl rfl _ _ rfl _ (congr3 (fun st dl u => k0_pay180 (k0_pay177 st) (k0_pay179 dl) u)
      (rd_SC x1 x2 x4 (k0_pay2 (F := Ideal)) _ _ 26 st26 3 2 rfl rfl _ _ rfl) (r8_3 2 _ _ rfl) (r10 3 2 _ _ rfl))

theorem st28 : View.canon (kernelRun0_A.sl.HS0_29 (F := Ideal) c arg3 harg3 arg4 harg4 arg6 harg6 arg9 arg10 arg11 arg12 arg16 arg17 arg19 x1 x2 x4) = ST x1 x2 x4 (k0_pay2 (F := Ideal)) 28 :=
  step_SC x1 x2 x4 (k0_pay2 (F := Ideal)) _ 27 st27 3 3 rfl rfl _ _ rfl _ (congr3 (fun st dl u => k0_pay180 (k0_pay177 st) (k0_pay179 dl) u)
      (rd_SC x1 x2 x4 (k0_pay2 (F := Ideal)) _ _ 27 st27 3 3 rfl rfl _ _ rfl) (r8_3 3 _ _ rfl) (r10 3 3 _ _ rfl))

theorem st29 : View.canon (kernelRun0_A.sl.HS0_30 (F := Ideal) c arg3 harg3 arg4 harg4 arg6 harg6 arg9 arg10 arg11 arg12 arg16 arg17 arg19 x1 x2 x4) = ST x1 x2 x4 (k0_pay2 (F := Ideal)) 29 :=
  step_SC x1 x2 x4 (k0_pay2 (F := Ideal)) _ 28 st28 3 4 rfl rfl _ _ rfl _ (congr3 (fun st dl u => k0_pay180 (k0_pay177 st) (k0_pay179 dl) u)
      (rd_SC x1 x2 x4 (k0_pay2 (F := Ideal)) _ _ 28 st28 3 4 rfl rfl _ _ rfl) (r8_3 4 _ _ rfl) (r10 3 4 _ _ rfl))

theorem st30 : View.canon (kernelRun0_A.sl.HS0_31 (F := Ideal) c arg3 harg3 arg4 harg4 arg6 harg6 arg9 arg10 arg11 arg12 arg16 arg17 arg19 x1 x2 x4) = ST x1 x2 x4 (k0_pay2 (F := Ideal)) 30 :=
  step_SC x1 x2 x4 (k0_pay2 (F := Ideal)) _ 29 st29 3 5 rfl rfl _ _ rfl _ (congr3 (fun st dl u => k0_pay180 (k0_pay177 st) (k0_pay179 dl) u)
      (rd_SC x1 x2 x4 (k0_pay2 (F := Ideal)) _ _ 29 st29 3 5 rfl rfl _ _ rfl) (r8_3 5 _ _ rfl) (r10 3 5 _ _ rfl))

theorem st31 : View.canon (kernelRun0_A.sl.HS0_32 (F := Ideal) c arg3 harg3 arg4 harg4 arg6 harg6 arg9 arg10 arg11 arg12 arg16 arg17 arg19 x1 x2 x4) = ST x1 x2 x4 (k0_pay2 (F := Ideal)) 31 :=
  step_SC x1 x2 x4 (k0_pay2 (F := Ideal)) _ 30 st30 3 6 rfl rfl _ _ rfl _ (congr3 (fun st dl u => k0_pay180 (k0_pay177 st) (k0_pay179 dl) u)
      (rd_SC x1 x2 x4 (k0_pay2 (F := Ideal)) _ _ 30 st30 3 6 rfl rfl _ _ rfl) (r8_3 6 _ _ rfl) (r10 3 6 _ _ rfl))

theorem st32 (hc0 : cond0_0 i) : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5).2.1
    = ST x1 x2 x4 (k0_pay2 (F := Ideal)) 32 :=
  step_SC x1 x2 x4 (k0_pay2 (F := Ideal)) _ 31 st31 3 7 rfl rfl _ _ rfl _ (congr3 (fun st dl u => k0_pay180 (k0_pay177 st) (k0_pay179 dl) u)
      (rd_SC x1 x2 x4 (k0_pay2 (F := Ideal)) _ _ 31 st31 3 7 rfl rfl _ _ rfl) (r8_3 7 _ _ rfl) (r10 3 7 _ _ rfl))

theorem pO (hc0 : cond0_0 i) : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5).1,
    ∀ x : p.1.shape.Idx, p.2 x = unrollO (OUTc x0 x1 x2 x3 x4 x5 (k0_pay2 (F := Ideal))) (p.1.emb x) :=
  fc (piece_O _ 3 7 _ (by decide) rfl _ (congr5 (fun gn st oi qe og => k0_pay181 (k0_pay176 gn) (k0_pay178 st oi qe) og)
      (whole2 harg7 x5 _ _ rfl) (rd_SC x1 x2 x4 (k0_pay2 (F := Ideal)) _ _ 31 st31 3 7 rfl rfl _ _ rfl) (r9 3 7 _ _ rfl) (r6 3 7 _ _ rfl)
      (in_unit harg5 x3 3 7 _ _ rfl))) <|
  fc (piece_O _ 3 6 _ (by decide) rfl _ (congr5 (fun gn st oi qe og => k0_pay181 (k0_pay176 gn) (k0_pay178 st oi qe) og)
      (whole2 harg7 x5 _ _ rfl) (rd_SC x1 x2 x4 (k0_pay2 (F := Ideal)) _ _ 30 st30 3 6 rfl rfl _ _ rfl) (r9 3 6 _ _ rfl) (r6 3 6 _ _ rfl)
      (in_unit harg5 x3 3 6 _ _ rfl))) <|
  fc (piece_O _ 3 5 _ (by decide) rfl _ (congr5 (fun gn st oi qe og => k0_pay181 (k0_pay176 gn) (k0_pay178 st oi qe) og)
      (whole2 harg7 x5 _ _ rfl) (rd_SC x1 x2 x4 (k0_pay2 (F := Ideal)) _ _ 29 st29 3 5 rfl rfl _ _ rfl) (r9 3 5 _ _ rfl) (r6 3 5 _ _ rfl)
      (in_unit harg5 x3 3 5 _ _ rfl))) <|
  fc (piece_O _ 3 4 _ (by decide) rfl _ (congr5 (fun gn st oi qe og => k0_pay181 (k0_pay176 gn) (k0_pay178 st oi qe) og)
      (whole2 harg7 x5 _ _ rfl) (rd_SC x1 x2 x4 (k0_pay2 (F := Ideal)) _ _ 28 st28 3 4 rfl rfl _ _ rfl) (r9 3 4 _ _ rfl) (r6 3 4 _ _ rfl)
      (in_unit harg5 x3 3 4 _ _ rfl))) <|
  fc (piece_O _ 3 3 _ (by decide) rfl _ (congr5 (fun gn st oi qe og => k0_pay181 (k0_pay176 gn) (k0_pay178 st oi qe) og)
      (whole2 harg7 x5 _ _ rfl) (rd_SC x1 x2 x4 (k0_pay2 (F := Ideal)) _ _ 27 st27 3 3 rfl rfl _ _ rfl) (r9 3 3 _ _ rfl) (r6 3 3 _ _ rfl)
      (in_unit harg5 x3 3 3 _ _ rfl))) <|
  fc (piece_O _ 3 2 _ (by decide) rfl _ (congr5 (fun gn st oi qe og => k0_pay181 (k0_pay176 gn) (k0_pay178 st oi qe) og)
      (whole2 harg7 x5 _ _ rfl) (rd_SC x1 x2 x4 (k0_pay2 (F := Ideal)) _ _ 26 st26 3 2 rfl rfl _ _ rfl) (r9 3 2 _ _ rfl) (r6 3 2 _ _ rfl)
      (in_unit harg5 x3 3 2 _ _ rfl))) <|
  fc (piece_O _ 3 1 _ (by decide) rfl _ (congr5 (fun gn st oi qe og => k0_pay181 (k0_pay176 gn) (k0_pay178 st oi qe) og)
      (whole2 harg7 x5 _ _ rfl) (rd_SC x1 x2 x4 (k0_pay2 (F := Ideal)) _ _ 25 st25 3 1 rfl rfl _ _ rfl) (r9 3 1 _ _ rfl) (r6 3 1 _ _ rfl)
      (in_unit harg5 x3 3 1 _ _ rfl))) <|
  fc (piece_O _ 3 0 _ (by decide) rfl _ (congr5 (fun gn st oi qe og => k0_pay181 (k0_pay176 gn) (k0_pay178 st oi qe) og)
      (whole2 harg7 x5 _ _ rfl) (rd_SC x1 x2 x4 (k0_pay2 (F := Ideal)) _ _ 24 st24 3 0 rfl rfl _ _ rfl) (r9 3 0 _ _ rfl) (r6 3 0 _ _ rfl)
      (in_unit harg5 x3 3 0 _ _ rfl))) <|
  fc (piece_O _ 2 7 _ (by decide) rfl _ (congr5 (fun gn st oi qe og => k0_pay181 (k0_pay176 gn) (k0_pay178 st oi qe) og)
      (whole2 harg7 x5 _ _ rfl) (rd_SC x1 x2 x4 (k0_pay2 (F := Ideal)) _ _ 23 st23 2 7 rfl rfl _ _ rfl) (r9 2 7 _ _ rfl) (r6 2 7 _ _ rfl)
      (in_unit harg5 x3 2 7 _ _ rfl))) <|
  fc (piece_O _ 2 6 _ (by decide) rfl _ (congr5 (fun gn st oi qe og => k0_pay181 (k0_pay176 gn) (k0_pay178 st oi qe) og)
      (whole2 harg7 x5 _ _ rfl) (rd_SC x1 x2 x4 (k0_pay2 (F := Ideal)) _ _ 22 st22 2 6 rfl rfl _ _ rfl) (r9 2 6 _ _ rfl) (r6 2 6 _ _ rfl)
      (in_unit harg5 x3 2 6 _ _ rfl))) <|
  fc (piece_O _ 2 5 _ (by decide) rfl _ (congr5 (fun gn st oi qe og => k0_pay181 (k0_pay176 gn) (k0_pay178 st oi qe) og)
      (whole2 harg7 x5 _ _ rfl) (rd_SC x1 x2 x4 (k0_pay2 (F := Ideal)) _ _ 21 st21 2 5 rfl rfl _ _ rfl) (r9 2 5 _ _ rfl) (r6 2 5 _ _ rfl)
      (in_unit harg5 x3 2 5 _ _ rfl))) <|
  fc (piece_O _ 2 4 _ (by decide) rfl _ (congr5 (fun gn st oi qe og => k0_pay181 (k0_pay176 gn) (k0_pay178 st oi qe) og)
      (whole2 harg7 x5 _ _ rfl) (rd_SC x1 x2 x4 (k0_pay2 (F := Ideal)) _ _ 20 st20 2 4 rfl rfl _ _ rfl) (r9 2 4 _ _ rfl) (r6 2 4 _ _ rfl)
      (in_unit harg5 x3 2 4 _ _ rfl))) <|
  fc (piece_O _ 2 3 _ (by decide) rfl _ (congr5 (fun gn st oi qe og => k0_pay181 (k0_pay176 gn) (k0_pay178 st oi qe) og)
      (whole2 harg7 x5 _ _ rfl) (rd_SC x1 x2 x4 (k0_pay2 (F := Ideal)) _ _ 19 st19 2 3 rfl rfl _ _ rfl) (r9 2 3 _ _ rfl) (r6 2 3 _ _ rfl)
      (in_unit harg5 x3 2 3 _ _ rfl))) <|
  fc (piece_O _ 2 2 _ (by decide) rfl _ (congr5 (fun gn st oi qe og => k0_pay181 (k0_pay176 gn) (k0_pay178 st oi qe) og)
      (whole2 harg7 x5 _ _ rfl) (rd_SC x1 x2 x4 (k0_pay2 (F := Ideal)) _ _ 18 st18 2 2 rfl rfl _ _ rfl) (r9 2 2 _ _ rfl) (r6 2 2 _ _ rfl)
      (in_unit harg5 x3 2 2 _ _ rfl))) <|
  fc (piece_O _ 2 1 _ (by decide) rfl _ (congr5 (fun gn st oi qe og => k0_pay181 (k0_pay176 gn) (k0_pay178 st oi qe) og)
      (whole2 harg7 x5 _ _ rfl) (rd_SC x1 x2 x4 (k0_pay2 (F := Ideal)) _ _ 17 st17 2 1 rfl rfl _ _ rfl) (r9 2 1 _ _ rfl) (r6 2 1 _ _ rfl)
      (in_unit harg5 x3 2 1 _ _ rfl))) <|
  fc (piece_O _ 2 0 _ (by decide) rfl _ (congr5 (fun gn st oi qe og => k0_pay181 (k0_pay176 gn) (k0_pay178 st oi qe) og)
      (whole2 harg7 x5 _ _ rfl) (rd_SC x1 x2 x4 (k0_pay2 (F := Ideal)) _ _ 16 st16 2 0 rfl rfl _ _ rfl) (r9 2 0 _ _ rfl) (r6 2 0 _ _ rfl)
      (in_unit harg5 x3 2 0 _ _ rfl))) <|
  fc (piece_O _ 1 7 _ (by decide) rfl _ (congr5 (fun gn st oi qe og => k0_pay181 (k0_pay176 gn) (k0_pay178 st oi qe) og)
      (whole2 harg7 x5 _ _ rfl) (rd_SC x1 x2 x4 (k0_pay2 (F := Ideal)) _ _ 15 st15 1 7 rfl rfl _ _ rfl) (r9 1 7 _ _ rfl) (r6 1 7 _ _ rfl)
      (in_unit harg5 x3 1 7 _ _ rfl))) <|
  fc (piece_O _ 1 6 _ (by decide) rfl _ (congr5 (fun gn st oi qe og => k0_pay181 (k0_pay176 gn) (k0_pay178 st oi qe) og)
      (whole2 harg7 x5 _ _ rfl) (rd_SC x1 x2 x4 (k0_pay2 (F := Ideal)) _ _ 14 st14 1 6 rfl rfl _ _ rfl) (r9 1 6 _ _ rfl) (r6 1 6 _ _ rfl)
      (in_unit harg5 x3 1 6 _ _ rfl))) <|
  fc (piece_O _ 1 5 _ (by decide) rfl _ (congr5 (fun gn st oi qe og => k0_pay181 (k0_pay176 gn) (k0_pay178 st oi qe) og)
      (whole2 harg7 x5 _ _ rfl) (rd_SC x1 x2 x4 (k0_pay2 (F := Ideal)) _ _ 13 st13 1 5 rfl rfl _ _ rfl) (r9 1 5 _ _ rfl) (r6 1 5 _ _ rfl)
      (in_unit harg5 x3 1 5 _ _ rfl))) <|
  fc (piece_O _ 1 4 _ (by decide) rfl _ (congr5 (fun gn st oi qe og => k0_pay181 (k0_pay176 gn) (k0_pay178 st oi qe) og)
      (whole2 harg7 x5 _ _ rfl) (rd_SC x1 x2 x4 (k0_pay2 (F := Ideal)) _ _ 12 st12 1 4 rfl rfl _ _ rfl) (r9 1 4 _ _ rfl) (r6 1 4 _ _ rfl)
      (in_unit harg5 x3 1 4 _ _ rfl))) <|
  fc (piece_O _ 1 3 _ (by decide) rfl _ (congr5 (fun gn st oi qe og => k0_pay181 (k0_pay176 gn) (k0_pay178 st oi qe) og)
      (whole2 harg7 x5 _ _ rfl) (rd_SC x1 x2 x4 (k0_pay2 (F := Ideal)) _ _ 11 st11 1 3 rfl rfl _ _ rfl) (r9 1 3 _ _ rfl) (r6 1 3 _ _ rfl)
      (in_unit harg5 x3 1 3 _ _ rfl))) <|
  fc (piece_O _ 1 2 _ (by decide) rfl _ (congr5 (fun gn st oi qe og => k0_pay181 (k0_pay176 gn) (k0_pay178 st oi qe) og)
      (whole2 harg7 x5 _ _ rfl) (rd_SC x1 x2 x4 (k0_pay2 (F := Ideal)) _ _ 10 st10 1 2 rfl rfl _ _ rfl) (r9 1 2 _ _ rfl) (r6 1 2 _ _ rfl)
      (in_unit harg5 x3 1 2 _ _ rfl))) <|
  fc (piece_O _ 1 1 _ (by decide) rfl _ (congr5 (fun gn st oi qe og => k0_pay181 (k0_pay176 gn) (k0_pay178 st oi qe) og)
      (whole2 harg7 x5 _ _ rfl) (rd_SC x1 x2 x4 (k0_pay2 (F := Ideal)) _ _ 9 st9 1 1 rfl rfl _ _ rfl) (r9 1 1 _ _ rfl) (r6 1 1 _ _ rfl)
      (in_unit harg5 x3 1 1 _ _ rfl))) <|
  fc (piece_O _ 1 0 _ (by decide) rfl _ (congr5 (fun gn st oi qe og => k0_pay181 (k0_pay176 gn) (k0_pay178 st oi qe) og)
      (whole2 harg7 x5 _ _ rfl) (rd_SC x1 x2 x4 (k0_pay2 (F := Ideal)) _ _ 8 st8 1 0 rfl rfl _ _ rfl) (r9 1 0 _ _ rfl) (r6 1 0 _ _ rfl)
      (in_unit harg5 x3 1 0 _ _ rfl))) <|
  fc (piece_O _ 0 7 _ (by decide) rfl _ (congr5 (fun gn st oi qe og => k0_pay181 (k0_pay176 gn) (k0_pay178 st oi qe) og)
      (whole2 harg7 x5 _ _ rfl) (rd_SC x1 x2 x4 (k0_pay2 (F := Ideal)) _ _ 7 st7 0 7 rfl rfl _ _ rfl) (r9 0 7 _ _ rfl) (r6 0 7 _ _ rfl)
      (in_unit harg5 x3 0 7 _ _ rfl))) <|
  fc (piece_O _ 0 6 _ (by decide) rfl _ (congr5 (fun gn st oi qe og => k0_pay181 (k0_pay176 gn) (k0_pay178 st oi qe) og)
      (whole2 harg7 x5 _ _ rfl) (rd_SC x1 x2 x4 (k0_pay2 (F := Ideal)) _ _ 6 st6 0 6 rfl rfl _ _ rfl) (r9 0 6 _ _ rfl) (r6 0 6 _ _ rfl)
      (in_unit harg5 x3 0 6 _ _ rfl))) <|
  fc (piece_O _ 0 5 _ (by decide) rfl _ (congr5 (fun gn st oi qe og => k0_pay181 (k0_pay176 gn) (k0_pay178 st oi qe) og)
      (whole2 harg7 x5 _ _ rfl) (rd_SC x1 x2 x4 (k0_pay2 (F := Ideal)) _ _ 5 st5 0 5 rfl rfl _ _ rfl) (r9 0 5 _ _ rfl) (r6 0 5 _ _ rfl)
      (in_unit harg5 x3 0 5 _ _ rfl))) <|
  fc (piece_O _ 0 4 _ (by decide) rfl _ (congr5 (fun gn st oi qe og => k0_pay181 (k0_pay176 gn) (k0_pay178 st oi qe) og)
      (whole2 harg7 x5 _ _ rfl) (rd_SC x1 x2 x4 (k0_pay2 (F := Ideal)) _ _ 4 st4 0 4 rfl rfl _ _ rfl) (r9 0 4 _ _ rfl) (r6 0 4 _ _ rfl)
      (in_unit harg5 x3 0 4 _ _ rfl))) <|
  fc (piece_O _ 0 3 _ (by decide) rfl _ (congr5 (fun gn st oi qe og => k0_pay181 (k0_pay176 gn) (k0_pay178 st oi qe) og)
      (whole2 harg7 x5 _ _ rfl) (rd_SC x1 x2 x4 (k0_pay2 (F := Ideal)) _ _ 3 st3 0 3 rfl rfl _ _ rfl) (r9 0 3 _ _ rfl) (r6 0 3 _ _ rfl)
      (in_unit harg5 x3 0 3 _ _ rfl))) <|
  fc (piece_O _ 0 2 _ (by decide) rfl _ (congr5 (fun gn st oi qe og => k0_pay181 (k0_pay176 gn) (k0_pay178 st oi qe) og)
      (whole2 harg7 x5 _ _ rfl) (rd_SC x1 x2 x4 (k0_pay2 (F := Ideal)) _ _ 2 st2 0 2 rfl rfl _ _ rfl) (r9 0 2 _ _ rfl) (r6 0 2 _ _ rfl)
      (in_unit harg5 x3 0 2 _ _ rfl))) <|
  fc (piece_O _ 0 1 _ (by decide) rfl _ (congr5 (fun gn st oi qe og => k0_pay181 (k0_pay176 gn) (k0_pay178 st oi qe) og)
      (whole2 harg7 x5 _ _ rfl) (rd_SC x1 x2 x4 (k0_pay2 (F := Ideal)) _ _ 1 st1 0 1 rfl rfl _ _ rfl) (r9 0 1 _ _ rfl) (r6 0 1 _ _ rfl)
      (in_unit harg5 x3 0 1 _ _ rfl))) <|
  fc (piece_O _ 0 0 _ (by decide) rfl _ (congr5 (fun gn st oi qe og => k0_pay181 (k0_pay176 gn) (k0_pay178 st oi qe) og)
      (whole2 harg7 x5 _ _ rfl) (rd_SC x1 x2 x4 (k0_pay2 (F := Ideal)) _ _ 0 st0 0 0 rfl rfl _ _ rfl) (r9 0 0 _ _ rfl) (r6 0 0 _ _ rfl)
      (in_unit harg5 x3 0 0 _ _ rfl))) <|
  fnil

/-- The output block the tile leaves. -/
theorem out_eq (hc0 : cond0_0 i) : out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5
    = unrollO (OUTc x0 x1 x2 x3 x4 x5 (k0_pay2 (F := Ideal))) := by
  unfold out0_A_6
  rw [View.read_writes_junk_eq_canon]
  exact funext fun y => View.canon_apply_of_pieces _ _ (pO hc0) y (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 y)

/-- The state the tile leaves. -/
theorem sout_eq (hc0 : cond0_0 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5
    = ST x1 x2 x4 (k0_pay2 (F := Ideal)) 32 := by
  unfold sout0_A_0
  rw [View.read_writes_junk_eq_canon]
  exact st32 hc0

end Cert.KernelIdeal.Hgrn.A
-- ==== Proof.ReadB.lean ====
/-
  The later tile of a sequence (the state is the one carried over): every load of the body's run is the window of
  one function of the tile's input blocks, buffer by buffer in the order the run fills them, down to
  the output block and the state it leaves.
-/
module

public import proofs.«01_k».proof.Proof.Tile

@[expose] public section

set_option maxRecDepth 16384
set_option maxHeartbeats 1000000

noncomputable section

namespace Cert.KernelIdeal.Hgrn.B

open Idealize.ShloMosaic Idealize.ShloMosaic.TcCoe Idealize.SL.Sem
open Cert.KernelIdeal Cert.KernelIdeal.Gen Cert.KernelIdeal.Hgrn

variable {c : Dev nD} {i : grid0.Coords}
  {arg2 : Memref sig .tc .vmem S1x256x1024 .bf16} {harg2 : arg2.IsWhole}
  {arg3 : Memref sig .tc .vmem S1x256x1024 .bf16} {harg3 : arg3.IsWhole}
  {arg4 : Memref sig .tc .vmem S1x256x1024 .bf16} {harg4 : arg4.IsWhole}
  {arg5 : Memref sig .tc .vmem S1x256x1024 .bf16} {harg5 : arg5.IsWhole}
  {arg6 : Memref sig .tc .vmem S1x1024 .f32} {harg6 : arg6.IsWhole}
  {arg7 : Memref sig .tc .vmem S1x128 .f32} {harg7 : arg7.IsWhole}
  {arg8 : Memref sig .tc .vmem S1x256x1024 .bf16} {harg8 : arg8.IsWhole}
  {arg9 : Memref sig .tc .vmem S8x128x128 .f32} {harg9 : arg9.IsWhole}
  {arg10 : Memref sig .tc .vmem S256x2048 .bf16} {harg10 : arg10.IsWhole}
  {arg11 : Memref sig .tc .vmem S256x1024 .f32} {harg11 : arg11.IsWhole}
  {arg12 : Memref sig .tc .vmem S256x1024 .f32} {harg12 : arg12.IsWhole}
  {arg13 : Memref sig .tc .vmem S256x1024 .bf16} {harg13 : arg13.IsWhole}
  {arg14 : Memref sig .tc .vmem S256x1024 .bf16} {harg14 : arg14.IsWhole}
  {arg15 : Memref sig .tc .vmem S256x1024 .bf16} {harg15 : arg15.IsWhole}
  {arg16 : Memref sig .tc .vmem S256x1024 .bf16} {harg16 : arg16.IsWhole}
  {arg17 : Memref sig .tc .vmem S8x1024 .f32} {harg17 : arg17.IsWhole}
  {arg18 : Memref sig .tc .vmem S256x1024 .f32} {harg18 : arg18.IsWhole}
  {arg19 : Memref sig .tc .vmem S4x8x128x128 .f32} {harg19 : arg19.IsWhole}
  {arg20 : Memref sig .tc .vmem S32x64x64 .bf16} {harg20 : arg20.IsWhole}
  {x0 x1 x2 x3 : Vec Ideal S1x256x1024 .bf16} {x4 : Vec Ideal S1x1024 .f32} {x5 : Vec Ideal S1x128 .f32}
  {xs0 : Vec Ideal S8x128x128 .f32}

theorem p1 : ∀ p ∈ (kernelRun0_B.sl.HS1_2 (F := Ideal) c arg3 harg3 arg6 harg6 x1 x4),
    ∀ x : p.1.shape.Idx, p.2 x = (GH x1 x4) (p.1.emb x) :=
  fc (piece_G2 x1 x4 _ (by decide) rfl _ (congrArg₂ (fun a b => k0_pay11 (k0_pay8 a b) (k0_pay9 a b)) (whole2 harg6 x4 _ _ rfl) (whole3 harg3 x1 _ _ rfl))) <|
  fc (piece_G1 x1 x4 _ (by decide) rfl _ (congrArg₂ (fun a b => k0_pay10 (k0_pay9 a b)) (whole2 harg6 x4 _ _ rfl) (whole3 harg3 x1 _ _ rfl))) <|
  fnil

theorem r1 (ci : Fin 4) (o : Fin 2 → ℕ)
    (inb : ∀ a, o a + S64x2048.size a ≤ S256x2048.size a) (ho : o = ![64 * ci.val, 0]) :
    arg10.view.readCov (kernelRun0_B.sl.HS1_2 (F := Ideal) c arg3 harg3 arg6 harg6 x1 x4)
      (Rect.unit (s := S256x2048) o S64x2048.size inb).toLoadRect = rows2 ci (GH x1 x4) :=
  (rd_of _ _ (GH x1 x4) p1 (View.cover_of_tiledL _ S256x1024.size (by sl_kernel_rfl)) _).trans (ld_rows2 _ ci o inb ho)

theorem p2 : ∀ p ∈ (kernelRun0_B.sl.HS2_1 (F := Ideal) c arg3 harg3 arg6 harg6 x1 x4),
    ∀ x : p.1.shape.Idx, p.2 x = (Kw x1 x4) (p.1.emb x) :=
  fc (piece_W (Kw x1 x4) _ (by decide) rfl _ (congrArg₂ k0_pay7 (whole2 harg6 x4 _ _ rfl) (whole3 harg3 x1 _ _ rfl))) <|
  fnil

theorem r2 (ci : Fin 4) (o : Fin 2 → ℕ)
    (inb : ∀ a, o a + S64x1024.size a ≤ S256x1024.size a) (ho : o = ![64 * ci.val, 0]) :
    arg11.view.readCov (kernelRun0_B.sl.HS2_1 (F := Ideal) c arg3 harg3 arg6 harg6 x1 x4)
      (Rect.unit (s := S256x1024) o S64x1024.size inb).toLoadRect = rows ci (Kw x1 x4) :=
  (rd_of _ _ (Kw x1 x4) p2 (View.cover_of_tiledL _ S256x1024.size (by sl_kernel_rfl)) _).trans (ld_rows (Kw x1 x4) ci o inb ho)

theorem p3 : ∀ p ∈ (kernelRun0_B.sl.HS3_4 (F := Ideal) c arg3 harg3 arg6 harg6 arg10 x1 x4),
    ∀ x : p.1.shape.Idx, p.2 x = (unrollR (Bc x1 x4)) (p.1.emb x) :=
  fc (piece_R _ 3 _ (by decide) rfl _ (congrArg (k0_pay12 k0_pay4) (r1 3 _ _ rfl))) <|
  fc (piece_R _ 2 _ (by decide) rfl _ (congrArg (k0_pay12 k0_pay4) (r1 2 _ _ rfl))) <|
  fc (piece_R _ 1 _ (by decide) rfl _ (congrArg (k0_pay12 k0_pay4) (r1 1 _ _ rfl))) <|
  fc (piece_R _ 0 _ (by decide) rfl _ (congrArg (k0_pay12 k0_pay4) (r1 0 _ _ rfl))) <|
  fnil

theorem r3 (ci : Fin 4) (o : Fin 2 → ℕ)
    (inb : ∀ a, o a + S64x1024.size a ≤ S256x1024.size a) (ho : o = ![64 * ci.val, 0]) :
    arg12.view.readCov (kernelRun0_B.sl.HS3_4 (F := Ideal) c arg3 harg3 arg6 harg6 arg10 x1 x4)
      (Rect.unit (s := S256x1024) o S64x1024.size inb).toLoadRect = Bc x1 x4 ci :=
  (rd_of _ _ (unrollR (Bc x1 x4)) p3 (View.cover_of_tiledL _ S64x1024.size (by sl_kernel_rfl)) _).trans ((ld_rows _ ci o inb ho).trans (rows_unroll _ ci))

theorem p4 : ∀ p ∈ (kernelRun0_B.sl.HS4_4 (F := Ideal) c arg2 harg2 arg3 harg3 arg6 harg6 arg10 arg12 x0 x1 x4),
    ∀ x : p.1.shape.Idx, p.2 x = (unrollR (QTc x0 x1 x4)) (p.1.emb x) :=
  fc (piece_R _ 3 _ (by decide) rfl _ (congrArg₂ k0_pay23 (r3 3 _ _ rfl) (in_rows harg2 x0 3 _ _ rfl))) <|
  fc (piece_R _ 2 _ (by decide) rfl _ (congrArg₂ k0_pay23 (r3 2 _ _ rfl) (in_rows harg2 x0 2 _ _ rfl))) <|
  fc (piece_R _ 1 _ (by decide) rfl _ (congrArg₂ k0_pay23 (r3 1 _ _ rfl) (in_rows harg2 x0 1 _ _ rfl))) <|
  fc (piece_R _ 0 _ (by decide) rfl _ (congrArg₂ k0_pay23 (r3 0 _ _ rfl) (in_rows harg2 x0 0 _ _ rfl))) <|
  fnil

theorem r4 (ci : Fin 4) (h : Fin 8) (o : Fin 2 → ℕ)
    (inb : ∀ a, o a + S64x128.size a ≤ S256x1024.size a) (ho : o = ![64 * ci.val, 128 * h.val]) :
    arg13.view.readCov (kernelRun0_B.sl.HS4_4 (F := Ideal) c arg2 harg2 arg3 harg3 arg6 harg6 arg10 arg12 x0 x1 x4)
      (Rect.unit (s := S256x1024) o S64x128.size inb).toLoadRect = cols h (QTc x0 x1 x4 ci) :=
  (rd_of _ _ (unrollR (QTc x0 x1 x4)) p4 (View.cover_of_tiledL _ S64x1024.size (by sl_kernel_rfl)) _).trans (ld_cols _ ci h o inb ho)

theorem p5 : ∀ p ∈ (kernelRun0_B.sl.HS5_4 (F := Ideal) c arg3 harg3 arg6 harg6 arg10 arg11 arg12 x1 x4),
    ∀ x : p.1.shape.Idx, p.2 x = (unrollR (KTc x1 x4)) (p.1.emb x) :=
  fc (piece_R _ 3 _ (by decide) rfl _ (congrArg₂ k0_pay24 (r3 3 _ _ rfl) (r2 3 _ _ rfl))) <|
  fc (piece_R _ 2 _ (by decide) rfl _ (congrArg₂ k0_pay24 (r3 2 _ _ rfl) (r2 2 _ _ rfl))) <|
  fc (piece_R _ 1 _ (by decide) rfl _ (congrArg₂ k0_pay24 (r3 1 _ _ rfl) (r2 1 _ _ rfl))) <|
  fc (piece_R _ 0 _ (by decide) rfl _ (congrArg₂ k0_pay24 (r3 0 _ _ rfl) (r2 0 _ _ rfl))) <|
  fnil

theorem r5 (ci : Fin 4) (h : Fin 8) (o : Fin 2 → ℕ)
    (inb : ∀ a, o a + S64x128.size a ≤ S256x1024.size a) (ho : o = ![64 * ci.val, 128 * h.val]) :
    arg14.view.readCov (kernelRun0_B.sl.HS5_4 (F := Ideal) c arg3 harg3 arg6 harg6 arg10 arg11 arg12 x1 x4)
      (Rect.unit (s := S256x1024) o S64x128.size inb).toLoadRect = cols h (KTc x1 x4 ci) :=
  (rd_of _ _ (unrollR (KTc x1 x4)) p5 (View.cover_of_tiledL _ S64x1024.size (by sl_kernel_rfl)) _).trans (ld_cols _ ci h o inb ho)

theorem p6 : ∀ p ∈ (kernelRun0_B.sl.HS6_4 (F := Ideal) c arg2 harg2 arg3 harg3 arg6 harg6 arg10 arg12 x0 x1 x4),
    ∀ x : p.1.shape.Idx, p.2 x = (unrollR (QEc x0 x1 x4)) (p.1.emb x) :=
  fc (piece_R _ 3 _ (by decide) rfl _ (congrArg₂ (fun a b => k0_pay26 (k0_pay25 a b)) (r3 3 _ _ rfl) (in_rows harg2 x0 3 _ _ rfl))) <|
  fc (piece_R _ 2 _ (by decide) rfl _ (congrArg₂ (fun a b => k0_pay26 (k0_pay25 a b)) (r3 2 _ _ rfl) (in_rows harg2 x0 2 _ _ rfl))) <|
  fc (piece_R _ 1 _ (by decide) rfl _ (congrArg₂ (fun a b => k0_pay26 (k0_pay25 a b)) (r3 1 _ _ rfl) (in_rows harg2 x0 1 _ _ rfl))) <|
  fc (piece_R _ 0 _ (by decide) rfl _ (congrArg₂ (fun a b => k0_pay26 (k0_pay25 a b)) (r3 0 _ _ rfl) (in_rows harg2 x0 0 _ _ rfl))) <|
  fnil

theorem r6 (ci : Fin 4) (h : Fin 8) (o : Fin 2 → ℕ)
    (inb : ∀ a, o a + S64x128.size a ≤ S256x1024.size a) (ho : o = ![64 * ci.val, 128 * h.val]) :
    arg15.view.readCov (kernelRun0_B.sl.HS6_4 (F := Ideal) c arg2 harg2 arg3 harg3 arg6 harg6 arg10 arg12 x0 x1 x4)
      (Rect.unit (s := S256x1024) o S64x128.size inb).toLoadRect = cols h (QEc x0 x1 x4 ci) :=
  (rd_of _ _ (unrollR (QEc x0 x1 x4)) p6 (View.cover_of_tiledL _ S64x1024.size (by sl_kernel_rfl)) _).trans (ld_cols _ ci h o inb ho)

theorem p7 : ∀ p ∈ (kernelRun0_B.sl.HS7_4 (F := Ideal) c arg3 harg3 arg6 harg6 arg10 arg11 arg12 x1 x4),
    ∀ x : p.1.shape.Idx, p.2 x = (unrollR (KDc x1 x4)) (p.1.emb x) :=
  fc (piece_R _ 3 _ (by decide) rfl _ (congrArg₂ (fun a b => k0_pay27 (k0_pay19 a) (k0_pay20 a) (k0_pay22 a b)) (r3 3 _ _ rfl) (r2 3 _ _ rfl))) <|
  fc (piece_R _ 2 _ (by decide) rfl _ (congrArg₂ (fun a b => k0_pay27 (k0_pay19 a) (k0_pay20 a) (k0_pay22 a b)) (r3 2 _ _ rfl) (r2 2 _ _ rfl))) <|
  fc (piece_R _ 1 _ (by decide) rfl _ (congrArg₂ (fun a b => k0_pay27 (k0_pay19 a) (k0_pay20 a) (k0_pay22 a b)) (r3 1 _ _ rfl) (r2 1 _ _ rfl))) <|
  fc (piece_R _ 0 _ (by decide) rfl _ (congrArg₂ (fun a b => k0_pay27 (k0_pay19 a) (k0_pay20 a) (k0_pay22 a b)) (r3 0 _ _ rfl) (r2 0 _ _ rfl))) <|
  fnil

theorem r7 (ci : Fin 4) (h : Fin 8) (o : Fin 2 → ℕ)
    (inb : ∀ a, o a + S64x128.size a ≤ S256x1024.size a) (ho : o = ![64 * ci.val, 128 * h.val]) :
    arg16.view.readCov (kernelRun0_B.sl.HS7_4 (F := Ideal) c arg3 harg3 arg6 harg6 arg10 arg11 arg12 x1 x4)
      (Rect.unit (s := S256x1024) o S64x128.size inb).toLoadRect = cols h (KDc x1 x4 ci) :=
  (rd_of _ _ (unrollR (KDc x1 x4)) p7 (View.cover_of_tiledL _ S64x1024.size (by sl_kernel_rfl)) _).trans (ld_cols _ ci h o inb ho)

theorem p8 : ∀ p ∈ (kernelRun0_B.sl.HS8_4 (F := Ideal) c arg3 harg3 arg6 harg6 arg10 arg12 x1 x4),
    ∀ x : p.1.shape.Idx, p.2 x = (unrollD (DLc x1 x4)) (p.1.emb x) :=
  fc (piece_D _ 3 _ (by decide) rfl _ (congrArg (fun a => k0_pay28 (k0_pay19 a)) (r3 3 _ _ rfl))) <|
  fc (piece_D _ 2 _ (by decide) rfl _ (congrArg (fun a => k0_pay28 (k0_pay19 a)) (r3 2 _ _ rfl))) <|
  fc (piece_D _ 1 _ (by decide) rfl _ (congrArg (fun a => k0_pay28 (k0_pay19 a)) (r3 1 _ _ rfl))) <|
  fc (piece_D _ 0 _ (by decide) rfl _ (congrArg (fun a => k0_pay28 (k0_pay19 a)) (r3 0 _ _ rfl))) <|
  fnil

theorem r8_0 (h : Fin 8) (o : Fin 2 → ℕ)
    (inb : ∀ a, o a + S1x128.size a ≤ S8x1024.size a) (ho : o = ![0, 128 * h.val]) :
    arg17.view.readCov (kernelRun0_B.sl.HS8_4 (F := Ideal) c arg3 harg3 arg6 harg6 arg10 arg12 x1 x4)
      (Rect.unit (s := S8x1024) o S1x128.size inb).toLoadRect = cols1 h (DLc x1 x4 0) :=
  (rd_at _ _ (unrollD (DLc x1 x4)) p8 _ (fun x => ⟨_, (List.Mem.tail _ (List.Mem.tail _ (List.Mem.tail _ (List.Mem.head _)))),
    mem_D 0 h _ _ inb (by decide) ho rfl x⟩)).trans (ld_D _ 0 h o inb ho)

theorem r8_1 (h : Fin 8) (o : Fin 2 → ℕ)
    (inb : ∀ a, o a + S1x128.size a ≤ S8x1024.size a) (ho : o = ![1, 128 * h.val]) :
    arg17.view.readCov (kernelRun0_B.sl.HS8_4 (F := Ideal) c arg3 harg3 arg6 harg6 arg10 arg12 x1 x4)
      (Rect.unit (s := S8x1024) o S1x128.size inb).toLoadRect = cols1 h (DLc x1 x4 1) :=
  (rd_at _ _ (unrollD (DLc x1 x4)) p8 _ (fun x => ⟨_, (List.Mem.tail _ (List.Mem.tail _ (List.Mem.head _))),
    mem_D 1 h _ _ inb (by decide) ho rfl x⟩)).trans (ld_D _ 1 h o inb ho)

theorem r8_2 (h : Fin 8) (o : Fin 2 → ℕ)
    (inb : ∀ a, o a + S1x128.size a ≤ S8x1024.size a) (ho : o = ![2, 128 * h.val]) :
    arg17.view.readCov (kernelRun0_B.sl.HS8_4 (F := Ideal) c arg3 harg3 arg6 harg6 arg10 arg12 x1 x4)
      (Rect.unit (s := S8x1024) o S1x128.size inb).toLoadRect = cols1 h (DLc x1 x4 2) :=
  (rd_at _ _ (unrollD (DLc x1 x4)) p8 _ (fun x => ⟨_, (List.Mem.tail _ (List.Mem.head _)),
    mem_D 2 h _ _ inb (by decide) ho rfl x⟩)).trans (ld_D _ 2 h o inb ho)

theorem r8_3 (h : Fin 8) (o : Fin 2 → ℕ)
    (inb : ∀ a, o a + S1x128.size a ≤ S8x1024.size a) (ho : o = ![3, 128 * h.val]) :
    arg17.view.readCov (kernelRun0_B.sl.HS8_4 (F := Ideal) c arg3 harg3 arg6 harg6 arg10 arg12 x1 x4)
      (Rect.unit (s := S8x1024) o S1x128.size inb).toLoadRect = cols1 h (DLc x1 x4 3) :=
  (rd_at _ _ (unrollD (DLc x1 x4)) p8 _ (fun x => ⟨_, (List.Mem.head _),
    mem_D 3 h _ _ inb (by decide) ho rfl x⟩)).trans (ld_D _ 3 h o inb ho)

theorem p11 : ∀ p ∈ (kernelRun0_B.sl.HS11_32 (F := Ideal) c arg2 harg2 arg3 harg3 arg6 harg6 arg10 arg11 arg12 arg13 arg14 x0 x1 x4),
    ∀ x : p.1.shape.Idx, p.2 x = (unrollA (Ac x0 x1 x4)) (p.1.emb x) :=
  fc (piece_A _ 3 7 _ (by decide) rfl _ (congrArg₂ (k0_pay61 k0_pay3) (r4 3 7 _ _ rfl) (r5 3 7 _ _ rfl))) <|
  fc (piece_A _ 3 6 _ (by decide) rfl _ (congrArg₂ (k0_pay61 k0_pay3) (r4 3 6 _ _ rfl) (r5 3 6 _ _ rfl))) <|
  fc (piece_A _ 3 5 _ (by decide) rfl _ (congrArg₂ (k0_pay61 k0_pay3) (r4 3 5 _ _ rfl) (r5 3 5 _ _ rfl))) <|
  fc (piece_A _ 3 4 _ (by decide) rfl _ (congrArg₂ (k0_pay61 k0_pay3) (r4 3 4 _ _ rfl) (r5 3 4 _ _ rfl))) <|
  fc (piece_A _ 3 3 _ (by decide) rfl _ (congrArg₂ (k0_pay61 k0_pay3) (r4 3 3 _ _ rfl) (r5 3 3 _ _ rfl))) <|
  fc (piece_A _ 3 2 _ (by decide) rfl _ (congrArg₂ (k0_pay61 k0_pay3) (r4 3 2 _ _ rfl) (r5 3 2 _ _ rfl))) <|
  fc (piece_A _ 3 1 _ (by decide) rfl _ (congrArg₂ (k0_pay61 k0_pay3) (r4 3 1 _ _ rfl) (r5 3 1 _ _ rfl))) <|
  fc (piece_A _ 3 0 _ (by decide) rfl _ (congrArg₂ (k0_pay61 k0_pay3) (r4 3 0 _ _ rfl) (r5 3 0 _ _ rfl))) <|
  fc (piece_A _ 2 7 _ (by decide) rfl _ (congrArg₂ (k0_pay61 k0_pay3) (r4 2 7 _ _ rfl) (r5 2 7 _ _ rfl))) <|
  fc (piece_A _ 2 6 _ (by decide) rfl _ (congrArg₂ (k0_pay61 k0_pay3) (r4 2 6 _ _ rfl) (r5 2 6 _ _ rfl))) <|
  fc (piece_A _ 2 5 _ (by decide) rfl _ (congrArg₂ (k0_pay61 k0_pay3) (r4 2 5 _ _ rfl) (r5 2 5 _ _ rfl))) <|
  fc (piece_A _ 2 4 _ (by decide) rfl _ (congrArg₂ (k0_pay61 k0_pay3) (r4 2 4 _ _ rfl) (r5 2 4 _ _ rfl))) <|
  fc (piece_A _ 2 3 _ (by decide) rfl _ (congrArg₂ (k0_pay61 k0_pay3) (r4 2 3 _ _ rfl) (r5 2 3 _ _ rfl))) <|
  fc (piece_A _ 2 2 _ (by decide) rfl _ (congrArg₂ (k0_pay61 k0_pay3) (r4 2 2 _ _ rfl) (r5 2 2 _ _ rfl))) <|
  fc (piece_A _ 2 1 _ (by decide) rfl _ (congrArg₂ (k0_pay61 k0_pay3) (r4 2 1 _ _ rfl) (r5 2 1 _ _ rfl))) <|
  fc (piece_A _ 2 0 _ (by decide) rfl _ (congrArg₂ (k0_pay61 k0_pay3) (r4 2 0 _ _ rfl) (r5 2 0 _ _ rfl))) <|
  fc (piece_A _ 1 7 _ (by decide) rfl _ (congrArg₂ (k0_pay61 k0_pay3) (r4 1 7 _ _ rfl) (r5 1 7 _ _ rfl))) <|
  fc (piece_A _ 1 6 _ (by decide) rfl _ (congrArg₂ (k0_pay61 k0_pay3) (r4 1 6 _ _ rfl) (r5 1 6 _ _ rfl))) <|
  fc (piece_A _ 1 5 _ (by decide) rfl _ (congrArg₂ (k0_pay61 k0_pay3) (r4 1 5 _ _ rfl) (r5 1 5 _ _ rfl))) <|
  fc (piece_A _ 1 4 _ (by decide) rfl _ (congrArg₂ (k0_pay61 k0_pay3) (r4 1 4 _ _ rfl) (r5 1 4 _ _ rfl))) <|
  fc (piece_A _ 1 3 _ (by decide) rfl _ (congrArg₂ (k0_pay61 k0_pay3) (r4 1 3 _ _ rfl) (r5 1 3 _ _ rfl))) <|
  fc (piece_A _ 1 2 _ (by decide) rfl _ (congrArg₂ (k0_pay61 k0_pay3) (r4 1 2 _ _ rfl) (r5 1 2 _ _ rfl))) <|
  fc (piece_A _ 1 1 _ (by decide) rfl _ (congrArg₂ (k0_pay61 k0_pay3) (r4 1 1 _ _ rfl) (r5 1 1 _ _ rfl))) <|
  fc (piece_A _ 1 0 _ (by decide) rfl _ (congrArg₂ (k0_pay61 k0_pay3) (r4 1 0 _ _ rfl) (r5 1 0 _ _ rfl))) <|
  fc (piece_A _ 0 7 _ (by decide) rfl _ (congrArg₂ (k0_pay61 k0_pay3) (r4 0 7 _ _ rfl) (r5 0 7 _ _ rfl))) <|
  fc (piece_A _ 0 6 _ (by decide) rfl _ (congrArg₂ (k0_pay61 k0_pay3) (r4 0 6 _ _ rfl) (r5 0 6 _ _ rfl))) <|
  fc (piece_A _ 0 5 _ (by decide) rfl _ (congrArg₂ (k0_pay61 k0_pay3) (r4 0 5 _ _ rfl) (r5 0 5 _ _ rfl))) <|
  fc (piece_A _ 0 4 _ (by decide) rfl _ (congrArg₂ (k0_pay61 k0_pay3) (r4 0 4 _ _ rfl) (r5 0 4 _ _ rfl))) <|
  fc (piece_A _ 0 3 _ (by decide) rfl _ (congrArg₂ (k0_pay61 k0_pay3) (r4 0 3 _ _ rfl) (r5 0 3 _ _ rfl))) <|
  fc (piece_A _ 0 2 _ (by decide) rfl _ (congrArg₂ (k0_pay61 k0_pay3) (r4 0 2 _ _ rfl) (r5 0 2 _ _ rfl))) <|
  fc (piece_A _ 0 1 _ (by decide) rfl _ (congrArg₂ (k0_pay61 k0_pay3) (r4 0 1 _ _ rfl) (r5 0 1 _ _ rfl))) <|
  fc (piece_A _ 0 0 _ (by decide) rfl _ (congrArg₂ (k0_pay61 k0_pay3) (r4 0 0 _ _ rfl) (r5 0 0 _ _ rfl))) <|
  fnil

theorem r11 (ci : Fin 4) (h : Fin 8) (o : Fin 3 → ℕ)
    (inb : ∀ a, o a + S1x64x64.size a ≤ S32x64x64.size a) (ho : o = ![8 * ci.val + h.val, 0, 0]) :
    arg20.view.readCov (kernelRun0_B.sl.HS11_32 (F := Ideal) c arg2 harg2 arg3 harg3 arg6 harg6 arg10 arg11 arg12 arg13 arg14 x0 x1 x4)
      (Rect.unit (s := S32x64x64) o S1x64x64.size inb).toLoadRect = Ac x0 x1 x4 ci h :=
  (rd_of _ _ (unrollA (Ac x0 x1 x4)) p11 (View.cover_of_tiledL _ S1x64x64.size (by sl_kernel_rfl)) _).trans (funext fun x => (at_A _ ci h o inb ho x).symm)

theorem p10 : ∀ p ∈ (kernelRun0_B.sl.HS10_32 (F := Ideal) c arg3 harg3 arg4 harg4 arg6 harg6 arg10 arg11 arg12 arg16 x1 x2 x4),
    ∀ x : p.1.shape.Idx, p.2 x = (unrollU (Uc x1 x2 x4)) (p.1.emb x) :=
  fc (piece_U _ 3 7 _ (by decide) rfl _ (congrArg₂ k0_pay100 (in_unit harg4 x2 3 7 _ _ rfl) (r7 3 7 _ _ rfl))) <|
  fc (piece_U _ 3 6 _ (by decide) rfl _ (congrArg₂ k0_pay100 (in_unit harg4 x2 3 6 _ _ rfl) (r7 3 6 _ _ rfl))) <|
  fc (piece_U _ 3 5 _ (by decide) rfl _ (congrArg₂ k0_pay100 (in_unit harg4 x2 3 5 _ _ rfl) (r7 3 5 _ _ rfl))) <|
  fc (piece_U _ 3 4 _ (by decide) rfl _ (congrArg₂ k0_pay100 (in_unit harg4 x2 3 4 _ _ rfl) (r7 3 4 _ _ rfl))) <|
  fc (piece_U _ 3 3 _ (by decide) rfl _ (congrArg₂ k0_pay100 (in_unit harg4 x2 3 3 _ _ rfl) (r7 3 3 _ _ rfl))) <|
  fc (piece_U _ 3 2 _ (by decide) rfl _ (congrArg₂ k0_pay100 (in_unit harg4 x2 3 2 _ _ rfl) (r7 3 2 _ _ rfl))) <|
  fc (piece_U _ 3 1 _ (by decide) rfl _ (congrArg₂ k0_pay100 (in_unit harg4 x2 3 1 _ _ rfl) (r7 3 1 _ _ rfl))) <|
  fc (piece_U _ 3 0 _ (by decide) rfl _ (congrArg₂ k0_pay100 (in_unit harg4 x2 3 0 _ _ rfl) (r7 3 0 _ _ rfl))) <|
  fc (piece_U _ 2 7 _ (by decide) rfl _ (congrArg₂ k0_pay100 (in_unit harg4 x2 2 7 _ _ rfl) (r7 2 7 _ _ rfl))) <|
  fc (piece_U _ 2 6 _ (by decide) rfl _ (congrArg₂ k0_pay100 (in_unit harg4 x2 2 6 _ _ rfl) (r7 2 6 _ _ rfl))) <|
  fc (piece_U _ 2 5 _ (by decide) rfl _ (congrArg₂ k0_pay100 (in_unit harg4 x2 2 5 _ _ rfl) (r7 2 5 _ _ rfl))) <|
  fc (piece_U _ 2 4 _ (by decide) rfl _ (congrArg₂ k0_pay100 (in_unit harg4 x2 2 4 _ _ rfl) (r7 2 4 _ _ rfl))) <|
  fc (piece_U _ 2 3 _ (by decide) rfl _ (congrArg₂ k0_pay100 (in_unit harg4 x2 2 3 _ _ rfl) (r7 2 3 _ _ rfl))) <|
  fc (piece_U _ 2 2 _ (by decide) rfl _ (congrArg₂ k0_pay100 (in_unit harg4 x2 2 2 _ _ rfl) (r7 2 2 _ _ rfl))) <|
  fc (piece_U _ 2 1 _ (by decide) rfl _ (congrArg₂ k0_pay100 (in_unit harg4 x2 2 1 _ _ rfl) (r7 2 1 _ _ rfl))) <|
  fc (piece_U _ 2 0 _ (by decide) rfl _ (congrArg₂ k0_pay100 (in_unit harg4 x2 2 0 _ _ rfl) (r7 2 0 _ _ rfl))) <|
  fc (piece_U _ 1 7 _ (by decide) rfl _ (congrArg₂ k0_pay100 (in_unit harg4 x2 1 7 _ _ rfl) (r7 1 7 _ _ rfl))) <|
  fc (piece_U _ 1 6 _ (by decide) rfl _ (congrArg₂ k0_pay100 (in_unit harg4 x2 1 6 _ _ rfl) (r7 1 6 _ _ rfl))) <|
  fc (piece_U _ 1 5 _ (by decide) rfl _ (congrArg₂ k0_pay100 (in_unit harg4 x2 1 5 _ _ rfl) (r7 1 5 _ _ rfl))) <|
  fc (piece_U _ 1 4 _ (by decide) rfl _ (congrArg₂ k0_pay100 (in_unit harg4 x2 1 4 _ _ rfl) (r7 1 4 _ _ rfl))) <|
  fc (piece_U _ 1 3 _ (by decide) rfl _ (congrArg₂ k0_pay100 (in_unit harg4 x2 1 3 _ _ rfl) (r7 1 3 _ _ rfl))) <|
  fc (piece_U _ 1 2 _ (by decide) rfl _ (congrArg₂ k0_pay100 (in_unit harg4 x2 1 2 _ _ rfl) (r7 1 2 _ _ rfl))) <|
  fc (piece_U _ 1 1 _ (by decide) rfl _ (congrArg₂ k0_pay100 (in_unit harg4 x2 1 1 _ _ rfl) (r7 1 1 _ _ rfl))) <|
  fc (piece_U _ 1 0 _ (by decide) rfl _ (congrArg₂ k0_pay100 (in_unit harg4 x2 1 0 _ _ rfl) (r7 1 0 _ _ rfl))) <|
  fc (piece_U _ 0 7 _ (by decide) rfl _ (congrArg₂ k0_pay100 (in_unit harg4 x2 0 7 _ _ rfl) (r7 0 7 _ _ rfl))) <|
  fc (piece_U _ 0 6 _ (by decide) rfl _ (congrArg₂ k0_pay100 (in_unit harg4 x2 0 6 _ _ rfl) (r7 0 6 _ _ rfl))) <|
  fc (piece_U _ 0 5 _ (by decide) rfl _ (congrArg₂ k0_pay100 (in_unit harg4 x2 0 5 _ _ rfl) (r7 0 5 _ _ rfl))) <|
  fc (piece_U _ 0 4 _ (by decide) rfl _ (congrArg₂ k0_pay100 (in_unit harg4 x2 0 4 _ _ rfl) (r7 0 4 _ _ rfl))) <|
  fc (piece_U _ 0 3 _ (by decide) rfl _ (congrArg₂ k0_pay100 (in_unit harg4 x2 0 3 _ _ rfl) (r7 0 3 _ _ rfl))) <|
  fc (piece_U _ 0 2 _ (by decide) rfl _ (congrArg₂ k0_pay100 (in_unit harg4 x2 0 2 _ _ rfl) (r7 0 2 _ _ rfl))) <|
  fc (piece_U _ 0 1 _ (by decide) rfl _ (congrArg₂ k0_pay100 (in_unit harg4 x2 0 1 _ _ rfl) (r7 0 1 _ _ rfl))) <|
  fc (piece_U _ 0 0 _ (by decide) rfl _ (congrArg₂ k0_pay100 (in_unit harg4 x2 0 0 _ _ rfl) (r7 0 0 _ _ rfl))) <|
  fnil

theorem r10 (ci : Fin 4) (h : Fin 8) (o : Fin 4 → ℕ)
    (inb : ∀ a, o a + S1x1x128x128.size a ≤ S4x8x128x128.size a) (ho : o = ![ci.val, h.val, 0, 0]) :
    arg19.view.readCov (kernelRun0_B.sl.HS10_32 (F := Ideal) c arg3 harg3 arg4 harg4 arg6 harg6 arg10 arg11 arg12 arg16 x1 x2 x4)
      (Rect.unit (s := S4x8x128x128) o S1x1x128x128.size inb).toLoadRect = Uc x1 x2 x4 ci h :=
  (rd_of _ _ (unrollU (Uc x1 x2 x4)) p10 (View.cover_of_tiledL _ S1x1x128x128.size (by sl_kernel_rfl)) _).trans (funext fun x => (at_U _ ci h o inb ho x).symm)

theorem p9 : ∀ p ∈ (kernelRun0_B.sl.HS9_32 (F := Ideal) c arg2 harg2 arg3 harg3 arg4 harg4 arg6 harg6 arg10 arg11 arg12 arg13 arg14 arg20 x0 x1 x2 x4),
    ∀ x : p.1.shape.Idx, p.2 x = (unrollQ (OIc x0 x1 x2 x4)) (p.1.emb x) :=
  fc (piece_Q _ 3 7 _ (by decide) rfl _ (congrArg₂ k0_pay138 (r11 3 7 _ _ rfl) (in_unit harg4 x2 3 7 _ _ rfl))) <|
  fc (piece_Q _ 3 6 _ (by decide) rfl _ (congrArg₂ k0_pay138 (r11 3 6 _ _ rfl) (in_unit harg4 x2 3 6 _ _ rfl))) <|
  fc (piece_Q _ 3 5 _ (by decide) rfl _ (congrArg₂ k0_pay138 (r11 3 5 _ _ rfl) (in_unit harg4 x2 3 5 _ _ rfl))) <|
  fc (piece_Q _ 3 4 _ (by decide) rfl _ (congrArg₂ k0_pay138 (r11 3 4 _ _ rfl) (in_unit harg4 x2 3 4 _ _ rfl))) <|
  fc (piece_Q _ 3 3 _ (by decide) rfl _ (congrArg₂ k0_pay138 (r11 3 3 _ _ rfl) (in_unit harg4 x2 3 3 _ _ rfl))) <|
  fc (piece_Q _ 3 2 _ (by decide) rfl _ (congrArg₂ k0_pay138 (r11 3 2 _ _ rfl) (in_unit harg4 x2 3 2 _ _ rfl))) <|
  fc (piece_Q _ 3 1 _ (by decide) rfl _ (congrArg₂ k0_pay138 (r11 3 1 _ _ rfl) (in_unit harg4 x2 3 1 _ _ rfl))) <|
  fc (piece_Q _ 3 0 _ (by decide) rfl _ (congrArg₂ k0_pay138 (r11 3 0 _ _ rfl) (in_unit harg4 x2 3 0 _ _ rfl))) <|
  fc (piece_Q _ 2 7 _ (by decide) rfl _ (congrArg₂ k0_pay138 (r11 2 7 _ _ rfl) (in_unit harg4 x2 2 7 _ _ rfl))) <|
  fc (piece_Q _ 2 6 _ (by decide) rfl _ (congrArg₂ k0_pay138 (r11 2 6 _ _ rfl) (in_unit harg4 x2 2 6 _ _ rfl))) <|
  fc (piece_Q _ 2 5 _ (by decide) rfl _ (congrArg₂ k0_pay138 (r11 2 5 _ _ rfl) (in_unit harg4 x2 2 5 _ _ rfl))) <|
  fc (piece_Q _ 2 4 _ (by decide) rfl _ (congrArg₂ k0_pay138 (r11 2 4 _ _ rfl) (in_unit harg4 x2 2 4 _ _ rfl))) <|
  fc (piece_Q _ 2 3 _ (by decide) rfl _ (congrArg₂ k0_pay138 (r11 2 3 _ _ rfl) (in_unit harg4 x2 2 3 _ _ rfl))) <|
  fc (piece_Q _ 2 2 _ (by decide) rfl _ (congrArg₂ k0_pay138 (r11 2 2 _ _ rfl) (in_unit harg4 x2 2 2 _ _ rfl))) <|
  fc (piece_Q _ 2 1 _ (by decide) rfl _ (congrArg₂ k0_pay138 (r11 2 1 _ _ rfl) (in_unit harg4 x2 2 1 _ _ rfl))) <|
  fc (piece_Q _ 2 0 _ (by decide) rfl _ (congrArg₂ k0_pay138 (r11 2 0 _ _ rfl) (in_unit harg4 x2 2 0 _ _ rfl))) <|
  fc (piece_Q _ 1 7 _ (by decide) rfl _ (congrArg₂ k0_pay138 (r11 1 7 _ _ rfl) (in_unit harg4 x2 1 7 _ _ rfl))) <|
  fc (piece_Q _ 1 6 _ (by decide) rfl _ (congrArg₂ k0_pay138 (r11 1 6 _ _ rfl) (in_unit harg4 x2 1 6 _ _ rfl))) <|
  fc (piece_Q _ 1 5 _ (by decide) rfl _ (congrArg₂ k0_pay138 (r11 1 5 _ _ rfl) (in_unit harg4 x2 1 5 _ _ rfl))) <|
  fc (piece_Q _ 1 4 _ (by decide) rfl _ (congrArg₂ k0_pay138 (r11 1 4 _ _ rfl) (in_unit harg4 x2 1 4 _ _ rfl))) <|
  fc (piece_Q _ 1 3 _ (by decide) rfl _ (congrArg₂ k0_pay138 (r11 1 3 _ _ rfl) (in_unit harg4 x2 1 3 _ _ rfl))) <|
  fc (piece_Q _ 1 2 _ (by decide) rfl _ (congrArg₂ k0_pay138 (r11 1 2 _ _ rfl) (in_unit harg4 x2 1 2 _ _ rfl))) <|
  fc (piece_Q _ 1 1 _ (by decide) rfl _ (congrArg₂ k0_pay138 (r11 1 1 _ _ rfl) (in_unit harg4 x2 1 1 _ _ rfl))) <|
  fc (piece_Q _ 1 0 _ (by decide) rfl _ (congrArg₂ k0_pay138 (r11 1 0 _ _ rfl) (in_unit harg4 x2 1 0 _ _ rfl))) <|
  fc (piece_Q _ 0 7 _ (by decide) rfl _ (congrArg₂ k0_pay138 (r11 0 7 _ _ rfl) (in_unit harg4 x2 0 7 _ _ rfl))) <|
  fc (piece_Q _ 0 6 _ (by decide) rfl _ (congrArg₂ k0_pay138 (r11 0 6 _ _ rfl) (in_unit harg4 x2 0 6 _ _ rfl))) <|
  fc (piece_Q _ 0 5 _ (by decide) rfl _ (congrArg₂ k0_pay138 (r11 0 5 _ _ rfl) (in_unit harg4 x2 0 5 _ _ rfl))) <|
  fc (piece_Q _ 0 4 _ (by decide) rfl _ (congrArg₂ k0_pay138 (r11 0 4 _ _ rfl) (in_unit harg4 x2 0 4 _ _ rfl))) <|
  fc (piece_Q _ 0 3 _ (by decide) rfl _ (congrArg₂ k0_pay138 (r11 0 3 _ _ rfl) (in_unit harg4 x2 0 3 _ _ rfl))) <|
  fc (piece_Q _ 0 2 _ (by decide) rfl _ (congrArg₂ k0_pay138 (r11 0 2 _ _ rfl) (in_unit harg4 x2 0 2 _ _ rfl))) <|
  fc (piece_Q _ 0 1 _ (by decide) rfl _ (congrArg₂ k0_pay138 (r11 0 1 _ _ rfl) (in_unit harg4 x2 0 1 _ _ rfl))) <|
  fc (piece_Q _ 0 0 _ (by decide) rfl _ (congrArg₂ k0_pay138 (r11 0 0 _ _ rfl) (in_unit harg4 x2 0 0 _ _ rfl))) <|
  fnil

theorem r9 (ci : Fin 4) (h : Fin 8) (o : Fin 2 → ℕ)
    (inb : ∀ a, o a + S64x128.size a ≤ S256x1024.size a) (ho : o = ![64 * ci.val, 128 * h.val]) :
    arg18.view.readCov (kernelRun0_B.sl.HS9_32 (F := Ideal) c arg2 harg2 arg3 harg3 arg4 harg4 arg6 harg6 arg10 arg11 arg12 arg13 arg14 arg20 x0 x1 x2 x4)
      (Rect.unit (s := S256x1024) o S64x128.size inb).toLoadRect = OIc x0 x1 x2 x4 ci h :=
  (rd_of _ _ (unrollQ (OIc x0 x1 x2 x4)) p9 (View.cover_of_tiledL _ S64x128.size (by sl_kernel_rfl)) _).trans (funext fun x => (at_Q _ ci h o inb ho x).symm)

theorem pS : ∀ p ∈ (kernelRun0_B.sl.HS0_8 (F := Ideal) c arg3 harg3 arg4 harg4 arg6 harg6 arg9 harg9 arg10 arg11 arg12 arg16 arg17 arg19 x1 x2 x4 xs0),
    ∀ x : p.1.shape.Idx, p.2 x = (ST x1 x2 x4 xs0 8) (p.1.emb x) :=
  fc (piece_S x1 x2 x4 xs0 7 _ (by decide) rfl _ (congr3 (fun st dl u => k0_pay180 (k0_pay177 st) (k0_pay179 dl) u)
      (in_head x1 x2 x4 xs0 harg9 7 _ _ rfl) (r8_0 7 _ _ rfl) (r10 0 7 _ _ rfl))) <|
  fc (piece_S x1 x2 x4 xs0 6 _ (by decide) rfl _ (congr3 (fun st dl u => k0_pay180 (k0_pay177 st) (k0_pay179 dl) u)
      (in_head x1 x2 x4 xs0 harg9 6 _ _ rfl) (r8_0 6 _ _ rfl) (r10 0 6 _ _ rfl))) <|
  fc (piece_S x1 x2 x4 xs0 5 _ (by decide) rfl _ (congr3 (fun st dl u => k0_pay180 (k0_pay177 st) (k0_pay179 dl) u)
      (in_head x1 x2 x4 xs0 harg9 5 _ _ rfl) (r8_0 5 _ _ rfl) (r10 0 5 _ _ rfl))) <|
  fc (piece_S x1 x2 x4 xs0 4 _ (by decide) rfl _ (congr3 (fun st dl u => k0_pay180 (k0_pay177 st) (k0_pay179 dl) u)
      (in_head x1 x2 x4 xs0 harg9 4 _ _ rfl) (r8_0 4 _ _ rfl) (r10 0 4 _ _ rfl))) <|
  fc (piece_S x1 x2 x4 xs0 3 _ (by decide) rfl _ (congr3 (fun st dl u => k0_pay180 (k0_pay177 st) (k0_pay179 dl) u)
      (in_head x1 x2 x4 xs0 harg9 3 _ _ rfl) (r8_0 3 _ _ rfl) (r10 0 3 _ _ rfl))) <|
  fc (piece_S x1 x2 x4 xs0 2 _ (by decide) rfl _ (congr3 (fun st dl u => k0_pay180 (k0_pay177 st) (k0_pay179 dl) u)
      (in_head x1 x2 x4 xs0 harg9 2 _ _ rfl) (r8_0 2 _ _ rfl) (r10 0 2 _ _ rfl))) <|
  fc (piece_S x1 x2 x4 xs0 1 _ (by decide) rfl _ (congr3 (fun st dl u => k0_pay180 (k0_pay177 st) (k0_pay179 dl) u)
      (in_head x1 x2 x4 xs0 harg9 1 _ _ rfl) (r8_0 1 _ _ rfl) (r10 0 1 _ _ rfl))) <|
  fc (piece_S x1 x2 x4 xs0 0 _ (by decide) rfl _ (congr3 (fun st dl u => k0_pay180 (k0_pay177 st) (k0_pay179 dl) u)
      (in_head x1 x2 x4 xs0 harg9 0 _ _ rfl) (r8_0 0 _ _ rfl) (r10 0 0 _ _ rfl))) <|
  fnil

theorem st8 : View.canon (kernelRun0_B.sl.HS0_8 (F := Ideal) c arg3 harg3 arg4 harg4 arg6 harg6 arg9 harg9 arg10 arg11 arg12 arg16 arg17 arg19 x1 x2 x4 xs0) = ST x1 x2 x4 xs0 8 :=
  funext fun y => View.canon_apply_of_pieces _ _ pS y (View.cover_of_tiledL (s := S8x128x128) _ S1x128x128.size (by sl_kernel_rfl) y)

theorem st9 : View.canon (kernelRun0_B.sl.HS0_9 (F := Ideal) c arg3 harg3 arg4 harg4 arg6 harg6 arg9 harg9 arg10 arg11 arg12 arg16 arg17 arg19 x1 x2 x4 xs0) = ST x1 x2 x4 xs0 9 :=
  step_SC x1 x2 x4 xs0 _ 8 st8 1 0 rfl rfl _ _ rfl _ (congr3 (fun st dl u => k0_pay180 (k0_pay177 st) (k0_pay179 dl) u)
      (rd_SC x1 x2 x4 xs0 _ _ 8 st8 1 0 rfl rfl _ _ rfl) (r8_1 0 _ _ rfl) (r10 1 0 _ _ rfl))

theorem st10 : View.canon (kernelRun0_B.sl.HS0_10 (F := Ideal) c arg3 harg3 arg4 harg4 arg6 harg6 arg9 harg9 arg10 arg11 arg12 arg16 arg17 arg19 x1 x2 x4 xs0) = ST x1 x2 x4 xs0 10 :=
  step_SC x1 x2 x4 xs0 _ 9 st9 1 1 rfl rfl _ _ rfl _ (congr3 (fun st dl u => k0_pay180 (k0_pay177 st) (k0_pay179 dl) u)
      (rd_SC x1 x2 x4 xs0 _ _ 9 st9 1 1 rfl rfl _ _ rfl) (r8_1 1 _ _ rfl) (r10 1 1 _ _ rfl))

theorem st11 : View.canon (kernelRun0_B.sl.HS0_11 (F := Ideal) c arg3 harg3 arg4 harg4 arg6 harg6 arg9 harg9 arg10 arg11 arg12 arg16 arg17 arg19 x1 x2 x4 xs0) = ST x1 x2 x4 xs0 11 :=
  step_SC x1 x2 x4 xs0 _ 10 st10 1 2 rfl rfl _ _ rfl _ (congr3 (fun st dl u => k0_pay180 (k0_pay177 st) (k0_pay179 dl) u)
      (rd_SC x1 x2 x4 xs0 _ _ 10 st10 1 2 rfl rfl _ _ rfl) (r8_1 2 _ _ rfl) (r10 1 2 _ _ rfl))

theorem st12 : View.canon (kernelRun0_B.sl.HS0_12 (F := Ideal) c arg3 harg3 arg4 harg4 arg6 harg6 arg9 harg9 arg10 arg11 arg12 arg16 arg17 arg19 x1 x2 x4 xs0) = ST x1 x2 x4 xs0 12 :=
  step_SC x1 x2 x4 xs0 _ 11 st11 1 3 rfl rfl _ _ rfl _ (congr3 (fun st dl u => k0_pay180 (k0_pay177 st) (k0_pay179 dl) u)
      (rd_SC x1 x2 x4 xs0 _ _ 11 st11 1 3 rfl rfl _ _ rfl) (r8_1 3 _ _ rfl) (r10 1 3 _ _ rfl))

theorem st13 : View.canon (kernelRun0_B.sl.HS0_13 (F := Ideal) c arg3 harg3 arg4 harg4 arg6 harg6 arg9 harg9 arg10 arg11 arg12 arg16 arg17 arg19 x1 x2 x4 xs0) = ST x1 x2 x4 xs0 13 :=
  step_SC x1 x2 x4 xs0 _ 12 st12 1 4 rfl rfl _ _ rfl _ (congr3 (fun st dl u => k0_pay180 (k0_pay177 st) (k0_pay179 dl) u)
      (rd_SC x1 x2 x4 xs0 _ _ 12 st12 1 4 rfl rfl _ _ rfl) (r8_1 4 _ _ rfl) (r10 1 4 _ _ rfl))

theorem st14 : View.canon (kernelRun0_B.sl.HS0_14 (F := Ideal) c arg3 harg3 arg4 harg4 arg6 harg6 arg9 harg9 arg10 arg11 arg12 arg16 arg17 arg19 x1 x2 x4 xs0) = ST x1 x2 x4 xs0 14 :=
  step_SC x1 x2 x4 xs0 _ 13 st13 1 5 rfl rfl _ _ rfl _ (congr3 (fun st dl u => k0_pay180 (k0_pay177 st) (k0_pay179 dl) u)
      (rd_SC x1 x2 x4 xs0 _ _ 13 st13 1 5 rfl rfl _ _ rfl) (r8_1 5 _ _ rfl) (r10 1 5 _ _ rfl))

theorem st15 : View.canon (kernelRun0_B.sl.HS0_15 (F := Ideal) c arg3 harg3 arg4 harg4 arg6 harg6 arg9 harg9 arg10 arg11 arg12 arg16 arg17 arg19 x1 x2 x4 xs0) = ST x1 x2 x4 xs0 15 :=
  step_SC x1 x2 x4 xs0 _ 14 st14 1 6 rfl rfl _ _ rfl _ (congr3 (fun st dl u => k0_pay180 (k0_pay177 st) (k0_pay179 dl) u)
      (rd_SC x1 x2 x4 xs0 _ _ 14 st14 1 6 rfl rfl _ _ rfl) (r8_1 6 _ _ rfl) (r10 1 6 _ _ rfl))

theorem st16 : View.canon (kernelRun0_B.sl.HS0_16 (F := Ideal) c arg3 harg3 arg4 harg4 arg6 harg6 arg9 harg9 arg10 arg11 arg12 arg16 arg17 arg19 x1 x2 x4 xs0) = ST x1 x2 x4 xs0 16 :=
  step_SC x1 x2 x4 xs0 _ 15 st15 1 7 rfl rfl _ _ rfl _ (congr3 (fun st dl u => k0_pay180 (k0_pay177 st) (k0_pay179 dl) u)
      (rd_SC x1 x2 x4 xs0 _ _ 15 st15 1 7 rfl rfl _ _ rfl) (r8_1 7 _ _ rfl) (r10 1 7 _ _ rfl))

theorem st17 : View.canon (kernelRun0_B.sl.HS0_17 (F := Ideal) c arg3 harg3 arg4 harg4 arg6 harg6 arg9 harg9 arg10 arg11 arg12 arg16 arg17 arg19 x1 x2 x4 xs0) = ST x1 x2 x4 xs0 17 :=
  step_SC x1 x2 x4 xs0 _ 16 st16 2 0 rfl rfl _ _ rfl _ (congr3 (fun st dl u => k0_pay180 (k0_pay177 st) (k0_pay179 dl) u)
      (rd_SC x1 x2 x4 xs0 _ _ 16 st16 2 0 rfl rfl _ _ rfl) (r8_2 0 _ _ rfl) (r10 2 0 _ _ rfl))

theorem st18 : View.canon (kernelRun0_B.sl.HS0_18 (F := Ideal) c arg3 harg3 arg4 harg4 arg6 harg6 arg9 harg9 arg10 arg11 arg12 arg16 arg17 arg19 x1 x2 x4 xs0) = ST x1 x2 x4 xs0 18 :=
  step_SC x1 x2 x4 xs0 _ 17 st17 2 1 rfl rfl _ _ rfl _ (congr3 (fun st dl u => k0_pay180 (k0_pay177 st) (k0_pay179 dl) u)
      (rd_SC x1 x2 x4 xs0 _ _ 17 st17 2 1 rfl rfl _ _ rfl) (r8_2 1 _ _ rfl) (r10 2 1 _ _ rfl))

theorem st19 : View.canon (kernelRun0_B.sl.HS0_19 (F := Ideal) c arg3 harg3 arg4 harg4 arg6 harg6 arg9 harg9 arg10 arg11 arg12 arg16 arg17 arg19 x1 x2 x4 xs0) = ST x1 x2 x4 xs0 19 :=
  step_SC x1 x2 x4 xs0 _ 18 st18 2 2 rfl rfl _ _ rfl _ (congr3 (fun st dl u => k0_pay180 (k0_pay177 st) (k0_pay179 dl) u)
      (rd_SC x1 x2 x4 xs0 _ _ 18 st18 2 2 rfl rfl _ _ rfl) (r8_2 2 _ _ rfl) (r10 2 2 _ _ rfl))

theorem st20 : View.canon (kernelRun0_B.sl.HS0_20 (F := Ideal) c arg3 harg3 arg4 harg4 arg6 harg6 arg9 harg9 arg10 arg11 arg12 arg16 arg17 arg19 x1 x2 x4 xs0) = ST x1 x2 x4 xs0 20 :=
  step_SC x1 x2 x4 xs0 _ 19 st19 2 3 rfl rfl _ _ rfl _ (congr3 (fun st dl u => k0_pay180 (k0_pay177 st) (k0_pay179 dl) u)
      (rd_SC x1 x2 x4 xs0 _ _ 19 st19 2 3 rfl rfl _ _ rfl) (r8_2 3 _ _ rfl) (r10 2 3 _ _ rfl))

theorem st21 : View.canon (kernelRun0_B.sl.HS0_21 (F := Ideal) c arg3 harg3 arg4 harg4 arg6 harg6 arg9 harg9 arg10 arg11 arg12 arg16 arg17 arg19 x1 x2 x4 xs0) = ST x1 x2 x4 xs0 21 :=
  step_SC x1 x2 x4 xs0 _ 20 st20 2 4 rfl rfl _ _ rfl _ (congr3 (fun st dl u => k0_pay180 (k0_pay177 st) (k0_pay179 dl) u)
      (rd_SC x1 x2 x4 xs0 _ _ 20 st20 2 4 rfl rfl _ _ rfl) (r8_2 4 _ _ rfl) (r10 2 4 _ _ rfl))

theorem st22 : View.canon (kernelRun0_B.sl.HS0_22 (F := Ideal) c arg3 harg3 arg4 harg4 arg6 harg6 arg9 harg9 arg10 arg11 arg12 arg16 arg17 arg19 x1 x2 x4 xs0) = ST x1 x2 x4 xs0 22 :=
  step_SC x1 x2 x4 xs0 _ 21 st21 2 5 rfl rfl _ _ rfl _ (congr3 (fun st dl u => k0_pay180 (k0_pay177 st) (k0_pay179 dl) u)
      (rd_SC x1 x2 x4 xs0 _ _ 21 st21 2 5 rfl rfl _ _ rfl) (r8_2 5 _ _ rfl) (r10 2 5 _ _ rfl))

theorem st23 : View.canon (kernelRun0_B.sl.HS0_23 (F := Ideal) c arg3 harg3 arg4 harg4 arg6 harg6 arg9 harg9 arg10 arg11 arg12 arg16 arg17 arg19 x1 x2 x4 xs0) = ST x1 x2 x4 xs0 23 :=
  step_SC x1 x2 x4 xs0 _ 22 st22 2 6 rfl rfl _ _ rfl _ (congr3 (fun st dl u => k0_pay180 (k0_pay177 st) (k0_pay179 dl) u)
      (rd_SC x1 x2 x4 xs0 _ _ 22 st22 2 6 rfl rfl _ _ rfl) (r8_2 6 _ _ rfl) (r10 2 6 _ _ rfl))

theorem st24 : View.canon (kernelRun0_B.sl.HS0_24 (F := Ideal) c arg3 harg3 arg4 harg4 arg6 harg6 arg9 harg9 arg10 arg11 arg12 arg16 arg17 arg19 x1 x2 x4 xs0) = ST x1 x2 x4 xs0 24 :=
  step_SC x1 x2 x4 xs0 _ 23 st23 2 7 rfl rfl _ _ rfl _ (congr3 (fun st dl u => k0_pay180 (k0_pay177 st) (k0_pay179 dl) u)
      (rd_SC x1 x2 x4 xs0 _ _ 23 st23 2 7 rfl rfl _ _ rfl) (r8_2 7 _ _ rfl) (r10 2 7 _ _ rfl))

theorem st25 : View.canon (kernelRun0_B.sl.HS0_25 (F := Ideal) c arg3 harg3 arg4 harg4 arg6 harg6 arg9 harg9 arg10 arg11 arg12 arg16 arg17 arg19 x1 x2 x4 xs0) = ST x1 x2 x4 xs0 25 :=
  step_SC x1 x2 x4 xs0 _ 24 st24 3 0 rfl rfl _ _ rfl _ (congr3 (fun st dl u => k0_pay180 (k0_pay177 st) (k0_pay179 dl) u)
      (rd_SC x1 x2 x4 xs0 _ _ 24 st24 3 0 rfl rfl _ _ rfl) (r8_3 0 _ _ rfl) (r10 3 0 _ _ rfl))

theorem st26 : View.canon (kernelRun0_B.sl.HS0_26 (F := Ideal) c arg3 harg3 arg4 harg4 arg6 harg6 arg9 harg9 arg10 arg11 arg12 arg16 arg17 arg19 x1 x2 x4 xs0) = ST x1 x2 x4 xs0 26 :=
  step_SC x1 x2 x4 xs0 _ 25 st25 3 1 rfl rfl _ _ rfl _ (congr3 (fun st dl u => k0_pay180 (k0_pay177 st) (k0_pay179 dl) u)
      (rd_SC x1 x2 x4 xs0 _ _ 25 st25 3 1 rfl rfl _ _ rfl) (r8_3 1 _ _ rfl) (r10 3 1 _ _ rfl))

theorem st27 : View.canon (kernelRun0_B.sl.HS0_27 (F := Ideal) c arg3 harg3 arg4 harg4 arg6 harg6 arg9 harg9 arg10 arg11 arg12 arg16 arg17 arg19 x1 x2 x4 xs0) = ST x1 x2 x4 xs0 27 :=
  step_SC x1 x2 x4 xs0 _ 26 st26 3 2 rfl rfl _ _ rfl _ (congr3 (fun st dl u => k0_pay180 (k0_pay177 st) (k0_pay179 dl) u)
      (rd_SC x1 x2 x4 xs0 _ _ 26 st26 3 2 rfl rfl _ _ rfl) (r8_3 2 _ _ rfl) (r10 3 2 _ _ rfl))

theorem st28 : View.canon (kernelRun0_B.sl.HS0_28 (F := Ideal) c arg3 harg3 arg4 harg4 arg6 harg6 arg9 harg9 arg10 arg11 arg12 arg16 arg17 arg19 x1 x2 x4 xs0) = ST x1 x2 x4 xs0 28 :=
  step_SC x1 x2 x4 xs0 _ 27 st27 3 3 rfl rfl _ _ rfl _ (congr3 (fun st dl u => k0_pay180 (k0_pay177 st) (k0_pay179 dl) u)
      (rd_SC x1 x2 x4 xs0 _ _ 27 st27 3 3 rfl rfl _ _ rfl) (r8_3 3 _ _ rfl) (r10 3 3 _ _ rfl))

theorem st29 : View.canon (kernelRun0_B.sl.HS0_29 (F := Ideal) c arg3 harg3 arg4 harg4 arg6 harg6 arg9 harg9 arg10 arg11 arg12 arg16 arg17 arg19 x1 x2 x4 xs0) = ST x1 x2 x4 xs0 29 :=
  step_SC x1 x2 x4 xs0 _ 28 st28 3 4 rfl rfl _ _ rfl _ (congr3 (fun st dl u => k0_pay180 (k0_pay177 st) (k0_pay179 dl) u)
      (rd_SC x1 x2 x4 xs0 _ _ 28 st28 3 4 rfl rfl _ _ rfl) (r8_3 4 _ _ rfl) (r10 3 4 _ _ rfl))

theorem st30 : View.canon (kernelRun0_B.sl.HS0_30 (F := Ideal) c arg3 harg3 arg4 harg4 arg6 harg6 arg9 harg9 arg10 arg11 arg12 arg16 arg17 arg19 x1 x2 x4 xs0) = ST x1 x2 x4 xs0 30 :=
  step_SC x1 x2 x4 xs0 _ 29 st29 3 5 rfl rfl _ _ rfl _ (congr3 (fun st dl u => k0_pay180 (k0_pay177 st) (k0_pay179 dl) u)
      (rd_SC x1 x2 x4 xs0 _ _ 29 st29 3 5 rfl rfl _ _ rfl) (r8_3 5 _ _ rfl) (r10 3 5 _ _ rfl))

theorem st31 : View.canon (kernelRun0_B.sl.HS0_31 (F := Ideal) c arg3 harg3 arg4 harg4 arg6 harg6 arg9 harg9 arg10 arg11 arg12 arg16 arg17 arg19 x1 x2 x4 xs0) = ST x1 x2 x4 xs0 31 :=
  step_SC x1 x2 x4 xs0 _ 30 st30 3 6 rfl rfl _ _ rfl _ (congr3 (fun st dl u => k0_pay180 (k0_pay177 st) (k0_pay179 dl) u)
      (rd_SC x1 x2 x4 xs0 _ _ 30 st30 3 6 rfl rfl _ _ rfl) (r8_3 6 _ _ rfl) (r10 3 6 _ _ rfl))

theorem st32 (hc0 : ¬ cond0_0 i) : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 xs0).2.1
    = ST x1 x2 x4 xs0 32 :=
  step_SC x1 x2 x4 xs0 _ 31 st31 3 7 rfl rfl _ _ rfl _ (congr3 (fun st dl u => k0_pay180 (k0_pay177 st) (k0_pay179 dl) u)
      (rd_SC x1 x2 x4 xs0 _ _ 31 st31 3 7 rfl rfl _ _ rfl) (r8_3 7 _ _ rfl) (r10 3 7 _ _ rfl))

theorem pO (hc0 : ¬ cond0_0 i) : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 xs0).1,
    ∀ x : p.1.shape.Idx, p.2 x = unrollO (OUTc x0 x1 x2 x3 x4 x5 xs0) (p.1.emb x) :=
  fc (piece_O _ 3 7 _ (by decide) rfl _ (congr5 (fun gn st oi qe og => k0_pay181 (k0_pay176 gn) (k0_pay178 st oi qe) og)
      (whole2 harg7 x5 _ _ rfl) (rd_SC x1 x2 x4 xs0 _ _ 31 st31 3 7 rfl rfl _ _ rfl) (r9 3 7 _ _ rfl) (r6 3 7 _ _ rfl)
      (in_unit harg5 x3 3 7 _ _ rfl))) <|
  fc (piece_O _ 3 6 _ (by decide) rfl _ (congr5 (fun gn st oi qe og => k0_pay181 (k0_pay176 gn) (k0_pay178 st oi qe) og)
      (whole2 harg7 x5 _ _ rfl) (rd_SC x1 x2 x4 xs0 _ _ 30 st30 3 6 rfl rfl _ _ rfl) (r9 3 6 _ _ rfl) (r6 3 6 _ _ rfl)
      (in_unit harg5 x3 3 6 _ _ rfl))) <|
  fc (piece_O _ 3 5 _ (by decide) rfl _ (congr5 (fun gn st oi qe og => k0_pay181 (k0_pay176 gn) (k0_pay178 st oi qe) og)
      (whole2 harg7 x5 _ _ rfl) (rd_SC x1 x2 x4 xs0 _ _ 29 st29 3 5 rfl rfl _ _ rfl) (r9 3 5 _ _ rfl) (r6 3 5 _ _ rfl)
      (in_unit harg5 x3 3 5 _ _ rfl))) <|
  fc (piece_O _ 3 4 _ (by decide) rfl _ (congr5 (fun gn st oi qe og => k0_pay181 (k0_pay176 gn) (k0_pay178 st oi qe) og)
      (whole2 harg7 x5 _ _ rfl) (rd_SC x1 x2 x4 xs0 _ _ 28 st28 3 4 rfl rfl _ _ rfl) (r9 3 4 _ _ rfl) (r6 3 4 _ _ rfl)
      (in_unit harg5 x3 3 4 _ _ rfl))) <|
  fc (piece_O _ 3 3 _ (by decide) rfl _ (congr5 (fun gn st oi qe og => k0_pay181 (k0_pay176 gn) (k0_pay178 st oi qe) og)
      (whole2 harg7 x5 _ _ rfl) (rd_SC x1 x2 x4 xs0 _ _ 27 st27 3 3 rfl rfl _ _ rfl) (r9 3 3 _ _ rfl) (r6 3 3 _ _ rfl)
      (in_unit harg5 x3 3 3 _ _ rfl))) <|
  fc (piece_O _ 3 2 _ (by decide) rfl _ (congr5 (fun gn st oi qe og => k0_pay181 (k0_pay176 gn) (k0_pay178 st oi qe) og)
      (whole2 harg7 x5 _ _ rfl) (rd_SC x1 x2 x4 xs0 _ _ 26 st26 3 2 rfl rfl _ _ rfl) (r9 3 2 _ _ rfl) (r6 3 2 _ _ rfl)
      (in_unit harg5 x3 3 2 _ _ rfl))) <|
  fc (piece_O _ 3 1 _ (by decide) rfl _ (congr5 (fun gn st oi qe og => k0_pay181 (k0_pay176 gn) (k0_pay178 st oi qe) og)
      (whole2 harg7 x5 _ _ rfl) (rd_SC x1 x2 x4 xs0 _ _ 25 st25 3 1 rfl rfl _ _ rfl) (r9 3 1 _ _ rfl) (r6 3 1 _ _ rfl)
      (in_unit harg5 x3 3 1 _ _ rfl))) <|
  fc (piece_O _ 3 0 _ (by decide) rfl _ (congr5 (fun gn st oi qe og => k0_pay181 (k0_pay176 gn) (k0_pay178 st oi qe) og)
      (whole2 harg7 x5 _ _ rfl) (rd_SC x1 x2 x4 xs0 _ _ 24 st24 3 0 rfl rfl _ _ rfl) (r9 3 0 _ _ rfl) (r6 3 0 _ _ rfl)
      (in_unit harg5 x3 3 0 _ _ rfl))) <|
  fc (piece_O _ 2 7 _ (by decide) rfl _ (congr5 (fun gn st oi qe og => k0_pay181 (k0_pay176 gn) (k0_pay178 st oi qe) og)
      (whole2 harg7 x5 _ _ rfl) (rd_SC x1 x2 x4 xs0 _ _ 23 st23 2 7 rfl rfl _ _ rfl) (r9 2 7 _ _ rfl) (r6 2 7 _ _ rfl)
      (in_unit harg5 x3 2 7 _ _ rfl))) <|
  fc (piece_O _ 2 6 _ (by decide) rfl _ (congr5 (fun gn st oi qe og => k0_pay181 (k0_pay176 gn) (k0_pay178 st oi qe) og)
      (whole2 harg7 x5 _ _ rfl) (rd_SC x1 x2 x4 xs0 _ _ 22 st22 2 6 rfl rfl _ _ rfl) (r9 2 6 _ _ rfl) (r6 2 6 _ _ rfl)
      (in_unit harg5 x3 2 6 _ _ rfl))) <|
  fc (piece_O _ 2 5 _ (by decide) rfl _ (congr5 (fun gn st oi qe og => k0_pay181 (k0_pay176 gn) (k0_pay178 st oi qe) og)
      (whole2 harg7 x5 _ _ rfl) (rd_SC x1 x2 x4 xs0 _ _ 21 st21 2 5 rfl rfl _ _ rfl) (r9 2 5 _ _ rfl) (r6 2 5 _ _ rfl)
      (in_unit harg5 x3 2 5 _ _ rfl))) <|
  fc (piece_O _ 2 4 _ (by decide) rfl _ (congr5 (fun gn st oi qe og => k0_pay181 (k0_pay176 gn) (k0_pay178 st oi qe) og)
      (whole2 harg7 x5 _ _ rfl) (rd_SC x1 x2 x4 xs0 _ _ 20 st20 2 4 rfl rfl _ _ rfl) (r9 2 4 _ _ rfl) (r6 2 4 _ _ rfl)
      (in_unit harg5 x3 2 4 _ _ rfl))) <|
  fc (piece_O _ 2 3 _ (by decide) rfl _ (congr5 (fun gn st oi qe og => k0_pay181 (k0_pay176 gn) (k0_pay178 st oi qe) og)
      (whole2 harg7 x5 _ _ rfl) (rd_SC x1 x2 x4 xs0 _ _ 19 st19 2 3 rfl rfl _ _ rfl) (r9 2 3 _ _ rfl) (r6 2 3 _ _ rfl)
      (in_unit harg5 x3 2 3 _ _ rfl))) <|
  fc (piece_O _ 2 2 _ (by decide) rfl _ (congr5 (fun gn st oi qe og => k0_pay181 (k0_pay176 gn) (k0_pay178 st oi qe) og)
      (whole2 harg7 x5 _ _ rfl) (rd_SC x1 x2 x4 xs0 _ _ 18 st18 2 2 rfl rfl _ _ rfl) (r9 2 2 _ _ rfl) (r6 2 2 _ _ rfl)
      (in_unit harg5 x3 2 2 _ _ rfl))) <|
  fc (piece_O _ 2 1 _ (by decide) rfl _ (congr5 (fun gn st oi qe og => k0_pay181 (k0_pay176 gn) (k0_pay178 st oi qe) og)
      (whole2 harg7 x5 _ _ rfl) (rd_SC x1 x2 x4 xs0 _ _ 17 st17 2 1 rfl rfl _ _ rfl) (r9 2 1 _ _ rfl) (r6 2 1 _ _ rfl)
      (in_unit harg5 x3 2 1 _ _ rfl))) <|
  fc (piece_O _ 2 0 _ (by decide) rfl _ (congr5 (fun gn st oi qe og => k0_pay181 (k0_pay176 gn) (k0_pay178 st oi qe) og)
      (whole2 harg7 x5 _ _ rfl) (rd_SC x1 x2 x4 xs0 _ _ 16 st16 2 0 rfl rfl _ _ rfl) (r9 2 0 _ _ rfl) (r6 2 0 _ _ rfl)
      (in_unit harg5 x3 2 0 _ _ rfl))) <|
  fc (piece_O _ 1 7 _ (by decide) rfl _ (congr5 (fun gn st oi qe og => k0_pay181 (k0_pay176 gn) (k0_pay178 st oi qe) og)
      (whole2 harg7 x5 _ _ rfl) (rd_SC x1 x2 x4 xs0 _ _ 15 st15 1 7 rfl rfl _ _ rfl) (r9 1 7 _ _ rfl) (r6 1 7 _ _ rfl)
      (in_unit harg5 x3 1 7 _ _ rfl))) <|
  fc (piece_O _ 1 6 _ (by decide) rfl _ (congr5 (fun gn st oi qe og => k0_pay181 (k0_pay176 gn) (k0_pay178 st oi qe) og)
      (whole2 harg7 x5 _ _ rfl) (rd_SC x1 x2 x4 xs0 _ _ 14 st14 1 6 rfl rfl _ _ rfl) (r9 1 6 _ _ rfl) (r6 1 6 _ _ rfl)
      (in_unit harg5 x3 1 6 _ _ rfl))) <|
  fc (piece_O _ 1 5 _ (by decide) rfl _ (congr5 (fun gn st oi qe og => k0_pay181 (k0_pay176 gn) (k0_pay178 st oi qe) og)
      (whole2 harg7 x5 _ _ rfl) (rd_SC x1 x2 x4 xs0 _ _ 13 st13 1 5 rfl rfl _ _ rfl) (r9 1 5 _ _ rfl) (r6 1 5 _ _ rfl)
      (in_unit harg5 x3 1 5 _ _ rfl))) <|
  fc (piece_O _ 1 4 _ (by decide) rfl _ (congr5 (fun gn st oi qe og => k0_pay181 (k0_pay176 gn) (k0_pay178 st oi qe) og)
      (whole2 harg7 x5 _ _ rfl) (rd_SC x1 x2 x4 xs0 _ _ 12 st12 1 4 rfl rfl _ _ rfl) (r9 1 4 _ _ rfl) (r6 1 4 _ _ rfl)
      (in_unit harg5 x3 1 4 _ _ rfl))) <|
  fc (piece_O _ 1 3 _ (by decide) rfl _ (congr5 (fun gn st oi qe og => k0_pay181 (k0_pay176 gn) (k0_pay178 st oi qe) og)
      (whole2 harg7 x5 _ _ rfl) (rd_SC x1 x2 x4 xs0 _ _ 11 st11 1 3 rfl rfl _ _ rfl) (r9 1 3 _ _ rfl) (r6 1 3 _ _ rfl)
      (in_unit harg5 x3 1 3 _ _ rfl))) <|
  fc (piece_O _ 1 2 _ (by decide) rfl _ (congr5 (fun gn st oi qe og => k0_pay181 (k0_pay176 gn) (k0_pay178 st oi qe) og)
      (whole2 harg7 x5 _ _ rfl) (rd_SC x1 x2 x4 xs0 _ _ 10 st10 1 2 rfl rfl _ _ rfl) (r9 1 2 _ _ rfl) (r6 1 2 _ _ rfl)
      (in_unit harg5 x3 1 2 _ _ rfl))) <|
  fc (piece_O _ 1 1 _ (by decide) rfl _ (congr5 (fun gn st oi qe og => k0_pay181 (k0_pay176 gn) (k0_pay178 st oi qe) og)
      (whole2 harg7 x5 _ _ rfl) (rd_SC x1 x2 x4 xs0 _ _ 9 st9 1 1 rfl rfl _ _ rfl) (r9 1 1 _ _ rfl) (r6 1 1 _ _ rfl)
      (in_unit harg5 x3 1 1 _ _ rfl))) <|
  fc (piece_O _ 1 0 _ (by decide) rfl _ (congr5 (fun gn st oi qe og => k0_pay181 (k0_pay176 gn) (k0_pay178 st oi qe) og)
      (whole2 harg7 x5 _ _ rfl) (rd_SC x1 x2 x4 xs0 _ _ 8 st8 1 0 rfl rfl _ _ rfl) (r9 1 0 _ _ rfl) (r6 1 0 _ _ rfl)
      (in_unit harg5 x3 1 0 _ _ rfl))) <|
  fc (piece_O _ 0 7 _ (by decide) rfl _ (congr5 (fun gn st oi qe og => k0_pay181 (k0_pay176 gn) (k0_pay178 st oi qe) og)
      (whole2 harg7 x5 _ _ rfl) (in_head x1 x2 x4 xs0 harg9 7 _ _ rfl) (r9 0 7 _ _ rfl) (r6 0 7 _ _ rfl)
      (in_unit harg5 x3 0 7 _ _ rfl))) <|
  fc (piece_O _ 0 6 _ (by decide) rfl _ (congr5 (fun gn st oi qe og => k0_pay181 (k0_pay176 gn) (k0_pay178 st oi qe) og)
      (whole2 harg7 x5 _ _ rfl) (in_head x1 x2 x4 xs0 harg9 6 _ _ rfl) (r9 0 6 _ _ rfl) (r6 0 6 _ _ rfl)
      (in_unit harg5 x3 0 6 _ _ rfl))) <|
  fc (piece_O _ 0 5 _ (by decide) rfl _ (congr5 (fun gn st oi qe og => k0_pay181 (k0_pay176 gn) (k0_pay178 st oi qe) og)
      (whole2 harg7 x5 _ _ rfl) (in_head x1 x2 x4 xs0 harg9 5 _ _ rfl) (r9 0 5 _ _ rfl) (r6 0 5 _ _ rfl)
      (in_unit harg5 x3 0 5 _ _ rfl))) <|
  fc (piece_O _ 0 4 _ (by decide) rfl _ (congr5 (fun gn st oi qe og => k0_pay181 (k0_pay176 gn) (k0_pay178 st oi qe) og)
      (whole2 harg7 x5 _ _ rfl) (in_head x1 x2 x4 xs0 harg9 4 _ _ rfl) (r9 0 4 _ _ rfl) (r6 0 4 _ _ rfl)
      (in_unit harg5 x3 0 4 _ _ rfl))) <|
  fc (piece_O _ 0 3 _ (by decide) rfl _ (congr5 (fun gn st oi qe og => k0_pay181 (k0_pay176 gn) (k0_pay178 st oi qe) og)
      (whole2 harg7 x5 _ _ rfl) (in_head x1 x2 x4 xs0 harg9 3 _ _ rfl) (r9 0 3 _ _ rfl) (r6 0 3 _ _ rfl)
      (in_unit harg5 x3 0 3 _ _ rfl))) <|
  fc (piece_O _ 0 2 _ (by decide) rfl _ (congr5 (fun gn st oi qe og => k0_pay181 (k0_pay176 gn) (k0_pay178 st oi qe) og)
      (whole2 harg7 x5 _ _ rfl) (in_head x1 x2 x4 xs0 harg9 2 _ _ rfl) (r9 0 2 _ _ rfl) (r6 0 2 _ _ rfl)
      (in_unit harg5 x3 0 2 _ _ rfl))) <|
  fc (piece_O _ 0 1 _ (by decide) rfl _ (congr5 (fun gn st oi qe og => k0_pay181 (k0_pay176 gn) (k0_pay178 st oi qe) og)
      (whole2 harg7 x5 _ _ rfl) (in_head x1 x2 x4 xs0 harg9 1 _ _ rfl) (r9 0 1 _ _ rfl) (r6 0 1 _ _ rfl)
      (in_unit harg5 x3 0 1 _ _ rfl))) <|
  fc (piece_O _ 0 0 _ (by decide) rfl _ (congr5 (fun gn st oi qe og => k0_pay181 (k0_pay176 gn) (k0_pay178 st oi qe) og)
      (whole2 harg7 x5 _ _ rfl) (in_head x1 x2 x4 xs0 harg9 0 _ _ rfl) (r9 0 0 _ _ rfl) (r6 0 0 _ _ rfl)
      (in_unit harg5 x3 0 0 _ _ rfl))) <|
  fnil

/-- The output block the tile leaves. -/
theorem out_eq (hc0 : ¬ cond0_0 i) : out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 xs0
    = unrollO (OUTc x0 x1 x2 x3 x4 x5 xs0) := by
  unfold out0_B_6
  rw [View.read_writes_junk_eq_canon]
  exact funext fun y => View.canon_apply_of_pieces _ _ (pO hc0) y (cover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 xs0 y)

/-- The state the tile leaves. -/
theorem sout_eq (hc0 : ¬ cond0_0 i) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 xs0
    = ST x1 x2 x4 xs0 32 := by
  unfold sout0_B_0
  rw [View.read_writes_junk_eq_canon]
  exact st32 hc0

end Cert.KernelIdeal.Hgrn.B
-- ==== Proof.KernelRun.lean ====
/-
  The recurrence's kernel: what its grid leaves in the result array. The point `8 b + T` reads tile `T`
  of batch row `b` and goes on from the state the point before left, or from zero at a row's first tile.
-/
module

public import proofs.«01_k».proof.Proof.Chunk
public import proofs.«01_k».proof.Proof.ReadA
public import proofs.«01_k».proof.Proof.ReadB
public import proofs.«01_k».proof.Proof.Gen.KernelIdeal.Value

@[expose] public section

set_option maxRecDepth 16384

noncomputable section

namespace Cert.KernelIdeal.Hgrn

open Idealize.ShloMosaic Idealize.ShloMosaic.TcCoe Idealize.SL.Sem
open Cert.KernelIdeal Cert.KernelIdeal.Gen
open Cert.Hgrn
open scoped BigOperators

variable (m : (ℓ : Loc nD τ sig) → Buf (Elt Ideal) ℓ) (ρ : Dev nD → PrngReg) (c : Dev nD)

/-! ## The input blocks -/

theorem idx0 : ∀ t : Fin grid0.N, cc0_transform_0 (grid0.coords t) = ![t.val / 8, t.val % 8, 5] := by decide +kernel
theorem idx1 : ∀ t : Fin grid0.N, cc0_transform_1 (grid0.coords t) = ![t.val / 8, t.val % 8, 6] := by decide +kernel
theorem idx2 : ∀ t : Fin grid0.N, cc0_transform_2 (grid0.coords t) = ![t.val / 8, t.val % 8, 7] := by decide +kernel
theorem idx3 : ∀ t : Fin grid0.N, cc0_transform_3 (grid0.coords t) = ![t.val / 8, t.val % 8, 8] := by decide +kernel
theorem idx4 : ∀ t : Fin grid0.N, cc0_transform_4 (grid0.coords t) = ![0, 0] := by decide +kernel
theorem idx5 : ∀ t : Fin grid0.N, cc0_transform_5 (grid0.coords t) = ![0, 0] := by decide +kernel

/-- The arguments at their shapes. -/
def AX : SX.Idx → EReal := m ((c : Thread nD τ).loc main_arg0)
def AL : SL.Idx → EReal := m ((c : Thread nD τ).loc main_arg1)
def AG : SG.Idx → EReal := m ((c : Thread nD τ).loc main_arg2)

theorem gridN (t : Fin cfg0.N) : t.val < 64 := lt_of_lt_of_eq t.isLt N_0

theorem blk0 (t : Fin cfg0.N) (b : Fin 8) (hb : b.val = t.val / 8) (ci : Fin 4) (r : Fin 64) (k : Fin 1024) :
    (X0_0 m c t : Vec Ideal S1x256x1024 .bf16) (ix3 0 (rt ci r) k)
      = AX m c (ix3 b (row (4 * (t.val % 8) + ci.val) r) (colX 5 k)) := by
  have hN := gridN t
  unfold X0_0 Pipeline.Window.fill
  refine (dif_pos (moved0_0 t _)).trans ?_
  unfold iblk
  show V m c main_arg0 _ = _
  rw [V_main_arg0]
  refine congrArg (m ((c : Thread nD τ).loc main_arg0)) (funext fun a => Fin.ext ?_)
  refine ((cfg0.win 0).rect_emb_val t _ a).trans ?_
  have e := idx0 t
  match a with
  | ⟨0, _⟩ => show cc0_transform_0 (grid0.coords t) 0 * 1 + 0 = b.val; rw [e]; show t.val / 8 * 1 + 0 = b.val; omega
  | ⟨1, _⟩ =>
    show cc0_transform_0 (grid0.coords t) 1 * 256 + (64 * ci.val + r.val) = (64 * (4 * (t.val % 8) + ci.val) + r.val) % 2048
    rw [e]; show t.val % 8 * 256 + (64 * ci.val + r.val) = _; omega
  | ⟨2, _⟩ => show cc0_transform_0 (grid0.coords t) 2 * 1024 + k.val = 1024 * 5 + k.val; rw [e]; show 5 * 1024 + k.val = _; omega

theorem blk1 (t : Fin cfg0.N) (b : Fin 8) (hb : b.val = t.val / 8) (ci : Fin 4) (r : Fin 64) (k : Fin 1024) :
    (X0_1 m c t : Vec Ideal S1x256x1024 .bf16) (ix3 0 (rt ci r) k)
      = AX m c (ix3 b (row (4 * (t.val % 8) + ci.val) r) (colX 6 k)) := by
  have hN := gridN t
  unfold X0_1 Pipeline.Window.fill
  refine (dif_pos (moved0_1 t _)).trans ?_
  unfold iblk
  show V m c main_arg0 _ = _
  rw [V_main_arg0]
  refine congrArg (m ((c : Thread nD τ).loc main_arg0)) (funext fun a => Fin.ext ?_)
  refine ((cfg0.win 1).rect_emb_val t _ a).trans ?_
  have e := idx1 t
  match a with
  | ⟨0, _⟩ => show cc0_transform_1 (grid0.coords t) 0 * 1 + 0 = b.val; rw [e]; show t.val / 8 * 1 + 0 = b.val; omega
  | ⟨1, _⟩ =>
    show cc0_transform_1 (grid0.coords t) 1 * 256 + (64 * ci.val + r.val) = (64 * (4 * (t.val % 8) + ci.val) + r.val) % 2048
    rw [e]; show t.val % 8 * 256 + (64 * ci.val + r.val) = _; omega
  | ⟨2, _⟩ => show cc0_transform_1 (grid0.coords t) 2 * 1024 + k.val = 1024 * 6 + k.val; rw [e]; show 6 * 1024 + k.val = _; omega

theorem blk2 (t : Fin cfg0.N) (b : Fin 8) (hb : b.val = t.val / 8) (ci : Fin 4) (r : Fin 64) (k : Fin 1024) :
    (X0_2 m c t : Vec Ideal S1x256x1024 .bf16) (ix3 0 (rt ci r) k)
      = AX m c (ix3 b (row (4 * (t.val % 8) + ci.val) r) (colX 7 k)) := by
  have hN := gridN t
  unfold X0_2 Pipeline.Window.fill
  refine (dif_pos (moved0_2 t _)).trans ?_
  unfold iblk
  show V m c main_arg0 _ = _
  rw [V_main_arg0]
  refine congrArg (m ((c : Thread nD τ).loc main_arg0)) (funext fun a => Fin.ext ?_)
  refine ((cfg0.win 2).rect_emb_val t _ a).trans ?_
  have e := idx2 t
  match a with
  | ⟨0, _⟩ => show cc0_transform_2 (grid0.coords t) 0 * 1 + 0 = b.val; rw [e]; show t.val / 8 * 1 + 0 = b.val; omega
  | ⟨1, _⟩ =>
    show cc0_transform_2 (grid0.coords t) 1 * 256 + (64 * ci.val + r.val) = (64 * (4 * (t.val % 8) + ci.val) + r.val) % 2048
    rw [e]; show t.val % 8 * 256 + (64 * ci.val + r.val) = _; omega
  | ⟨2, _⟩ => show cc0_transform_2 (grid0.coords t) 2 * 1024 + k.val = 1024 * 7 + k.val; rw [e]; show 7 * 1024 + k.val = _; omega

theorem blk3 (t : Fin cfg0.N) (b : Fin 8) (hb : b.val = t.val / 8) (ci : Fin 4) (r : Fin 64) (k : Fin 1024) :
    (X0_3 m c t : Vec Ideal S1x256x1024 .bf16) (ix3 0 (rt ci r) k)
      = AX m c (ix3 b (row (4 * (t.val % 8) + ci.val) r) (colX 8 k)) := by
  have hN := gridN t
  unfold X0_3 Pipeline.Window.fill
  refine (dif_pos (moved0_3 t _)).trans ?_
  unfold iblk
  show V m c main_arg0 _ = _
  rw [V_main_arg0]
  refine congrArg (m ((c : Thread nD τ).loc main_arg0)) (funext fun a => Fin.ext ?_)
  refine ((cfg0.win 3).rect_emb_val t _ a).trans ?_
  have e := idx3 t
  match a with
  | ⟨0, _⟩ => show cc0_transform_3 (grid0.coords t) 0 * 1 + 0 = b.val; rw [e]; show t.val / 8 * 1 + 0 = b.val; omega
  | ⟨1, _⟩ =>
    show cc0_transform_3 (grid0.coords t) 1 * 256 + (64 * ci.val + r.val) = (64 * (4 * (t.val % 8) + ci.val) + r.val) % 2048
    rw [e]; show t.val % 8 * 256 + (64 * ci.val + r.val) = _; omega
  | ⟨2, _⟩ => show cc0_transform_3 (grid0.coords t) 2 * 1024 + k.val = 1024 * 8 + k.val; rw [e]; show 8 * 1024 + k.val = _; omega

theorem blk4 (t : Fin cfg0.N) (k : Fin 1024) :
    (iblk m c 4 t : Vec Ideal S1x1024 .f32) (ix2 0 k) = AL m c (ix2 0 k) := by
  unfold iblk
  show V m c main_arg1 _ = _
  rw [V_main_arg1]
  refine congrArg (m ((c : Thread nD τ).loc main_arg1)) (funext fun a => Fin.ext ?_)
  refine ((cfg0.win 4).rect_emb_val t (ix2 0 k) a).trans ?_
  have e := idx4 t
  match a with
  | ⟨0, _⟩ => show cc0_transform_4 (grid0.coords t) 0 * 1 + 0 = 0; rw [e]; rfl
  | ⟨1, _⟩ => show cc0_transform_4 (grid0.coords t) 1 * 1024 + k.val = k.val; rw [e]; show 0 * 1024 + k.val = k.val; omega

theorem blk5 (t : Fin cfg0.N) (k : Fin 128) :
    (iblk m c 5 t : Vec Ideal S1x128 .f32) (ix2 0 k) = AG m c (ix2 0 k) := by
  unfold iblk
  show V m c main_arg2 _ = _
  rw [V_main_arg2]
  refine congrArg (m ((c : Thread nD τ).loc main_arg2)) (funext fun a => Fin.ext ?_)
  refine ((cfg0.win 5).rect_emb_val t (ix2 0 k) a).trans ?_
  have e := idx5 t
  match a with
  | ⟨0, _⟩ => show cc0_transform_5 (grid0.coords t) 0 * 1 + 0 = 0; rw [e]; rfl
  | ⟨1, _⟩ => show cc0_transform_5 (grid0.coords t) 1 * 128 + k.val = k.val; rw [e]; show 0 * 128 + k.val = k.val; omega

/-! ## The points -/

/-- The state before point `t`. -/
def prev (t : Fin cfg0.N) : Vec Ideal S8x128x128 .f32 :=
  if t.val % 8 = 0 then k0_pay2 (F := Ideal)
  else (outsAt0 m c (t.val - 1) (Nat.lt_of_le_of_lt (Nat.sub_le _ _) t.isLt)).2

theorem point_out (t : Fin cfg0.N) :
    (outsAt0 m c t.val t.isLt).1 =
      unrollO (OUTc (X0_0 m c t) (X0_1 m c t) (X0_2 m c t) (X0_3 m c t) (iblk m c 4 t) (iblk m c 5 t) (prev m c t)) := by
  unfold prev
  by_cases h0 : t.val % 8 = 0
  · rw [outsAt0_A m c t h0, if_pos h0]
    dsimp only
    exact A.out_eq _
  · rw [outsAt0_B m c t h0, if_neg h0]
    dsimp only
    exact B.out_eq _

theorem point_state (t : Fin cfg0.N) :
    (outsAt0 m c t.val t.isLt).2 = ST (X0_1 m c t) (X0_2 m c t) (iblk m c 4 t) (prev m c t) 32 := by
  unfold prev
  by_cases h0 : t.val % 8 = 0
  · rw [outsAt0_A m c t h0, if_pos h0]
    dsimp only
    exact A.sout_eq _
  · rw [outsAt0_B m c t h0, if_neg h0]
    dsimp only
    exact B.sout_eq _

variable (H : Ok (AX m c) (AL m c))
include H

theorem reals (t : Fin cfg0.N) (b : Fin 8) (hb : b.val = t.val / 8) (ci : Fin 4) :
    Reals (X0_0 m c t) (X0_1 m c t) (X0_2 m c t) (iblk m c 4 t) ci (low (AL m c))
      (raw (AX m c) b 5 (4 * (t.val % 8) + ci.val)) (rawf (AX m c) b (4 * (t.val % 8) + ci.val))
      (raw (AX m c) b 7 (4 * (t.val % 8) + ci.val)) where
  hq r k := blk0 m c t b hb ci r k
  hf r k := (blk1 m c t b hb ci r k).trans (H.raw_eq b _ r k)
  hv r k := blk2 m c t b hb ci r k
  hl k := (blk4 m c t k).trans (H.lreal k)
  l0 := H.low0
  l1 := H.low1

/-- The state before a point is the recurrence's, of the chunks gone before. -/
theorem prev_real (n : ℕ) (hn : n < cfg0.N) (b : Fin 8) (hb : b.val = n / 8) (h : Fin 8) (d k : Fin 128) :
    prev m c ⟨n, hn⟩ (ix3 h d k) =
      (stR (low (AL m c)) (rawf (AX m c) b) (raw (AX m c) b 7) h (4 * (n % 8)) k d) := by
  induction n generalizing h d k with
  | zero =>
    unfold prev
    rw [if_pos (Nat.zero_mod 8)]
    show k0_pay2 (F := Ideal) (ix3 h d k) = (0 : EReal)
    pointwise [k0_pay2]
  | succ n ih =>
    have hN : n + 1 < 64 := gridN ⟨n + 1, hn⟩
    unfold prev
    by_cases h0 : (n + 1) % 8 = 0
    · rw [if_pos h0, h0]
      show k0_pay2 (F := Ideal) (ix3 h d k) = (0 : EReal)
      pointwise [k0_pay2]
    · rw [if_neg h0]
      have hb' : b.val = n / 8 := by omega
      have e := congrFun (point_state m c ⟨n, Nat.lt_of_succ_lt hn⟩) (ix3 h d k)
      refine e.trans ?_
      have e4 : 4 * ((n + 1) % 8) = 4 * (n % 8) + 4 := by omega
      rw [e4]
      exact sc_real (fun ci => reals m c H ⟨n, Nat.lt_of_succ_lt hn⟩ b hb' ci) _
        (fun h d k => ih (Nat.lt_of_succ_lt hn) hb' h d k) h 4 (le_refl _) d k

/-- The element a point leaves in its output block. -/
theorem point_real (t : Fin cfg0.N) (b : Fin 8) (hb : b.val = t.val / 8) (ci : Fin 4) (h : Fin 8) (r : Fin 64) (d : Fin 128) :
    (outsAt0 m c t.val t.isLt).1 (ix3 0 (rt ci r) (hc h d)) =
      HG (AX m c) (AL m c) (AG m c) b (4 * (t.val % 8) + ci.val) r h d := by
  rw [point_out m c t]
  have e1 : (⟨(64 * ci.val + r.val) / 64, by omega⟩ : Fin 4) = ci := Fin.ext (by show (64 * ci.val + r.val) / 64 = ci.val; omega)
  have e2 : (⟨(128 * h.val + d.val) / 128, by omega⟩ : Fin 8) = h := Fin.ext (by show (128 * h.val + d.val) / 128 = h.val; omega)
  have e3 : (⟨(64 * ci.val + r.val) % 64, by omega⟩ : Fin 64) = r := Fin.ext (by show (64 * ci.val + r.val) % 64 = r.val; omega)
  have e4 : (⟨(128 * h.val + d.val) % 128, by omega⟩ : Fin 128) = d := Fin.ext (by show (128 * h.val + d.val) % 128 = d.val; omega)
  show OUTc _ _ _ _ _ _ _ (⟨(64 * ci.val + r.val) / 64, _⟩ : Fin 4) (⟨(128 * h.val + d.val) / 128, _⟩ : Fin 8)
    (ix3 0 (⟨(64 * ci.val + r.val) % 64, _⟩ : Fin 64) (⟨(128 * h.val + d.val) % 128, _⟩ : Fin 128)) = _
  rw [e1, e2, e3, e4]
  refine (outc_real (fun ci => reals m c H t b hb ci) _ (fun h d k => prev_real m c H t.val t.isLt b hb h d k) h ci r d).trans ?_
  unfold HG
  refine congrArg₂ (fun (u v : Fin 128 → EReal) => fin u _ v d) (funext fun d => blk5 m c t d) (funext fun d => ?_)
  exact blk3 m c t b hb ci r (hc h d)

/-- THE RESULT ARRAY, element by element. -/
theorem result (b : Fin 8) (n : Fin 32) (r : Fin 64) (h : Fin 8) (d : Fin 128) :
    (Value.G6 m c : SO.Idx → EReal) (ix3 b (row n.val r) (hc h d)) = HG (AX m c) (AL m c) (AG m c) b n.val r h d := by
  have hr : (row n.val r).val = 64 * n.val + r.val := Nat.mod_eq_of_lt (by omega)
  have hp : 8 * (b.val / 1 - 0) + 1 * ((row n.val r).val / 256 - 0) + 1 * ((128 * h.val + d.val) / 1024 - 0) = 8 * b.val + n.val / 4 := by
    rw [hr]; omega
  have hlt : 8 * b.val + n.val / 4 < cfg0.N := lt_of_lt_of_eq (by omega) N_0.symm
  show Value.G6 m c (ix3 b (row n.val r) (hc h d)) = _
  unfold Value.G6
  refine (dif_pos (show Value.pt6Of (ix3 b (row n.val r) (hc h d)) < cfg0.N from lt_of_eq_of_lt hp hlt)).trans ?_
  have e5 := (Value.outsAt0_sweep m c (8 * b.val + n.val / 4) hlt)
  rw [Value.fold0_congr m c (Value.pt6Of (ix3 b (row n.val r) (hc h d))) _ (8 * b.val + n.val / 4) (by omega) hp, ← e5]
  have ev : 4 * ((8 * b.val + n.val / 4) % 8) + n.val % 4 = n.val := by omega
  have e := point_real m c H ⟨8 * b.val + n.val / 4, hlt⟩ b (by show b.val = (8 * b.val + n.val / 4) / 8; omega)
    ⟨n.val % 4, by omega⟩ h r d
  have e' : HG (AX m c) (AL m c) (AG m c) b (4 * ((8 * b.val + n.val / 4) % 8) + n.val % 4) r h d =
      HG (AX m c) (AL m c) (AG m c) b n.val r h d := by rw [ev]
  refine Eq.trans (congrArg _ (funext fun a => Fin.ext ?_)) (e.trans e')
  match a with
  | ⟨0, _⟩ => show b.val % 1 = 0; omega
  | ⟨1, _⟩ => show (row n.val r).val % 256 = 64 * (n.val % 4) + r.val; rw [hr]; omega
  | ⟨2, _⟩ => show (128 * h.val + d.val) % 1024 = 128 * h.val + d.val; omega

end Cert.KernelIdeal.Hgrn

end

end
-- ==== Proof.RefTerms.lean ====
/-
  The reference of the recurrence, its host operations put together: what the loop starts from and what
  one of its thirty-two trips computes, as functions of the arguments and of the carried arrays.
-/
module

public import proofs.«01_k».proof.Proof.Model
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Hgrn

open Idealize.ShloMosaic Idealize.ShloMosaic.TcCoe Idealize.SL.Sem
open Idealize.ShloMosaic.HostLoop
open Cert.ReferenceIdeal Cert.ReferenceIdeal.Gen Cert.ReferenceIdeal.Value
open Idealize.ShloMosaic.StableHlo Idealize.ShloMosaic.Tactic
open Cert.Hgrn
open scoped BigOperators

/-! ## What the loop starts from -/

section Entry
variable (X : FVec Ideal S8x2048x9728 .bf16) (L : FVec Ideal S1x1024 .f32)

/-- The number one at every element. -/
def one5 : FVec Ideal S32x8x8x64x128 .f32 := broadcastInDim S32x8x8x64x128 ![] bcast_S_S32x8x8x64x128 (constant S_ .f32 0x3F800000#32)

/-- The logistic function of every element. -/
def sig5 (x : FVec Ideal S32x8x8x64x128 .f32) : FVec Ideal S32x8x8x64x128 .f32 :=
  Host.divf one5 (addf one5 (Host.exp (Host.negf x)))

/-- The projections of the gates, chunk by chunk. -/
def f5 : FVec Ideal S32x8x8x64x128 .f32 :=
  extf .f32 (transpose S32x8x8x64x128 [1, 0, 3, 2, 4] (shapeCast S8x32x64x8x128
    (extractStridedSlice S8x2048x1024 ![0, 0, 6144] X slices_S8x2048x9728_S8x2048x1024_0_0_6144)
    shapeCasts_S8x2048x1024_S8x32x64x8x128) transposes_S8x32x64x8x128_S32x8x8x64x128_1_0_3_2_4) bitsLt_bf16_f32

/-- The projections of the queries, chunk by chunk. -/
def q5 : FVec Ideal S32x8x8x64x128 .f32 :=
  extf .f32 (transpose S32x8x8x64x128 [1, 0, 3, 2, 4] (shapeCast S8x32x64x8x128
    (extractStridedSlice S8x2048x1024 ![0, 0, 5120] X slices_S8x2048x9728_S8x2048x1024_0_0_5120)
    shapeCasts_S8x2048x1024_S8x32x64x8x128) transposes_S8x32x64x8x128_S32x8x8x64x128_1_0_3_2_4) bitsLt_bf16_f32

/-- The values, chunk by chunk. -/
def v5 : FVec Ideal S32x8x8x64x128 .f32 :=
  extf .f32 (transpose S32x8x8x64x128 [1, 0, 3, 2, 4] (shapeCast S8x32x64x8x128
    (extractStridedSlice S8x2048x1024 ![0, 0, 7168] X slices_S8x2048x9728_S8x2048x1024_0_0_7168)
    shapeCasts_S8x2048x1024_S8x32x64x8x128) transposes_S8x32x64x8x128_S32x8x8x64x128_1_0_3_2_4) bitsLt_bf16_f32

/-- The lower bounds, head by head. -/
def lb3 : FVec Ideal S8x1x128 .f32 := shapeCast S8x1x128 L shapeCasts_S1x1024_S8x1x128

/-- The gates. -/
def gate5 : FVec Ideal S32x8x8x64x128 .f32 :=
  addf (broadcastInDim S32x8x8x64x128 ![0, 1, 2, 3, 4] bcast_S1x1x8x1x128_S32x8x8x64x128_0_1_2_3_4
      (broadcastInDim S1x1x8x1x128 ![2, 3, 4] bcast_S8x1x128_S1x1x8x1x128_2_3_4 (lb3 L)))
    (mulf (broadcastInDim S32x8x8x64x128 ![0, 1, 2, 3, 4] bcast_S1x1x8x1x128_S32x8x8x64x128_0_1_2_3_4
      (broadcastInDim S1x1x8x1x128 ![2, 3, 4] bcast_S8x1x128_S1x1x8x1x128_2_3_4
        (subf (broadcastInDim S8x1x128 ![] bcast_S_S8x1x128 (constant S_ .f32 0x3F800000#32)) (lb3 L)))) (sig5 (f5 X)))

/-- The scaled queries. -/
def qs5 : FVec Ideal S32x8x8x64x128 .f32 :=
  mulf (mulf (q5 X) (sig5 (q5 X))) (broadcastInDim S32x8x8x64x128 ![] bcast_S_S32x8x8x64x128 (constant S_ .f32 0x3DB504F3#32))

/-- The causal mask. -/
def mask2 : IVec S64x64 1 :=
  cmpi .sge (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0)))

end Entry

section Start
variable (m : (ℓ : Loc nD τ sig) → Buf (Elt Ideal) ℓ) (c : Dev nD)

/-- The arguments at their shapes. -/
def AX : FVec Ideal S8x2048x9728 .bf16 := m ((c.tc : Thread nD τ).loc main_arg0)
def AL : FVec Ideal S1x1024 .f32 := m ((c.tc : Thread nD τ).loc main_arg1)
def AG : FVec Ideal S1x128 .f32 := m ((c.tc : Thread nD τ).loc main_arg2)

set_option maxHeartbeats 1000000 in
theorem start0 : entryContents preI m c (Proc.devRef .tc main_v48_0) = qs5 (AX m c) := by
  simp only [entryContents, afterL_cons, afterL_nil]
  after_results_entrywise []
set_option maxHeartbeats 1000000 in
theorem start1 : entryContents preI m c (Proc.devRef .tc main_v48_1) = subf one5 (gate5 (AX m c) (AL m c)) := by
  simp only [entryContents, afterL_cons, afterL_nil]
  after_results_entrywise []
set_option maxHeartbeats 1000000 in
theorem start2 : entryContents preI m c (Proc.devRef .tc main_v48_2) = v5 (AX m c) := by
  simp only [entryContents, afterL_cons, afterL_nil]
  after_results_entrywise []
set_option maxHeartbeats 1000000 in
theorem start3 : entryContents preI m c (Proc.devRef .tc main_v48_3) = Host.log (gate5 (AX m c) (AL m c)) := by
  simp only [entryContents, afterL_cons, afterL_nil]
  after_results_entrywise []
set_option maxHeartbeats 1000000 in
theorem start4 : entryContents preI m c (Proc.devRef .tc main_v48_4) = mask2 := by
  simp only [entryContents, afterL_cons, afterL_nil]
  after_results_entrywise []
set_option maxHeartbeats 1000000 in
theorem start6 : entryContents preI m c (Proc.devRef .tc main_v48_6)
    = (broadcastInDim S8x8x128x128 ![] bcast_S_S8x8x128x128 (constant (F := Ideal) S_ .f32 0x00000000#32)) := by
  simp only [entryContents, afterL_cons, afterL_nil]
  after_results_entrywise []

end Start

end Cert.ReferenceIdeal.Hgrn

end

end
-- ==== Proof.RefRun.lean ====
/-
  The reference of the recurrence, element by element: its running sum is the sum of the rows before, a
  trip of its loop is one chunk, and its thirty-two trips are the whole sequence.
-/
module

public import proofs.«01_k».proof.Proof.RefTerms

@[expose] public section

set_option maxRecDepth 16384

noncomputable section

namespace Cert.ReferenceIdeal.Hgrn

open Idealize.ShloMosaic Idealize.ShloMosaic.TcCoe Idealize.SL.Sem
open Idealize.ShloMosaic.StableHlo Idealize.ShloMosaic.Tactic
open Cert.ReferenceIdeal Cert.ReferenceIdeal.Gen Cert.ReferenceIdeal.Value
open Cert.Hgrn
open scoped BigOperators

/-! ## The running sum -/

/-- A left fold that adds is a sum. -/
theorem foldl_sum {n : ℕ} (g : Fin n → EReal) (f : EReal → Fin n → EReal) (hf : ∀ r i, f r i = r + g i) (v : EReal) :
    (List.finRange n).foldl f v = v + ∑ i, g i := by
  have key : ∀ (l : List (Fin n)) (v : EReal), l.foldl f v = v + (l.map g).sum := by
    intro l
    induction l with
    | nil => intro v; simp
    | cons a l ih => intro v; rw [List.foldl_cons, ih, hf, List.map_cons, List.sum_cons, add_assoc]
  rw [key, Fin.sum_univ_def]

/-- The window of the running sum. -/
abbrev Win : Shape := ⟨4, ![1, 1, 64, 1]⟩

/-- A position of the window is its row. -/
def winRow : Win.Idx ≃ Fin 64 where
  toFun i := i 2
  invFun s := ix4 (0 : Fin 1) (0 : Fin 1) s (0 : Fin 1)
  left_inv i := by
    funext a
    fin_cases a
    · exact Subsingleton.elim (α := Fin 1) _ _
    · exact Subsingleton.elim (α := Fin 1) _ _
    · rfl
    · exact Subsingleton.elim (α := Fin 1) _ _
  right_inv s := rfl

/-- One position of the window at a row: the operand's row there, or padding. -/
theorem win_term (x : FVec Ideal S8x8x64x128 .f32) (b h : Fin 8) (t : Fin 64) (c : Fin 128) (w : Win.Idx) (p : Fin 4 → ℕ)
    (hp : ∀ a : Fin 4, p a = (ix4 b h t c a).val * (![1, 1, 1, 1] : Fin 4 → ℕ) a + (w a).val)
    [inst : Decidable (∀ a : Fin 4, (![0, 0, 63, 0] : Fin 4 → ℕ) a ≤ p a ∧ p a - (![0, 0, 63, 0] : Fin 4 → ℕ) a < S8x8x64x128.size a)] :
    (if hin : ∀ a : Fin 4, (![0, 0, 63, 0] : Fin 4 → ℕ) a ≤ p a ∧ p a - (![0, 0, 63, 0] : Fin 4 → ℕ) a < S8x8x64x128.size a then
      x (fun a => ⟨p a - (![0, 0, 63, 0] : Fin 4 → ℕ) a, (hin a).2⟩) else (0 : EReal))
      = if 63 ≤ t.val + (winRow w).val then x (ix4 b h ⟨(t.val + (winRow w).val - 63) % 64, Nat.mod_lt _ (by norm_num)⟩ c) else 0 := by
  have w0 : (w 0).val = 0 := by have := (w 0).isLt; change (w 0).val < 1 at this; omega
  have w1 : (w 1).val = 0 := by have := (w 1).isLt; change (w 1).val < 1 at this; omega
  have w3 : (w 3).val = 0 := by have := (w 3).isLt; change (w 3).val < 1 at this; omega
  have w2 : (w 2).val < 64 := (w 2).isLt
  have p0 : p 0 = b.val := by rw [hp, w0]; show b.val * 1 + 0 = _; omega
  have p1 : p 1 = h.val := by rw [hp, w1]; show h.val * 1 + 0 = _; omega
  have p3 : p 3 = c.val := by rw [hp, w3]; show c.val * 1 + 0 = _; omega
  have p2 : p 2 = t.val + (w 2).val := by rw [hp]; show t.val * 1 + _ = _; omega
  have e : winRow w = w 2 := rfl
  by_cases hc : 63 ≤ t.val + (w 2).val
  · rw [e, if_pos hc, dif_pos]
    · congr 1
      funext a
      apply Fin.ext
      fin_cases a
      · show p 0 - 0 = b.val; omega
      · show p 1 - 0 = h.val; omega
      · show p 2 - 63 = (t.val + (w 2).val - 63) % 64; omega
      · show p 3 - 0 = c.val; omega
    · intro a
      fin_cases a
      · show 0 ≤ p 0 ∧ p 0 - 0 < 8; omega
      · show 0 ≤ p 1 ∧ p 1 - 0 < 8; omega
      · show 63 ≤ p 2 ∧ p 2 - 63 < 64; omega
      · show 0 ≤ p 3 ∧ p 3 - 0 < 128; omega
  · rw [e, if_neg hc, dif_neg]
    intro hin
    have := (hin 2).1
    change 63 ≤ p 2 at this
    omega

/-- The window sum padded by 63 rows in front is the sum of the rows up to each row. -/
theorem window_at (x : FVec Ideal S8x8x64x128 .f32) (z : FVec Ideal S_ .f32) (hz : ∀ i, z i = 0)
    (b h : Fin 8) (t : Fin 64) (c : Fin 128) :
    Host.reduceWindowAdd ![1, 1, 64, 1] ![1, 1, 1, 1] ![0, 0, 63, 0] ![0, 0, 0, 0] x z
      reduceWindows_S8x8x64x128_S8x8x64x128_w1s1p0_0_w1s1p0_0_w64s1p63_0_w1s1p0_0 h_S_ (ix4 b h t c)
      = ∑ s : Fin 64, if s ≤ t then x (ix4 b h s c) else 0 := by
  unfold Host.reduceWindowAdd
  rw [Ideal.hostReduceWindowAdd_def]
  unfold Ideal.hostReduceWindowAdd Host.reduceWindow
  rw [hz]
  refine (foldl_sum (n := Win.numel) (fun i => if 63 ≤ t.val + (winRow (Win.rowMajor.symm i)).val then
    x (ix4 b h ⟨(t.val + (winRow (Win.rowMajor.symm i)).val - 63) % 64, Nat.mod_lt _ (by norm_num)⟩ c) else 0) _ ?_ 0).trans ?_
  · intro r i
    exact congrArg (r + ·) (win_term (inst := _) x b h t c (Win.rowMajor.symm i) _ fun a => rfl)
  · rw [zero_add]
    refine (Fintype.sum_equiv (Win.rowMajor.symm.trans winRow) _ (fun w : Fin 64 => if 63 ≤ t.val + w.val then
      x (ix4 b h ⟨(t.val + w.val - 63) % 64, Nat.mod_lt _ (by norm_num)⟩ c) else 0) (fun i => rfl)).trans ?_
    refine Fintype.sum_equiv (Equiv.addRight (t + 1)) _ _ fun w => ?_
    have hv : ((Equiv.addRight (t + 1)) w).val = (w.val + t.val + 1) % 64 := by
      simp [Fin.val_add]
    have hle : ((Equiv.addRight (t + 1)) w ≤ t) ↔ 63 ≤ t.val + w.val := by
      rw [Fin.le_def, hv]; omega
    by_cases hc : 63 ≤ t.val + w.val
    · rw [if_pos hc, if_pos (hle.2 hc)]
      congr 2
      apply Fin.ext
      rw [hv]
      show (t.val + w.val - 63) % 64 = _
      omega
    · rw [if_neg hc, if_neg (fun hh => hc (hle.1 hh))]
/-! ## The arrays the loop starts from -/

section Start
variable {X : FVec Ideal S8x2048x9728 .bf16} {L : FVec Ideal S1x1024 .f32} (H : Ok X L)
variable (n : Fin 32) (b h : Fin 8) (t : Fin 64) (c : Fin 128)
include H

theorem f5_at : f5 X (ix5 n b h t c) = (rawf X b n.val t (hc h c) : EReal) := by
  pointwise [f5]
  rw [← H.raw_eq b n.val t (hc h c)]
  have hn := n.isLt; have ht := t.isLt
  congr 1
  refine congrArg₂ (ix3 b) (Fin.ext ?_) (Fin.ext ?_)
  · show n.val * 64 + t.val = (64 * n.val + t.val) % 2048; omega
  · show 6144 + (h.val * 128 + c.val) = 1024 * 6 + (128 * h.val + c.val); omega

omit H in
theorem q5_at : q5 X (ix5 n b h t c) = raw X b 5 n.val t (hc h c) := by
  pointwise [q5]
  unfold raw
  have hn := n.isLt; have ht := t.isLt
  congr 1
  refine congrArg₂ (ix3 b) (Fin.ext ?_) (Fin.ext ?_)
  · show n.val * 64 + t.val = (64 * n.val + t.val) % 2048; omega
  · show 5120 + (h.val * 128 + c.val) = 1024 * 5 + (128 * h.val + c.val); omega

omit H in
theorem v5_at : v5 X (ix5 n b h t c) = hd h (raw X b 7 n.val) t c := by
  unfold hd
  pointwise [v5]
  unfold raw
  have hn := n.isLt; have ht := t.isLt
  congr 1
  refine congrArg₂ (ix3 b) (Fin.ext ?_) (Fin.ext ?_)
  · show n.val * 64 + t.val = (64 * n.val + t.val) % 2048; omega
  · show 7168 + (h.val * 128 + c.val) = 1024 * 7 + (128 * h.val + c.val); omega

theorem gate5_at : gate5 X L (ix5 n b h t c) = (gate (low L (hc h c)) (rawf X b n.val t (hc h c)) : EReal) := by
  have e : L (ix2 0 (⟨h.val * 128 + c.val, by omega⟩ : Fin 1024)) = (low L (hc h c) : EReal) := by
    rw [← H.lreal (hc h c)]
    refine congrArg (fun i => L (ix2 0 i)) (Fin.ext ?_)
    show h.val * 128 + c.val = 128 * h.val + c.val; omega
  pointwise [gate5, sig5, one5, lb3]
  rw [f5_at H, sg_coe, e, ← EReal.coe_one, ← EReal.coe_sub, ← EReal.coe_mul, ← EReal.coe_add]
  rfl

omit H in
theorem qs5_at : qs5 X (ix5 n b h t c) = rq (raw X b 5 n.val) h t c := by
  pointwise [qs5, sig5, one5]
  rw [q5_at, qc_f32]
  rfl

theorem k5_at : subf one5 (gate5 X L) (ix5 n b h t c) = (rk (low L) (rawf X b n.val) h t c : EReal) := by
  pointwise [one5]
  rw [gate5_at H, ← EReal.coe_one, ← EReal.coe_sub]
  rfl

theorem g5_at : Host.log (gate5 X L) (ix5 n b h t c) = ((hd h (lgate (low L) (rawf X b n.val)) t c : ℝ) : EReal) := by
  pointwise []
  rw [gate5_at H, log_coe_pos (gate_pos (H.low0 _) (H.low1 _) _)]
  rfl

end Start

theorem mask_at (t s : Fin 64) : mask2 (ix2 t s) = if s ≤ t then 1#1 else 0#1 := by
  pointwise [mask2]
  have hs := s.isLt
  have ht := t.isLt
  by_cases h : s ≤ t
  · rw [if_pos h, Idealize.ShloMosaic.WordCmp.cmpi_sge_ofNat_eq_one_iff (by omega) (by omega)]; exact h
  · rw [if_neg h, Idealize.ShloMosaic.WordCmp.cmpi_sge_ofNat_eq_zero_iff (by omega) (by omega)]; exact h

/-! ## One trip -/

/-- The chunk at the counter lies within the sequence. -/
theorem slot (n : Fin 32) : S32x8x8x64x128.Slices ![n.val, 0, 0, 0, 0] S1x8x8x64x128 := by
  have hn := n.isLt
  refine ⟨rfl, fun a => ?_⟩
  fin_cases a
  · show n.val + 1 ≤ 32; omega
  · show 0 + 8 ≤ 8; omega
  · show 0 + 8 ≤ 8; omega
  · show 0 + 64 ≤ 64; omega
  · show 0 + 128 ≤ 128; omega

/-- The chunk written at the counter. -/
theorem update_at (A : FVec Ideal S32x8x8x64x128 .f32) (U : FVec Ideal S1x8x8x64x128 .f32) (st : Fin 5 → Int) (n : Fin 32)
    (e : ∀ a, st a = ((![n.val, 0, 0, 0, 0] : Fin 5 → ℕ) a : Int)) (b h : Fin 8) (t : Fin 64) (c : Fin 128) :
    Host.dynamicUpdateSlice A U st updateFits_S32x8x8x64x128_S1x8x8x64x128 (ix5 n b h t c) = U (ix5 0 b h t c) := by
  rw [Idealize.ShloMosaic.WordCmp.dynamicUpdateSlice_eq_update A U st _ _ (slot n) e]
  pointwise []
  rw [dif_pos ⟨le_refl _, Nat.lt_succ_self _⟩]
  exact congrArg (fun i => U (ix5 i b h t c)) (Fin.ext (Nat.sub_self _))

/-- The chunks beside the counter's. -/
theorem update_keep (A : FVec Ideal S32x8x8x64x128 .f32) (U : FVec Ideal S1x8x8x64x128 .f32) (st : Fin 5 → Int) (n : Fin 32)
    (e : ∀ a, st a = ((![n.val, 0, 0, 0, 0] : Fin 5 → ℕ) a : Int)) (j : Fin 32) (hj : j ≠ n) (b h : Fin 8) (t : Fin 64)
    (c : Fin 128) :
    Host.dynamicUpdateSlice A U st updateFits_S32x8x8x64x128_S1x8x8x64x128 (ix5 j b h t c) = A (ix5 j b h t c) := by
  rw [Idealize.ShloMosaic.WordCmp.dynamicUpdateSlice_eq_update A U st _ _ (slot n) e]
  pointwise []
  have hv : j.val ≠ n.val := fun hh => hj (Fin.ext hh)
  rw [dif_neg (by omega)]

/-- The chunk cut out at the counter. -/
theorem slice_at (A : FVec Ideal S32x8x8x64x128 .f32) (st : Fin 5 → Int) (n : Fin 32)
    (e : ∀ a, st a = ((![n.val, 0, 0, 0, 0] : Fin 5 → ℕ) a : Int)) (b h : Fin 8) (t : Fin 64) (c : Fin 128) :
    shapeCast S8x8x64x128 (Host.dynamicSlice S1x8x8x64x128 A st sliceFits_S32x8x8x64x128_S1x8x8x64x128)
      shapeCasts_S1x8x8x64x128_S8x8x64x128 (ix4 b h t c) = A (ix5 n b h t c) := by
  rw [Idealize.ShloMosaic.WordCmp.dynamicSlice_eq_extract _ A st _ _ (slot n) e]
  pointwise []

/-- The masked decayed products: a masked one is the exponential of the lowest element, zero. -/
theorem masked_sum (Q K B : FVec Ideal S8x8x64x128 .f32) (M : IVec S64x64 1) (q : Fin 64 → Fin 128 → EReal) (k g : Fin 64 → Fin 128 → ℝ)
    (b h : Fin 8) (t s : Fin 64) (hQ : ∀ t c, Q (ix4 b h t c) = q t c) (hK : ∀ t c, K (ix4 b h t c) = (k t c : EReal))
    (hB : ∀ t c, B (ix4 b h t c) = (cum g t c : EReal)) (hM : M (ix2 t s) = if s ≤ t then 1#1 else 0#1) :
    ∑ c : Fin 128, Q (ix4 b h t c) * K (ix4 b h s c) * Ideal.exp (Scalar.select (M (ix2 t s))
      (B (ix4 b h t c) - B (ix4 b h s c)) (Ideal.ofBits FTy.f32 4286578688#32)) = att q k g t s := by
  rw [hM]
  unfold att
  by_cases hs : s ≤ t
  · rw [if_pos hs, if_pos hs]
    refine Finset.sum_congr rfl fun c _ => ?_
    have e : Scalar.select 1#1 (B (ix4 b h t c) - B (ix4 b h s c)) (Ideal.ofBits FTy.f32 4286578688#32)
      = B (ix4 b h t c) - B (ix4 b h s c) := rfl
    rw [e, hQ, hK, hB, hB, ← EReal.coe_sub, Ideal.exp_coe, mul_assoc, ← EReal.coe_mul]
  · rw [if_neg hs, if_neg hs]
    refine Finset.sum_eq_zero fun c _ => ?_
    have e : Scalar.select 0#1 (B (ix4 b h t c) - B (ix4 b h s c)) (Ideal.ofBits FTy.f32 4286578688#32)
      = Ideal.ofBits FTy.f32 4286578688#32 := rfl
    rw [e, neg_inf_f32, Ideal.exp_bot, mul_zero]

section Trip
variable (V : Valuation τ sig (Elt Ideal)) (n : Fin 32)

theorem start_at (hV : V (Proc.devRef .tc main_v48_5) = fun _ => BitVec.ofNat 32 n.val) (a : Fin 5) :
    (((![V (Proc.devRef .tc main_v48_5), constantI S_ 32 0#32, constantI S_ 32 0#32, constantI S_ 32 0#32, constantI S_ 32 0#32] : Fin 5 → (⟨S_, .i32⟩ : BufTy).Contents (Elt Ideal))) a (Shape.Idx.first h_S_)).toInt
      = ((![n.val, 0, 0, 0, 0] : Fin 5 → ℕ) a : Int) := by
  have hn := n.isLt
  fin_cases a
  · show (V (Proc.devRef .tc main_v48_5) (Shape.Idx.first h_S_)).toInt = (n.val : Int)
    rw [hV]
    show (BitVec.ofNat 32 n.val).toInt = _
    rw [BitVec.toInt_eq_toNat_of_lt (by rw [BitVec.toNat_ofNat]; omega), BitVec.toNat_ofNat]
    omega
  all_goals rfl

/-- What the loop carries after `k` trips. -/
structure Inv (X : FVec Ideal S8x2048x9728 .bf16) (L : FVec Ideal S1x1024 .f32) (k : ℕ) : Prop where
  q : V (Proc.devRef .tc main_v48_0) = qs5 X
  key : V (Proc.devRef .tc main_v48_1) = subf one5 (gate5 X L)
  v : V (Proc.devRef .tc main_v48_2) = v5 X
  g : V (Proc.devRef .tc main_v48_3) = Host.log (gate5 X L)
  msk : V (Proc.devRef .tc main_v48_4) = mask2
  ctr : V (Proc.devRef .tc main_v48_5) = fun _ => BitVec.ofNat 32 k
  st : ∀ (b h : Fin 8) (c d : Fin 128), V (Proc.devRef .tc main_v48_6) (ix4 b h c d)
    = (stR (low L) (rawf X b) (raw X b 7) h k c d)
  o : ∀ (j : Fin 32) (b h : Fin 8) (t : Fin 64) (d : Fin 128), j.val < k → V (Proc.devRef .tc main_v48_7) (ix5 j b h t d)
    = (outR (low L) (raw X b 5) (rawf X b) (raw X b 7) h j.val t d)

variable {X : FVec Ideal S8x2048x9728 .bf16} {L : FVec Ideal S1x1024 .f32} {V} {n} (H : Ok X L) (I : Inv V X L n.val)
variable (b h : Fin 8) (t : Fin 64) (c : Fin 128)
include H I

omit H in
theorem q_at : res_main_while0b_v78 V (ix4 b h t c) = rq (raw X b 5 n.val) h t c := by
  unfold res_main_while0b_v78
  refine (slice_at _ _ n (start_at V n I.ctr) b h t c).trans ?_
  rw [I.q]; exact qs5_at n b h t c

theorem k_at : res_main_while0b_v79 V (ix4 b h t c) = (rk (low L) (rawf X b n.val) h t c : EReal) := by
  unfold res_main_while0b_v79
  refine (slice_at _ _ n (start_at V n I.ctr) b h t c).trans ?_
  rw [I.key]; exact k5_at H n b h t c

omit H in
theorem v_at : res_main_while0b_v80 V (ix4 b h t c) = hd h (raw X b 7 n.val) t c := by
  unfold res_main_while0b_v80
  refine (slice_at _ _ n (start_at V n I.ctr) b h t c).trans ?_
  rw [I.v]; exact v5_at n b h t c

theorem cum_at : res_main_while0b_v82 V (ix4 b h t c) = (cum (hd h (lgate (low L) (rawf X b n.val))) t c : EReal) := by
  unfold res_main_while0b_v82
  refine (window_at _ _ (fun i => ?_) b h t c).trans ?_
  · show Ideal.ofBits .f32 0x00000000#32 = 0
    simp [Ideal.ofBits, Ideal.ieee]
  · unfold cum
    refine sum_coe _ fun s => ?_
    by_cases hs : s ≤ t
    · rw [if_pos hs, if_pos hs]
      refine (slice_at _ _ n (start_at V n I.ctr) b h s c).trans ?_
      rw [I.g]; exact g5_at H n b h s c
    · rw [if_neg hs, if_neg hs]; rfl

theorem last_at : res_main_while0b_v103 V (ix4 b h 0 c) = (cum (hd h (lgate (low L) (rawf X b n.val))) 63 c : EReal) := by
  refine Eq.trans ?_ (cum_at H I b h 63 c)
  unfold res_main_while0b_v103
  pointwise []

/-- The state after the trip. -/
theorem state_step (d : Fin 128) : step_main_v48_6 V (ix4 b h c d)
    = (stR (low L) (rawf X b) (raw X b 7) h (n.val + 1) c d) := by
  unfold step_main_v48_6
  simp only [id]
  pointwise []
  rw [last_at H I, I.st, Ideal.exp_coe]
  rw [Finset.sum_congr rfl fun s _ => by
    rw [k_at H I, cum_at H I, v_at I, ← EReal.coe_sub, Ideal.exp_coe, ← EReal.coe_mul]]
  rfl

/-- The output rows of the trip's chunk. -/
theorem out_step (d : Fin 128) : step_main_v48_7 V (ix5 n b h t d)
    = (outR (low L) (raw X b 5) (rawf X b) (raw X b 7) h n.val t d) := by
  unfold step_main_v48_7
  simp only [id]
  refine (update_at _ _ _ n (start_at V n I.ctr) b h t d).trans ?_
  pointwise []
  unfold outR out
  refine congrArg₂ (fun x y : EReal => x + y)
    (Finset.sum_congr rfl fun s _ => congrArg₂ (fun x y : EReal => x * y)
      (masked_sum _ _ _ _ _ _ _ b h t s (q_at I b h) (k_at H I b h) (cum_at H I b h) (by rw [I.msk]; exact mask_at t s))
      (v_at I b h s d))
    (Finset.sum_congr rfl fun c _ => ?_)
  rw [q_at I, cum_at H I, I.st, Ideal.exp_coe]

/-- The output rows of the other chunks stay. -/
theorem out_keep (j : Fin 32) (hj : j ≠ n) (d : Fin 128) : step_main_v48_7 V (ix5 j b h t d)
    = V (Proc.devRef .tc main_v48_7) (ix5 j b h t d) := by
  unfold step_main_v48_7
  simp only [id]
  exact update_keep _ _ _ n (start_at V n I.ctr) j hj b h t d

/-- One trip takes the loop from a chunk to the next. -/
theorem Inv.step : Inv (STEP V) X L (n.val + 1) where
  q := (STEP_main_v48_0 V).trans I.q
  key := (STEP_main_v48_1 V).trans I.key
  v := (STEP_main_v48_2 V).trans I.v
  g := (STEP_main_v48_3 V).trans I.g
  msk := (STEP_main_v48_4 V).trans I.msk
  ctr := by
    rw [STEP_main_v48_5]
    unfold step_main_v48_5
    rw [I.ctr]
    funext i
    show BitVec.ofNat 32 n.val + 1#32 = BitVec.ofNat 32 (n.val + 1)
    rw [BitVec.ofNat_add]
  st b h c d := by rw [STEP_main_v48_6]; exact state_step H I b h c d
  o j b h t d hj := by
    rw [STEP_main_v48_7]
    by_cases e : j = n
    · rw [e]; exact out_step H I b h t d
    · have hv : j.val ≠ n.val := fun hh => e (Fin.ext hh)
      rw [out_keep H I b h t j e d]
      exact I.o j b h t d (by omega)

end Trip

/-! ## The whole sequence -/

/-- The rows the loop leaves, in the order of the sequence. -/
def rows4 (O : FVec Ideal S32x8x8x64x128 .f32) : FVec Ideal S8x2048x8x128 .f32 :=
  shapeCast _ (transpose S8x32x64x8x128 [1, 0, 3, 2, 4] O transposes_S32x8x8x64x128_S8x32x64x8x128_1_0_3_2_4) shapeCasts_S8x32x64x8x128_S8x2048x8x128

/-- The projections of the output gates. -/
def og4 (X : FVec Ideal S8x2048x9728 .bf16) : FVec Ideal S8x2048x8x128 .f32 :=
  shapeCast _ (extf .f32 (extractStridedSlice S8x2048x1024 ![0, 0, 8192] X slices_S8x2048x9728_S8x2048x1024_0_0_8192) bitsLt_bf16_f32) shapeCasts_S8x2048x1024_S8x2048x8x128

/-- The last step: every row divided by its root mean square, scaled and gated. -/
def last (O : FVec Ideal S32x8x8x64x128 .f32) (G : FVec Ideal S1x128 .f32) (X : FVec Ideal S8x2048x9728 .bf16) :
    FVec Ideal S8x2048x1024 .bf16 :=
  truncf .bf16 (shapeCast _ (mulf (mulf (mulf (rows4 O) (broadcastInDim S8x2048x8x128 ![0, 1, 2, 3] bcast_S8x2048x8x1_S8x2048x8x128_0_1_2_3 (Host.rsqrt (addf (Host.divf (broadcastInDim S8x2048x8x1 ![0, 1, 2] bcast_S8x2048x8_S8x2048x8x1_0_1_2 (Host.reduceAdd (mulf (rows4 O) (rows4 O)) (constant S_ .f32 0x00000000#32) reducesTo_S8x2048x8x128_S8x2048x8_d3 h_S_)) (broadcastInDim S8x2048x8x1 ![] bcast_S_S8x2048x8x1 (constant S_ .f32 0x43000000#32))) (broadcastInDim S8x2048x8x1 ![] bcast_S_S8x2048x8x1 (constant S_ .f32 0x358637BD#32)))))) (broadcastInDim S8x2048x8x128 ![0, 1, 2, 3] bcast_S1x1x1x128_S8x2048x8x128_0_1_2_3 (broadcastInDim S1x1x1x128 ![3] bcast_S128_S1x1x1x128_3 (shapeCast _ G shapeCasts_S1x128_S128)))) (mulf (og4 X) (Host.divf (broadcastInDim S8x2048x8x128 ![] bcast_S_S8x2048x8x128 (constant S_ .f32 0x3F800000#32)) (addf (broadcastInDim S8x2048x8x128 ![] bcast_S_S8x2048x8x128 (constant S_ .f32 0x3F800000#32)) (Host.exp (Host.negf (og4 X))))))) shapeCasts_S8x2048x8x128_S8x2048x1024) bitsLt_bf16_f32

theorem rows4_at (O : FVec Ideal S32x8x8x64x128 .f32) (b h : Fin 8) (n : Fin 32) (t : Fin 64) (d : Fin 128) :
    rows4 O (ix4 b (row n.val t) h d) = O (ix5 n b h t d) := by
  have hn := n.isLt; have ht := t.isLt
  have hr : (row n.val t).val = 64 * n.val + t.val := by
    show (64 * n.val + t.val) % 2048 = _; omega
  pointwise [rows4]
  congr 1
  exact congrArg₂ (fun i j => ix5 i b h j d) (Fin.ext (by show (row n.val t).val / 64 = n.val; omega))
    (Fin.ext (by show (row n.val t).val % 64 = t.val; omega))

theorem og4_at (X : FVec Ideal S8x2048x9728 .bf16) (b h : Fin 8) (r : Fin 2048) (d : Fin 128) :
    og4 X (ix4 b r h d) = X (ix3 b r (colX 8 (hc h d))) := by
  pointwise [og4]
  congr 1
  refine congrArg (ix3 b r) (Fin.ext ?_)
  show 8192 + (h.val * 128 + d.val) = 1024 * 8 + (128 * h.val + d.val); omega

theorem last_read (O : FVec Ideal S32x8x8x64x128 .f32) (G : FVec Ideal S1x128 .f32) (X : FVec Ideal S8x2048x9728 .bf16)
    (b h : Fin 8) (r : Fin 2048) (d : Fin 128) : last O G X (ix3 b r (hc h d))
      = rows4 O (ix4 b r h d) * Ideal.rsqrt (Ideal.div (∑ x : Fin 128, rows4 O (ix4 b r h x) * rows4 O (ix4 b r h x))
          (Ideal.ofBits .f32 0x43000000#32) + Ideal.ofBits .f32 0x358637BD#32) * G (ix2 0 d)
        * (og4 X (ix4 b r h d) * Ideal.div 1 (1 + Ideal.exp (-(og4 X (ix4 b r h d))))) := by
  have hh := h.isLt; have hd' := d.isLt
  have e3 : (⟨(hc h d).val / 128, by omega⟩ : Fin 8) = h := Fin.ext (by show (128 * h.val + d.val) / 128 = h.val; omega)
  have e4 : (⟨(hc h d).val % 128, by omega⟩ : Fin 128) = d := Fin.ext (by show (128 * h.val + d.val) % 128 = d.val; omega)
  pointwise [last]
  rw [e3, e4]

section Whole
variable (m : (ℓ : Loc nD τ sig) → Buf (Elt Ideal) ℓ) (c : Dev nD) (H : Ok (AX m c) (AL m c))
include H

/-- The loop's entry. -/
theorem inv_zero : Inv (entryContents preI m c) (AX m c) (AL m c) 0 where
  q := start0 m c
  key := start1 m c
  v := start2 m c
  g := start3 m c
  msk := start4 m c
  ctr := ctr_entry m c
  st b h c' d := by
    rw [start6 m c]
    show _ = (0 : EReal)
    pointwise []
  o j b h t d hj := absurd hj (Nat.not_lt_zero _)

/-- The loop after `k` trips. -/
theorem inv_iter (k : ℕ) (hk : k ≤ 32) : Inv (STEP^[k] (entryContents preI m c)) (AX m c) (AL m c) k := by
  induction k with
  | zero => exact inv_zero m c H
  | succ k ih =>
    rw [Function.iterate_succ_apply']
    exact Inv.step (n := ⟨k, hk⟩) H (ih (Nat.le_of_succ_le hk))

/-- The reference's result, element by element. -/
theorem result (b : Fin 8) (n : Fin 32) (t : Fin 64) (h : Fin 8) (d : Fin 128) :
    (out_main_v77 (STEP^[32] (entryContents preI m c)) : SO.Idx → EReal) (ix3 b (row n.val t) (hc h d))
      = HG (AX m c) (AL m c) (AG m c) b n.val t h d := by
  have I := inv_iter m c H 32 (le_refl _)
  have a0 := iter_main_arg0 m c 32
  have a2 := iter_main_arg2 m c 32
  generalize STEP^[32] (entryContents preI m c) = V at *
  have hn := n.isLt
  have ho : ∀ x : Fin 128, rows4 (V (Proc.devRef .tc main_v48_7)) (ix4 b (row n.val t) h x)
      = (outR (low (AL m c)) (raw (AX m c) b 5) (rawf (AX m c) b) (raw (AX m c) b 7) h n.val t x) := fun x => by
    rw [rows4_at]; exact I.o n b h t x hn
  show last (V (Proc.devRef .tc main_v48_7)) (V (Proc.devRef .tc main_arg2)) (V (Proc.devRef .tc main_arg0)) _ = _
  rw [a0, a2, last_read, og4_at, ho, Finset.sum_congr rfl fun x _ => by rw [ho x]]
  rfl

end Whole

end Cert.ReferenceIdeal.Hgrn

end

end
-- ==== Proof.HgrnClaim.lean ====
/-
  The recurrence's value claim: where the gate projections are real numbers and the lower bounds lie in the
  unit interval, the kernel's result and the reference's are the same formula at every element.
-/
module

public import proofs.«01_k».proof.Proof.KernelRun
public import proofs.«01_k».proof.Proof.RefRun
public import proofs.«01_k».proof.Defs

@[expose] public section

set_option maxRecDepth 16384

noncomputable section

namespace Cert.Pre_real_gates

open Idealize.ShloMosaic

/-- The side conditions of the precondition's operations. -/
instance facts : Facts where
  slices_S8x2048x9728_S8x2048x1024_0_0_6144 := by decide
  bcast_S_S8x2048x1024 := by decide
  bcast_S_S1x1024 := by decide

end Cert.Pre_real_gates

namespace Cert.Proof

open Idealize.ShloMosaic Idealize.ShloMosaic.TcCoe Idealize.SL.Sem
open Cert.Hgrn

/-- An element whose absolute value is below the top element is a real number. -/
theorem real_of_abs_lt {x : EReal} (h : max x (-x) < ⊤) : x = (x.toReal : EReal) := by
  refine (EReal.coe_toReal ?_ ?_).symm
  · rintro rfl; simp at h
  · rintro rfl; simp at h

/-- The precondition, read as what the proofs suppose. -/
theorem ok_of_pre (A : SX.Idx → EReal) (B : SL.Idx → EReal) (C : SG.Idx → EReal)
    (h1 : (Cert.Pre_real_gates.fn (F := Ideal) A B C).1 = fun _ => 1#1)
    (h2 : (Cert.Pre_real_gates.fn (F := Ideal) A B C).2 = fun _ => 1#1) : Ok A B := by
  have hx : ∀ (b : Fin 8) (r : Fin 2048) (c : Fin 1024),
      max (A (ix3 b r ⟨6144 + c.val, by omega⟩)) (-(A (ix3 b r ⟨6144 + c.val, by omega⟩))) < ⊤ := by
    intro b r c
    have h := congrFun h1 (ix3 b r c)
    unfold Cert.Pre_real_gates.fn at h
    pointwise [] at h
    rw [inf_bf16, Idealize.ShloMosaic.WordCmp.ofBool_decide_eq_one_iff] at h
    exact h
  have hl : ∀ c : Fin 1024, (0 : EReal) ≤ B (ix2 0 c) ∧ B (ix2 0 c) ≤ 1 := by
    intro c
    have h := congrFun h2 (ix2 0 c)
    unfold Cert.Pre_real_gates.fn at h
    pointwise [] at h
    by_cases h0 : (0 : EReal) ≤ B (ix2 0 c)
    · by_cases h1 : B (ix2 0 c) ≤ 1
      · exact ⟨h0, h1⟩
      · rw [decide_eq_true h0, decide_eq_false h1] at h
        exact absurd h (by decide)
    · rw [decide_eq_false h0] at h
      by_cases h1 : B (ix2 0 c) ≤ 1
      · rw [decide_eq_true h1] at h
        exact absurd h (by decide)
      · rw [decide_eq_false h1] at h
        exact absurd h (by decide)
  have hr : ∀ c : Fin 1024, B (ix2 0 c) = (low B c : EReal) := by
    intro c
    refine (EReal.coe_toReal ?_ ?_).symm
    · intro e
      have := (hl c).2
      rw [e, ← EReal.coe_one] at this
      exact absurd this (not_le.2 (EReal.coe_lt_top 1))
    · intro e
      have := (hl c).1
      rw [e, ← EReal.coe_zero] at this
      exact absurd this (not_le.2 (EReal.bot_lt_coe 0))
  refine ⟨fun b r c => ?_, hr, fun c => ?_, fun c => ?_⟩
  · have ho : colX 6 c = ⟨6144 + c.val, by omega⟩ := Fin.ext (by
      show 1024 * 6 + c.val = 6144 + c.val; omega)
    rw [ho]
    exact real_of_abs_lt (hx b r c)
  · have := (hl c).1
    rw [hr c, ← EReal.coe_zero] at this
    exact EReal.coe_le_coe_iff.1 this
  · have := (hl c).2
    rw [hr c, ← EReal.coe_one] at this
    exact EReal.coe_le_coe_iff.1 this

/-- Every element of the result is a row of a chunk at a column of a head. -/
theorem idx_eq (i : SO.Idx) : ∃ (b : Fin 8) (n : Fin 32) (t : Fin 64) (h : Fin 8) (d : Fin 128),
    i = ix3 b (row n.val t) (hc h d) := by
  have h1 : (i 1).val < 2048 := (i 1).isLt
  have h2 : (i 2).val < 1024 := (i 2).isLt
  refine ⟨i 0, ⟨(i 1).val / 64, by omega⟩, ⟨(i 1).val % 64, by omega⟩, ⟨(i 2).val / 128, by omega⟩, ⟨(i 2).val % 128, by omega⟩, ?_⟩
  funext a
  fin_cases a
  · rfl
  · exact Fin.ext (by show (i 1).val = (64 * ((i 1).val / 64) + (i 1).val % 64) % 2048; omega)
  · exact Fin.ext (by show (i 2).val = 128 * ((i 2).val / 128) + (i 2).val % 128; omega)

/-- The two programs of the recurrence end with the same result from the same arguments. -/
theorem algebraic1 :
    algebraic_KernelIdeal_ReferenceIdeal_pre_real_gates (hKernelIdeal := Cert.KernelIdeal.Gen.facts)
      (hReferenceIdeal := Cert.ReferenceIdeal.Gen.facts) (hPre_real_gates := Cert.Pre_real_gates.facts) := by
  intro m g m' g' pre agree
  refine ⟨_, Cert.KernelIdeal.Value.run (F := Ideal) m g,
    (θ_run _ _ _).mono (fun _ h c => ⟨?_, (h c).2⟩) (Cert.ReferenceIdeal.Value.run (F := Ideal) m' g')⟩
  obtain ⟨e0, e1, e2⟩ := agree c
  refine (h c).1.trans ?_
  have H : Ok (Cert.KernelIdeal.Hgrn.AX m c) (Cert.KernelIdeal.Hgrn.AL m c) := ok_of_pre _ _ _ (pre c).1 (pre c).2
  have f0 : Cert.ReferenceIdeal.Hgrn.AX m' c = Cert.KernelIdeal.Hgrn.AX m c := e0
  have f1 : Cert.ReferenceIdeal.Hgrn.AL m' c = Cert.KernelIdeal.Hgrn.AL m c := e1
  have f2 : Cert.ReferenceIdeal.Hgrn.AG m' c = Cert.KernelIdeal.Hgrn.AG m c := e2
  have H' : Ok (Cert.ReferenceIdeal.Hgrn.AX m' c) (Cert.ReferenceIdeal.Hgrn.AL m' c) := by rw [f0, f1]; exact H
  refine funext fun i => ?_
  obtain ⟨b, n, t, h, d, rfl⟩ := idx_eq i
  refine (Cert.ReferenceIdeal.Hgrn.result m' c H' b n t h d).trans ?_
  rw [f0, f1, f2]
  exact (Cert.KernelIdeal.Hgrn.result m c H b n t h d).symm

end Cert.Proof

end

end
-- ==== Proof.DestTable.lean ====
/-
  The prefetched table of the expert-sorted positions: it holds the experts' first rows, computed from
  their counts.
-/
module

public import proofs.«01_k».proof.Proof.Gen.Kernel3Ideal.Frame
public import Idealize.ShloMosaic.Lib.Pipeline.Value
public import Idealize.ShloMosaic.Lib.Pointwise

@[expose] public section

set_option maxRecDepth 16384

noncomputable section

namespace Cert.Kernel3Ideal.Dest

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (ρ : Dev nD → PrngReg)

/-! ## The table of first rows -/

/-- The experts' counts rounded up to whole blocks of 256 rows. -/
def padded (n : IVec S32 32) : IVec S32 32 :=
  muli (select (andi (cmpi .ne (signi (subi (addi n (broadcastInDim S32 ![] bcast_S_S32 (constantI S_ 32 256#32))) (broadcastInDim S32 ![] bcast_S_S32 (constantI S_ 32 1#32)))) (broadcastInDim S32 ![] bcast_S_S32 (signi (id (constantI S_ 32 256#32))))) (cmpi .ne (Host.remsi (subi (addi n (broadcastInDim S32 ![] bcast_S_S32 (constantI S_ 32 256#32))) (broadcastInDim S32 ![] bcast_S_S32 (constantI S_ 32 1#32))) (broadcastInDim S32 ![] bcast_S_S32 (id (constantI S_ 32 256#32)))) (broadcastInDim S32 ![] bcast_S_S32 (constantI S_ 32 0#32)))) (subi (Host.divsi (subi (addi n (broadcastInDim S32 ![] bcast_S_S32 (constantI S_ 32 256#32))) (broadcastInDim S32 ![] bcast_S_S32 (constantI S_ 32 1#32))) (broadcastInDim S32 ![] bcast_S_S32 (id (constantI S_ 32 256#32)))) (broadcastInDim S32 ![] bcast_S_S32 (constantI S_ 32 1#32))) (Host.divsi (subi (addi n (broadcastInDim S32 ![] bcast_S_S32 (constantI S_ 32 256#32))) (broadcastInDim S32 ![] bcast_S_S32 (constantI S_ 32 1#32))) (broadcastInDim S32 ![] bcast_S_S32 (id (constantI S_ 32 256#32))))) (broadcastInDim S32 ![] bcast_S_S32 (constantI S_ 32 256#32))

/-- The experts' first rows: the running sum of the rounded counts, less the expert's own. -/
def starts (n : IVec S32 32) : IVec S32 32 :=
  subi (Host.reduceWindow IntOp.addi ![32] ![1] ![31] ![0] (padded n) (broadcastInDim S_ ![] bcast_S_S_ (constantI S_ 32 0#32)) reduceWindows_S32_S32_w32s1p31_0 h_S_) (padded n)

set_option maxHeartbeats 2000000 in
/-- The prefetched table holds the first rows. -/
theorem tbl_eq : tbl m 0 = starts (m ((0 : Dev nD), main_arg0)) := by
  show StableHlo.after (List.flatten [hostOps0, hostOps0_1, hostOps0_2, hostOps0_3, hostOps0_4]) (fun b => m ((0 : Dev nD), b)) main_v8 = _
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary, StableHlo.TRef.unary, StableHlo.TRef.toBuf, StableHlo.TRef.ofBuf, cast_eq]
  after_results_simp <;> rfl

end Cert.Kernel3Ideal.Dest

end
-- ==== Proof.Dest.lean ====
/-
  The rows of the expert-sorted buffer: the kernel looks the first row of an assignment's expert up in a
  prefetched table by thirty-two comparisons and adds the assignment's rank.
-/
module

public import proofs.«01_k».proof.Proof.DestTable
public import Idealize.ShloMosaic.Lib.Pipeline.Value
public import Idealize.ShloMosaic.Lib.Pointwise

@[expose] public section

set_option maxRecDepth 16384

noncomputable section

namespace Cert.Kernel3Ideal.Dest

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (ρ : Dev nD → PrngReg)

theorem hz : (![0, 0, 0] : Fin 3 → Nat) = fun _ => 0 := funext fun a => by fin_cases a <;> rfl

/-- Thirty-two comparisons pick the expert's word. -/
theorem pick (v u : Vec Ideal S8x2x256 .i32) (w : Fin 32 → BitVec 32) (e : Fin 32) (i : S8x2x256.Idx)
    (he : v i = BitVec.ofNat 32 e.val) :
    k0_pay6 (F := Ideal) v (k0_pay4 (F := Ideal) v (k0_pay3 (F := Ideal) v
        (k0_pay1 (F := Ideal) v (w 0) (w 1) (w 2) (w 3) (w 4) (w 5) (w 6)) (k0_pay2 (F := Ideal) v)
        (w 7) (w 8) (w 9) (w 10) (w 11) (w 12) (w 13) (w 14) (w 15)) 16#32
        (w 16) (w 17) (w 18) (w 19) (w 20) (w 21) (w 22) (w 23)) (k0_pay5 (F := Ideal) v)
      (w 24) (w 25) (w 26) (w 27) (w 28) (w 29) (w 30) (w 31) u i = w e + u i := by
  pointwise [k0_pay6, k0_pay5, k0_pay4, k0_pay3, k0_pay2, k0_pay1]
  rw [he]
  refine congrArg (fun x : BitVec 32 => x + u i) ?_
  fin_cases e <;> rfl

section Case

variable (c : Dev nD) (i : grid0.Coords) (a2 : Memref sig .tc .vmem S8x8x256 .i32) (h2 : a2.IsWhole)
  (a3 : Memref sig .tc .vmem S8x2x256 .i32) (h3 : a3.IsWhole)
  (x0 : Vec Ideal S8x8x256 .i32) (w : IVec S32 32)

theorem out_eq (a : Fin 8) (k : Fin 2) (r : Fin 256) (e : Fin 32) (he : x0 (ix3 a ⟨k.val, by omega⟩ r) = BitVec.ofNat 32 e.val) :
    out0_A_1 c i a2 h2 a3 h3 x0 w (ix3 a k r) = w (ix1 e) + x0 (ix3 a ⟨4 + k.val, by omega⟩ r) := by
  unfold out0_A_1
  rw [View.read_writes_eq_canon _ _ _ (cover0_A_1 c i a2 h2 a3 h3 x0 w)]
  unfold kernelRun0_A
  dsimp only
  sl_unfold_words
  rw [View.canon_unit_zero (S := S8x2x256) hz]
  simp only [View.readAt_eq_ld, h2.read_unread]
  have hw : ∀ (n : ℕ) (hn : n < 32) (h : ∀ a : Fin 1, (![n] : Fin 1 → ℕ) a + (![1] : Fin 1 → ℕ) a ≤ S32.size a)
      (h1 : 0 < (Rect.unit (s := S32) ![n] ![1] h).shape.numel),
      View.ld (View.read (Elt Ideal) (View.whole main_v8) w) (Rect.unit ![n] ![1] h) (Shape.Idx.first h1) = w (ix1 ⟨n, hn⟩) := by
    intro n hn h h1
    exact congrArg w (funext fun a => by match a with | ⟨0, _⟩ => exact Fin.ext rfl)
  simp only [hw 0 (by decide), hw 1 (by decide), hw 2 (by decide), hw 3 (by decide), hw 4 (by decide), hw 5 (by decide), hw
    6 (by decide), hw 7 (by decide), hw 8 (by decide), hw 9 (by decide), hw 10 (by decide), hw 11 (by decide), hw
    12 (by decide), hw 13 (by decide), hw 14 (by decide), hw 15 (by decide), hw 16 (by decide), hw 17 (by decide),
    hw 18 (by decide), hw 19 (by decide), hw 20 (by decide), hw 21 (by decide), hw 22 (by decide), hw 23 (by
    decide), hw 24 (by decide), hw 25 (by decide), hw 26 (by decide), hw 27 (by decide), hw 28 (by decide), hw 29
    (by decide), hw 30 (by decide), hw 31 (by decide)]
  refine (pick _ _ (fun j => w (ix1 j)) e _ ?_).trans ?_
  · refine Eq.trans (congrArg x0 (funext fun d => Fin.ext ?_)) he
    match d with
    | ⟨0, _⟩ => show 0 + 1 * a.val = a.val; omega
    | ⟨1, _⟩ => show 0 + 1 * k.val = k.val; omega
    | ⟨2, _⟩ => show 0 + 1 * r.val = r.val; omega
  · refine congrArg (fun x : BitVec 32 => w (ix1 e) + x) (congrArg x0 (funext fun d => Fin.ext ?_))
    match d with
    | ⟨0, _⟩ => show 0 + 1 * a.val = a.val; omega
    | ⟨1, _⟩ => show 4 + 1 * k.val = 4 + k.val; omega
    | ⟨2, _⟩ => show 0 + 1 * r.val = r.val; omega

end Case

/-! ## The blocks a grid point reads -/

theorem idx0 : ∀ t : Fin grid0.N, cc0_transform_0 (grid0.coords t) = ![t.val, 0, 0] := by decide +kernel
theorem idx1 : ∀ t : Fin grid0.N, cc0_transform_1 (grid0.coords t) = ![t.val, 0, 0] := by decide +kernel

variable (hO : Ok m) (c : Dev nD)

theorem iblk0_apply (t : Fin (cfgM m hO).N) (a k : Fin 8) (r : Fin 256) (A : Fin 64) (hA : A.val = t.val * 8 + a.val) :
    (iblk m hO c 0 t : Vec Ideal S8x8x256 .i32) (ix3 a k r) = m ((c : Thread nD τ).loc main_arg1) (ix3 A k r) := by
  unfold iblk
  show V m c main_arg1 _ = _
  rw [V_main_arg1]
  refine congrArg (m ((c : Thread nD τ).loc main_arg1)) (funext fun d => Fin.ext ?_)
  refine (((cfgM m hO).win 0).rect_emb_val t (ix3 a k r) d).trans ?_
  have e := idx0 t
  match d with
  | ⟨0, _⟩ => show cc0_transform_0 (grid0.coords t) 0 * 8 + a.val = A.val; rw [e, hA]; rfl
  | ⟨1, _⟩ => show cc0_transform_0 (grid0.coords t) 1 * 8 + k.val = k.val; rw [e]; exact Nat.zero_add _
  | ⟨2, _⟩ => show cc0_transform_0 (grid0.coords t) 2 * 256 + r.val = r.val; rw [e]; exact Nat.zero_add _

/-! ## The whole array -/

/-- Every route of the plan names one of the thirty-two experts. -/
def Exist (p : IVec S64x8x256 32) : Prop :=
  ∀ (a : Fin 64) (k : Fin 2) (r : Fin 256), ∃ e : Fin 32, p (ix3 a ⟨k.val, by omega⟩ r) = BitVec.ofNat 32 e.val

/-- The expert a route names. -/
def expert (p : IVec S64x8x256 32) (a : Fin 64) (k : Fin 2) (r : Fin 256) : Fin 32 :=
  ⟨(p (ix3 a ⟨k.val, by omega⟩ r)).toNat % 32, Nat.mod_lt _ (by decide)⟩

theorem expert_eq (p : IVec S64x8x256 32) (h : Exist p) (a : Fin 64) (k : Fin 2) (r : Fin 256) :
    p (ix3 a ⟨k.val, by omega⟩ r) = BitVec.ofNat 32 (expert p a k r).val := by
  obtain ⟨e, he⟩ := h a k r
  have : (expert p a k r).val = e.val := by
    show (p _).toNat % 32 = e.val
    rw [he, BitVec.toNat_ofNat]
    omega
  rw [this, he]

/-- A route's row of the sorted buffer: its expert's first row plus its rank. -/
def row (n : IVec S32 32) (p : IVec S64x8x256 32) (a : Fin 64) (k : Fin 2) (r : Fin 256) : BitVec 32 :=
  starts n (ix1 (expert p a k r)) + p (ix3 a ⟨4 + k.val, by omega⟩ r)

/-- The result, as a function of the arguments. -/
def G (n : IVec S32 32) (p : IVec S64x8x256 32) : IVec S64x2x256 32 := fun i => row n p (i 0) (i 1) (i 2)

/-- The block a point writes back, element by element. -/
theorem block (hE : Exist (m ((c : Thread nD τ).loc main_arg1))) (t : Fin (cfgM m hO).N) (a : Fin 8) (k : Fin 2) (r : Fin 256)
    (A : Fin 64) (hA : A.val = t.val * 8 + a.val) :
    (outsAt0 m hO c t : Vec Ideal S8x2x256 .i32) (ix3 a k r)
      = row (m ((c : Thread nD τ).loc main_arg0)) (m ((c : Thread nD τ).loc main_arg1)) A k r := by
  have hc : c = 0 := Subsingleton.elim _ _
  unfold outsAt0 row
  refine (out_eq c _ _ _ _ _ (iblk m hO c 0 t) (tbl m 0) a k r (expert (m ((c : Thread nD τ).loc main_arg1)) A k r)
    ((iblk0_apply m hO c t a _ r A hA).trans (expert_eq _ hE A k r))).trans ?_
  rw [iblk0_apply m hO c t a _ r A hA, tbl_eq, hc]

/-- What point `t` writes back is its block of the result. -/
theorem flushed_eq (hE : Exist (m ((c : Thread nD τ).loc main_arg1))) (t : Fin (cfgM m hO).N) :
    (dats m hO 0 c).flushed 1 t = (((cfgM m hO).win 1).blk t).view.read (Elt Ideal)
      (G (m ((c : Thread nD τ).loc main_arg0)) (m ((c : Thread nD τ).loc main_arg1))) := by
  show ((cfgM m hO).win 1).cut ((cfgM m hO).grid.coords t) ((dats m hO 0 c).after 1 t) = _
  rw [after0_1]
  refine funext fun (j : S8x2x256.Idx) => ?_
  let y : S64x2x256.Idx := (((cfgM m hO).win 1).rect t).emb j
  show (outsAt0 m hO c t : Vec Ideal S8x2x256 .i32) j = G _ _ y
  have e := idx1 t
  have e0 : (y 0 : Nat) = t.val * 8 + (j 0).val := by
    refine (((cfgM m hO).win 1).rect_emb_val t j (0 : Fin 3)).trans ?_
    show cc0_transform_1 (grid0.coords t) 0 * 8 + _ = _
    rw [e]; rfl
  have e1 : y 1 = j 1 := by
    refine Fin.ext ((((cfgM m hO).win 1).rect_emb_val t j (1 : Fin 3)).trans ?_)
    show cc0_transform_1 (grid0.coords t) 1 * 2 + _ = _
    rw [e]; exact Nat.zero_add _
  have e2 : y 2 = j 2 := by
    refine Fin.ext ((((cfgM m hO).win 1).rect_emb_val t j (2 : Fin 3)).trans ?_)
    show cc0_transform_1 (grid0.coords t) 2 * 256 + _ = _
    rw [e]; exact Nat.zero_add _
  have hj : j = ix3 (j 0) (j 1) (j 2) := by
    funext a; match a with | ⟨0, _⟩ => rfl | ⟨1, _⟩ => rfl | ⟨2, _⟩ => rfl
  unfold G
  rw [e1, e2]
  exact (congrArg _ hj).trans (block m hO c hE t (j 0) (j 1) (j 2) (y 0) e0)

/-- The blocks tile the result. -/
theorem cover (i : S64x2x256.Idx) :
    ∃ t : Fin (cfgM m hO).N, ((cfgM m hO).win 1).flush t = true ∧ i ∈ (((cfgM m hO).win 1).blk t).view.set := by
  have h0 : (i 0 : Nat) < 64 := (i 0).isLt
  have h1 : (i 1 : Nat) < 2 := (i 1).isLt
  have h2 : (i 2 : Nat) < 256 := (i 2).isLt
  have hlt : (i 0 : Nat) / 8 < grid0.N := by rw [N_0]; omega
  refine ⟨⟨_, hlt⟩, flush0_1 _ _, ?_⟩
  show i ∈ ((View.whole main_v9).slice (((cfgM m hO).win 1).rect ⟨_, hlt⟩)).set
  set_option backward.isDefEq.respectTransparency false in rw [View.set_slice_whole, Rect.mem_set_unit]
  have e := idx1 ⟨_, hlt⟩
  intro a
  match a with
  | ⟨0, _⟩ =>
    show cc0_transform_1 (grid0.coords ⟨_, hlt⟩) 0 * 8 ≤ (i 0 : Nat) ∧ (i 0 : Nat) < cc0_transform_1 (grid0.coords ⟨_, hlt⟩) 0 * 8 + 8
    rw [e]
    show (i 0 : Nat) / 8 * 8 ≤ (i 0 : Nat) ∧ (i 0 : Nat) < (i 0 : Nat) / 8 * 8 + 8
    omega
  | ⟨1, _⟩ =>
    show cc0_transform_1 (grid0.coords ⟨_, hlt⟩) 1 * 2 ≤ (i 1 : Nat) ∧ (i 1 : Nat) < cc0_transform_1 (grid0.coords ⟨_, hlt⟩) 1 * 2 + 2
    rw [e]
    show 0 * 2 ≤ (i 1 : Nat) ∧ (i 1 : Nat) < 0 * 2 + 2
    omega
  | ⟨2, _⟩ =>
    show cc0_transform_1 (grid0.coords ⟨_, hlt⟩) 2 * 256 ≤ (i 2 : Nat) ∧ (i 2 : Nat) < cc0_transform_1 (grid0.coords ⟨_, hlt⟩) 2 * 256 + 256
    rw [e]
    show 0 * 256 ≤ (i 2 : Nat) ∧ (i 2 : Nat) < 0 * 256 + 256
    omega

/-- So the result array ends at `G` of the arguments, -/
theorem final (hE : Exist (m ((c : Thread nD τ).loc main_arg1))) : (dats m hO 0 c).arrAt 1 (cfgM m hO).N
    = G (m ((c : Thread nD τ).loc main_arg0)) (m ((c : Thread nD τ).loc main_arg1)) :=
  (dats m hO 0 c).arrAt_eq_of_cover 1 _ (fun t _ => flushed_eq m hO c hE t) (cover m hO)

/-- Every index map is in range: none reads the table. -/
theorem ok : Ok m := trivial

/-- and the run, read: the result at `G` of the arguments, the arguments unchanged. -/
theorem run (hE : ∀ c : Dev nD, Exist (m ((c : Thread nD τ).loc main_arg1))) :
    θ_run defs (onTc (τ := τ) (main (F := Ideal))) ⟨m, fun _ => 0, ρ⟩ fun r => ∀ c : Dev nD,
      r.2.mem ((c : Thread nD τ).loc main_v9)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 1).trans (final m (ok m) c (hE c)),
      ((h c).2 main_arg0 (by decide : main_arg0 ∈ Pipeline.restRefs sig spec0)).trans (V_main_arg0 m c),
      ((h c).1 0).trans (((dats m (ok m) 0 c).arrAt_in 0 rfl _).trans (V_main_arg1 m c))⟩)
    (run_main m ρ (ok m))

end Cert.Kernel3Ideal.Dest

end
-- ==== Proof.DestClaim.lean ====
/-
  The expert-sorted positions' reference: it reads the first rows by index, the kernel by comparison.
  Where every route names one of the thirty-two experts, the two agree.
-/
module

public import proofs.«01_k».proof.Proof.Dest
public import proofs.«01_k».proof.Proof.Gen.Reference3Ideal.Run
public import proofs.«01_k».proof.Defs

@[expose] public section

set_option maxRecDepth 16384

noncomputable section

namespace Cert.Pre_experts_exist

theorem facts : Facts where
  slices_S64x8x256_S64x2x256_0_0_0 := by decide
  bcast_S_S64x2x256 := by decide

end Cert.Pre_experts_exist

namespace Cert.Reference3Ideal.Dest

open Idealize.ShloMosaic Idealize.ShloMosaic.TcCoe Idealize.SL.Sem
open Cert.Reference3Ideal Cert.Reference3Ideal.Gen
open Cert.Kernel3Ideal.Dest (starts row expert expert_eq Exist G)

/-- The plan's experts, the negative ones counted from the end. -/
def wrapped (p : IVec S64x8x256 32) : IVec S64x2x256 32 :=
  select (cmpi .slt (extractStridedSlice S64x2x256 ![0, 0, 0] p slices_S64x8x256_S64x2x256_0_0_0) (broadcastInDim S64x2x256 ![] bcast_S_S64x2x256 (constantI S_ 32 0#32)))
    (addi (extractStridedSlice S64x2x256 ![0, 0, 0] p slices_S64x8x256_S64x2x256_0_0_0) (broadcastInDim S64x2x256 ![] bcast_S_S64x2x256 (constantI S_ 32 32#32)))
    (extractStridedSlice S64x2x256 ![0, 0, 0] p slices_S64x8x256_S64x2x256_0_0_0)

/-- The first rows read at them, plus the ranks. -/
def read (s : IVec S32 32) (p : IVec S64x8x256 32) : IVec S64x2x256 32 :=
  addi (Host.gather gather_S32_S64x2x256x1_S64x2x256_n_0_n_n_0_3_1 s (broadcastInDim S64x2x256x1 ![0, 1, 2] bcast_S64x2x256_S64x2x256x1_0_1_2 (wrapped p)))
    (extractStridedSlice S64x2x256 ![0, 4, 0] p slices_S64x8x256_S64x2x256_0_4_0)

theorem wrapped_apply (p : IVec S64x8x256 32) (a : Fin 64) (k : Fin 2) (r : Fin 256) (e : Fin 32)
    (he : p (ix3 a ⟨k.val, by omega⟩ r) = BitVec.ofNat 32 e.val) : wrapped p (ix3 a k r) = BitVec.ofNat 32 e.val := by
  pointwise [wrapped]
  rw [he]
  fin_cases e <;> rfl

/-- One gathered element: the table's word at an index already in range. -/
theorem gather_apply (s : IVec S32 32) (i : IVec S64x2x256x1 32) (a : Fin 64) (k : Fin 2) (r : Fin 256) (e : Fin 32)
    (he : i (ix4 a k r 0) = BitVec.ofNat 32 e.val) :
    Host.gather gather_S32_S64x2x256x1_S64x2x256_n_0_n_n_0_3_1 s i (ix3 a k r) = s (ix1 e) := by
  unfold Host.gather
  refine congrArg s (funext fun d => Fin.ext ?_)
  obtain rfl : d = 0 := Subsingleton.elim _ _
  let D := gather_S32_S64x2x256x1_S64x2x256_n_0_n_n_0_3_1
  have hm : (0 : Fin 1) ∈ D.startIndexMap := List.mem_singleton.mpr rfl
  show D.start (ix3 a k r) i 0 + D.batchCoord (ix3 a k r) 0 + D.offCoord (ix3 a k r) 0 = e.val
  have hb : D.batchCoord (ix3 a k r) 0 = 0 := D.batchCoord_eq_zero _ _ List.not_mem_nil
  have ho : D.offCoord (ix3 a k r) 0 = 0 :=
    D.offCoord_eq_zero _ _ fun h => ((GatherDims.mem_sKept _ _).mp h).1 (List.mem_singleton.mpr rfl)
  have hi : D.siIdx (ix3 a k r) ⟨List.idxOf (0 : Fin 1) D.startIndexMap, List.idxOf_lt_length_iff.2 hm⟩ = ix4 a k r 0 := by
    funext b
    match b with
    | ⟨0, _⟩ => exact Fin.ext rfl
    | ⟨1, _⟩ => exact Fin.ext rfl
    | ⟨2, _⟩ => exact Fin.ext rfl
    | ⟨3, _⟩ => exact Fin.ext rfl
  rw [hb, ho]
  unfold GatherDims.start
  rw [dif_pos hm, hi, he]
  show min (BitVec.ofNat 32 e.val).toInt.toNat 31 + 0 + 0 = e.val
  fin_cases e <;> rfl

theorem read_apply (s : IVec S32 32) (p : IVec S64x8x256 32) (h : Exist p) (a : Fin 64) (k : Fin 2) (r : Fin 256) :
    read s p (ix3 a k r) = s (ix1 (expert p a k r)) + p (ix3 a ⟨4 + k.val, by omega⟩ r) := by
  have hg := gather_apply s (broadcastInDim S64x2x256x1 ![0, 1, 2] bcast_S64x2x256_S64x2x256x1_0_1_2 (wrapped p)) a k r
    (expert p a k r) ((by pointwise [] : _ = wrapped p (ix3 a k r)).trans (wrapped_apply p a k r _ (expert_eq p h a k r)))
  pointwise [read]
  rw [hg]
  rfl

theorem result (n : IVec S32 32) (p : IVec S64x8x256 32) (h : Exist p) : read (starts n) p = G n p := by
  refine funext fun (j : S64x2x256.Idx) => ?_
  have hj : j = ix3 (j 0) (j 1) (j 2) := by
    funext a; match a with | ⟨0, _⟩ => rfl | ⟨1, _⟩ => rfl | ⟨2, _⟩ => rfl
  exact (congrArg _ hj).trans (read_apply (starts n) p h (j 0) (j 1) (j 2))

end Cert.Reference3Ideal.Dest

namespace Cert.Proof

open Idealize.ShloMosaic Idealize.SL.Sem

theorem exist_of_pre (n : IVec Cert.Pre_experts_exist.S32 32) (p : IVec Cert.Pre_experts_exist.S64x8x256 32)
    (h : (@Cert.Pre_experts_exist.fn Cert.Pre_experts_exist.facts Ideal _ n p) = fun _ => 1#1) : Cert.Kernel3Ideal.Dest.Exist p := by
  intro a k r
  have h := congrFun h (ix3 a k r)
  unfold Cert.Pre_experts_exist.fn at h
  pointwise [] at h
  generalize p (ix3 a ⟨k.val, _⟩ r) = x at h ⊢
  have h0 : (0#32).sle x = true ∧ x.slt 32#32 = true := by
    revert h
    show BitVec.ofBool ((0#32).sle x) &&& BitVec.ofBool (x.slt 32#32) = 1#1 → _
    cases (0#32).sle x <;> cases x.slt 32#32 <;> decide
  have h1 : (0 : ℤ) ≤ x.toInt := BitVec.sle_iff_toInt_le.mp h0.1
  have h2 : x.toInt < 32 := BitVec.slt_iff_toInt_lt.mp h0.2
  have h3 := BitVec.toInt_eq_toNat_cond x
  have hx : x.toNat < 32 := by
    have := x.isLt
    split_ifs at h3 <;> omega
  refine ⟨⟨x.toNat, hx⟩, BitVec.eq_of_toNat_eq ?_⟩
  rw [BitVec.toNat_ofNat]
  show x.toNat = x.toNat % 2 ^ 32
  omega

/-- The two programs of the sorted positions end with the same result from the same arguments. -/
theorem algebraic3 :
    algebraic_Kernel3Ideal_Reference3Ideal_pre_experts_exist (hKernel3Ideal := Cert.Kernel3Ideal.Gen.facts)
      (hReference3Ideal := Cert.Reference3Ideal.Gen.facts) (hPre_experts_exist := Cert.Pre_experts_exist.facts) := by
  intro m g m' g' pre agree
  have hE : ∀ c : Dev Cert.Kernel3Ideal.nD, Cert.Kernel3Ideal.Dest.Exist
      (m ((c.tc : Thread Cert.Kernel3Ideal.nD Cert.Kernel3Ideal.τ).loc Cert.Kernel3Ideal.main_arg1)) :=
    fun c => exist_of_pre _ _ (pre c)
  refine ⟨_, Cert.Kernel3Ideal.Dest.run m g hE, (θ_run _ _ _).mono (fun _ h c => ⟨?_, (h c).2⟩) (Cert.Reference3Ideal.Value.run m' g')⟩
  obtain ⟨e0, e1⟩ := agree c
  refine (h c).1.trans ((show _ = Cert.Reference3Ideal.Dest.read (Cert.Kernel3Ideal.Dest.starts
    (m' ((c.tc : Thread Cert.Reference3Ideal.nD Cert.Reference3Ideal.τ).loc Cert.Reference3Ideal.main_arg0)))
    (m' ((c.tc : Thread Cert.Reference3Ideal.nD Cert.Reference3Ideal.τ).loc Cert.Reference3Ideal.main_arg1)) from rfl).trans ?_)
  rw [e0, e1]
  exact Cert.Reference3Ideal.Dest.result _ _ (hE c)

end Cert.Proof

end
-- ==== Proof.lean ====
/-
  The certificate's claims, put together: the frames are the generated runs, the value claims those of
  the modules beside them.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.KernelIdeal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.InProjRef
public import proofs.«01_k».proof.Proof.HgrnClaim
public import proofs.«01_k».proof.Proof.DestClaim
public import Idealize.ShloMosaic.Adequacy
public import Idealize.ShloMosaic.Init

@[expose] public section

noncomputable section

namespace Cert.Proof

open Idealize.ShloMosaic Idealize.SL.Sem

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ri3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_ri_pre : Cert.quiescent_ReferenceIdeal_pre_real_gates (hReferenceIdeal := Cert.ReferenceIdeal.Gen.facts)
    (hPre_real_gates := Cert.Pre_real_gates.facts) := fun m ρ _ => frame_ri m ρ trivial

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_real_gates.facts, Cert.Pre_experts_exist.facts,
    fun m ρ _ => Cert.Kernel.Gen.frame m ρ,
    fun m ρ _ => Cert.KernelIdeal.Gen.frame m ρ,
    fun m ρ _ => Cert.KernelIdeal.Gen.frame m ρ,
    frame_ri,
    frame_ri_pre,
    fun m ρ _ => Cert.Kernel2.Gen.frame m ρ (Cert.Kernel2.InProj.ok m),
    fun m ρ _ => Cert.Kernel2Ideal.Gen.frame m ρ (Cert.Kernel2Ideal.InProj.ok m),
    frame_ri2,
    fun m ρ _ => Cert.Kernel3.Gen.frame m ρ trivial,
    fun m ρ _ => Cert.Kernel3Ideal.Gen.frame m ρ trivial,
    fun m ρ _ => Cert.Kernel3Ideal.Gen.frame m ρ trivial,
    frame_ri3,
    fun m ρ _ => frame_ri3 m ρ trivial,
    trivial, algebraic1, trivial, algebraic2, trivial, algebraic3⟩

end Cert.Proof

end
